-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S8x4096x2048 : Shape := ⟨3, ![8, 4096, 2048]⟩
abbrev S8x8x32 : Shape := ⟨3, ![8, 8, 32]⟩
abbrev S256x2048 : Shape := ⟨2, ![256, 2048]⟩
abbrev S256 : Shape := ⟨1, ![256]⟩
abbrev S256x256 : Shape := ⟨2, ![256, 256]⟩
abbrev S32x64 : Shape := ⟨2, ![32, 64]⟩
abbrev S256x512 : Shape := ⟨2, ![256, 512]⟩
abbrev S2048x256 : Shape := ⟨2, ![2048, 256]⟩
abbrev S2048 : Shape := ⟨1, ![2048]⟩
abbrev S_ : Shape := ⟨0, ![]⟩

class Facts : Prop where
  bcast_S_S8x8x32 : S_.BroadcastsInDim S8x8x32 (![] : Fin 0 → Fin S8x8x32.rank)
  bcast_S_S256 : S_.BroadcastsInDim S256 (![] : Fin 0 → Fin S256.rank)
  bcast_S_S256x256 : S_.BroadcastsInDim S256x256 (![] : Fin 0 → Fin S256x256.rank)

variable [Facts]

def fn {F : FTy → Type} [FloatOps F] (main_arg0 : FVec F S8x4096x2048 .f32) (main_arg1 : FVec F S8x8x32 .f32) (main_arg2 : FVec F S256x2048 .f32) (main_arg3 : FVec F S256 .f32) (main_arg4 : FVec F S256 .f32) (main_arg5 : FVec F S256 .f32) (main_arg6 : FVec F S256x256 .f32) (main_arg7 : FVec F S256 .f32) (main_arg8 : FVec F S32x64 .f32) (main_arg9 : FVec F S256x512 .f32) (main_arg10 : FVec F S256 .f32) (main_arg11 : FVec F S256 .f32) (main_arg12 : FVec F S256 .f32) (main_arg13 : FVec F S2048x256 .f32) (main_arg14 : FVec F S2048 .f32) : IVec S8x8x32 1 × IVec S256 1 × IVec S256 1 × IVec S256x256 1 × IVec S256 1 :=
  let main_cst : FVec F S_ .f32 := constant S_ .f32 0x00000000#32
  let main_v0 : FVec F S8x8x32 .f32 := broadcastInDim S8x8x32 ![] bcast_S_S8x8x32 main_cst
  let main_v1 : IVec S8x8x32 1 := cmpf .ogt main_arg1 main_v0
  let main_cst_0 : FVec F S_ .f32 := constant S_ .f32 0x3F800000#32
  let main_v2 : FVec F S8x8x32 .f32 := broadcastInDim S8x8x32 ![] bcast_S_S8x8x32 main_cst_0
  let main_v3 : IVec S8x8x32 1 := cmpf .olt main_arg1 main_v2
  let main_v4 : IVec S8x8x32 1 := andi main_v1 main_v3
  let main_v5 : FVec F S256 .f32 := Host.absf main_arg4
  let main_cst_1 : FVec F S_ .f32 := constant S_ .f32 0x7F800000#32
  let main_v6 : FVec F S256 .f32 := broadcastInDim S256 ![] bcast_S_S256 main_cst_1
  let main_v7 : IVec S256 1 := cmpf .olt main_v5 main_v6
  let main_v8 : FVec F S256 .f32 := Host.absf main_arg5
  let main_cst_2 : FVec F S_ .f32 := constant S_ .f32 0x7F800000#32
  let main_v9 : FVec F S256 .f32 := broadcastInDim S256 ![] bcast_S_S256 main_cst_2
  let main_v10 : IVec S256 1 := cmpf .olt main_v8 main_v9
  let main_v11 : FVec F S256x256 .f32 := Host.absf main_arg6
  let main_cst_3 : FVec F S_ .f32 := constant S_ .f32 0x7F800000#32
  let main_v12 : FVec F S256x256 .f32 := broadcastInDim S256x256 ![] bcast_S_S256x256 main_cst_3
  let main_v13 : IVec S256x256 1 := cmpf .olt main_v11 main_v12
  let main_v14 : FVec F S256 .f32 := Host.absf main_arg7
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  (main_v4, main_v7, main_v10, main_v13, main_v16)
-- ==== Kernel.lean ====
abbrev S8x4096x2048 : Shape := ⟨3, ![8, 4096, 2048]⟩
abbrev S8x8x32 : Shape := ⟨3, ![8, 8, 32]⟩
abbrev S256x2048 : Shape := ⟨2, ![256, 2048]⟩
abbrev S256 : Shape := ⟨1, ![256]⟩
abbrev S256x256 : Shape := ⟨2, ![256, 256]⟩
abbrev S32x64 : Shape := ⟨2, ![32, 64]⟩
abbrev S256x512 : Shape := ⟨2, ![256, 512]⟩
abbrev S2048x256 : Shape := ⟨2, ![2048, 256]⟩
abbrev S2048 : Shape := ⟨1, ![2048]⟩
abbrev S32768x2048 : Shape := ⟨2, ![32768, 2048]⟩
abbrev S2x8x2048 : Shape := ⟨3, ![2, 8, 2048]⟩
abbrev S8x256x2048 : Shape := ⟨3, ![8, 256, 2048]⟩
abbrev S1x8x2048 : Shape := ⟨3, ![1, 8, 2048]⟩
abbrev S8x2048 : Shape := ⟨2, ![8, 2048]⟩
abbrev S8x256 : Shape := ⟨2, ![8, 256]⟩
abbrev S1x256 : Shape := ⟨2, ![1, 256]⟩
abbrev S1x2048 : Shape := ⟨2, ![1, 2048]⟩
abbrev S8x1x2048 : Shape := ⟨3, ![8, 1, 2048]⟩
abbrev S6x512x2048 : Shape := ⟨3, ![6, 512, 2048]⟩
abbrev S6 : Shape := ⟨1, ![6]⟩
abbrev S1 : Shape := ⟨1, ![1]⟩
abbrev S_ : Shape := ⟨0, ![]⟩
abbrev S1x512x2048 : Shape := ⟨3, ![1, 512, 2048]⟩
abbrev S512x2048 : Shape := ⟨2, ![512, 2048]⟩
abbrev S8 : Shape := ⟨1, ![8]⟩
abbrev S8x1 : Shape := ⟨2, ![8, 1]⟩
abbrev S8x32 : Shape := ⟨2, ![8, 32]⟩
abbrev S8x64 : Shape := ⟨2, ![8, 64]⟩
abbrev S256x64 : Shape := ⟨2, ![256, 64]⟩
abbrev S1x1x2048 : Shape := ⟨3, ![1, 1, 2048]⟩

abbrev nBuf : Space → Nat
  | .hbm => 28
  | .vmem => 22
  | .smem => 0
  | _ => 0

abbrev bufTy : (tb : Table) → Fin (tcTables nBuf tb) → BufTy
  | .hbm, ⟨0, _⟩ => ⟨S8x4096x2048, .f32⟩
  | .hbm, ⟨1, _⟩ => ⟨S8x8x32, .f32⟩
  | .hbm, ⟨2, _⟩ => ⟨S256x2048, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S32x64, .f32⟩
  | .hbm, ⟨9, _⟩ => ⟨S256x512, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S2048x256, .f32⟩
  | .hbm, ⟨14, _⟩ => ⟨S2048, .f32⟩
  | .hbm, ⟨15, _⟩ => ⟨S32768x2048, .f32⟩
  | .hbm, ⟨16, _⟩ => ⟨S2x8x2048, .f32⟩
  | .hbm, ⟨17, _⟩ => ⟨S8x256, .f32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S1x2048, .f32⟩
  | .hbm, ⟨26, _⟩ => ⟨S32768x2048, .f32⟩
  | .hbm, ⟨27, _⟩ => ⟨S8x4096x2048, .f32⟩
  | .local _ .vmem, ⟨0, _⟩ => ⟨S8x256x2048, .f32⟩
  | .local _ .vmem, ⟨1, _⟩ => ⟨S8x256x2048, .f32⟩
  | .local _ .vmem, ⟨2, _⟩ => ⟨S1x8x2048, .f32⟩
  | .local _ .vmem, ⟨3, _⟩ => ⟨S1x8x2048, .f32⟩
  | .local _ .vmem, ⟨4, _⟩ => ⟨S2x8x2048, .f32⟩
  | .local _ .vmem, ⟨5, _⟩ => ⟨S8x256, .f32⟩
  | .local _ .vmem, ⟨6, _⟩ => ⟨S256x2048, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S32x64, .f32⟩
  | .local _ .vmem, ⟨13, _⟩ => ⟨S256x512, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S2048x256, .f32⟩
  | .local _ .vmem, ⟨18, _⟩ => ⟨S1x2048, .f32⟩
  | .local _ .vmem, ⟨19, _⟩ => ⟨S8x1x2048, .f32⟩
  | .local _ .vmem, ⟨20, _⟩ => ⟨S6x512x2048, .f32⟩
  | .local _ .vmem, ⟨21, _⟩ => ⟨S6x512x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg9_0 : Ref sig .tc := ⟨.vmem, 13, rfl⟩
abbrev cc1_stg10_0 : Ref sig .tc := ⟨.vmem, 14, rfl⟩
abbrev cc1_stg11_0 : Ref sig .tc := ⟨.vmem, 15, rfl⟩
abbrev cc1_stg12_0 : Ref sig .tc := ⟨.vmem, 16, rfl⟩
abbrev cc1_stg13_0 : Ref sig .tc := ⟨.vmem, 17, rfl⟩
abbrev cc1_stg14_0 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem9_0 : DmaSem sig := 13
abbrev cc1_sem10_0 : DmaSem sig := 14
abbrev cc1_sem11_0 : DmaSem sig := 15
abbrev cc1_sem12_0 : DmaSem sig := 16
abbrev cc1_sem13_0 : DmaSem sig := 17
abbrev cc1_sem14_0 : DmaSem sig := 18

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_2 : BitVec 32 := 0#32
  let v4 : BitVec 1 := Scalar.cmpi .ne v3 c0_i32_2
  v4

def k0_cond2 (i : grid0.Coords) : BitVec 1 :=
  let arg1 : BitVec 32 := BitVec.ofNat 32 (i 1).val
  let c0_i32_3 : BitVec 32 := 0#32
  let v5 : BitVec 1 := Scalar.cmpi .ne arg1 c0_i32_3
  let v6 : BitVec 32 := Scalar.extui v5
  let c0_i32_4 : BitVec 32 := 0#32
  let v7 : BitVec 1 := Scalar.cmpi .ne v6 c0_i32_4
  v7

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![2, 32], ![false, false]⟩

def k1_cond1 (i : grid1.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k1_off1 (i : grid1.Coords) (c0_i32_24 : BitVec 32) : Fin 2 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v55 : BitVec 32 := Scalar.addi v1 c0_i32_24
  let c512_i32_25 : BitVec 32 := 512#32
  let v56 : BitVec 32 := Scalar.muli v55 c512_i32_25
  let c0_i32_30 : BitVec 32 := 0#32
  ![v56.toNat, 0]
def k1_off2 (i : grid1.Coords) : Fin 1 → Nat :=
  let arg1 : BitVec 32 := BitVec.ofNat 32 (i 1).val
  let c6_i32 : BitVec 32 := 6#32
  let v5 : BitVec 32 := Scalar.remsi arg1 c6_i32
  ![v5.toNat]
def k1_off3 (i : grid1.Coords) : Fin 3 → Nat :=
  let arg1 : BitVec 32 := BitVec.ofNat 32 (i 1).val
  let c6_i32 : BitVec 32 := 6#32
  let v5 : BitVec 32 := Scalar.remsi arg1 c6_i32
  let c0_i32_1 : BitVec 32 := 0#32
  let c0_i32_2 : BitVec 32 := 0#32
  ![v5.toNat, 0, 0]
def k1_off4 (i : grid1.Coords) : Fin 2 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c512_i32 : BitVec 32 := 512#32
  let v6 : BitVec 32 := Scalar.muli v1 c512_i32
  let c0_i32_3 : BitVec 32 := 0#32
  ![v6.toNat, 0]
def k1_cond2 (i : grid1.Coords) : BitVec 1 :=
  let arg1 : BitVec 32 := BitVec.ofNat 32 (i 1).val
  let c6_i32_4 : BitVec 32 := 6#32
  let v12 : BitVec 1 := Scalar.cmpi .sge arg1 c6_i32_4
  let v13 : BitVec 32 := Scalar.extui v12
  let c0_i32_5 : BitVec 32 := 0#32
  let v14 : BitVec 1 := Scalar.cmpi .ne v13 c0_i32_5
  v14

def k1_off5 (i : grid1.Coords) : Fin 1 → Nat :=
  let arg1 : BitVec 32 := BitVec.ofNat 32 (i 1).val
  let c6_i32 : BitVec 32 := 6#32
  let v5 : BitVec 32 := Scalar.remsi arg1 c6_i32
  ![v5.toNat]
def k1_off6 (i : grid1.Coords) : Fin 2 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c6_i32_24 : BitVec 32 := 6#32
  let v55 : BitVec 32 := Scalar.subi v1 c6_i32_24
  let c512_i32_25 : BitVec 32 := 512#32
  let v56 : BitVec 32 := Scalar.muli v55 c512_i32_25
  let c0_i32_26 : BitVec 32 := 0#32
  ![v56.toNat, 0]
def k1_off7 (i : grid1.Coords) : Fin 3 → Nat :=
  let arg1 : BitVec 32 := BitVec.ofNat 32 (i 1).val
  let c6_i32 : BitVec 32 := 6#32
  let v5 : BitVec 32 := Scalar.remsi arg1 c6_i32
  let c0_i32_27 : BitVec 32 := 0#32
  let c0_i32_28 : BitVec 32 := 0#32
  ![v5.toNat, 0, 0]
def k1_off8 (i : grid1.Coords) : Fin 3 → Nat :=
  let arg1 : BitVec 32 := BitVec.ofNat 32 (i 1).val
  let c6_i32 : BitVec 32 := 6#32
  let v5 : BitVec 32 := Scalar.remsi arg1 c6_i32
  let v32 : Index := Scalar.indexCast v5
  let c0 : Index := 0#32
  let c0_11 : Index := 0#32
  ![v32.toNat, 0, 0]
def k1_off9 (i : grid1.Coords) : Fin 3 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c0_i32_6 : BitVec 32 := 0#32
  let v16 : BitVec 1 := Scalar.cmpi .sgt v1 c0_i32_6
  let v17 : BitVec 32 := Scalar.extui v16
  let c0_i32_7 : BitVec 32 := 0#32
  let v18 : BitVec 1 := Scalar.cmpi .slt v1 c0_i32_7
  let v19 : BitVec 32 := Scalar.extui v18
  let v20 : BitVec 32 := Scalar.subi v17 v19
  let c8_i32 : BitVec 32 := 8#32
  let c0_i32_8 : BitVec 32 := 0#32
  let v21 : BitVec 1 := Scalar.cmpi .sgt c8_i32 c0_i32_8
  let v22 : BitVec 32 := Scalar.extui v21
  let c0_i32_9 : BitVec 32 := 0#32
  let v23 : BitVec 1 := Scalar.cmpi .slt c8_i32 c0_i32_9
  let v24 : BitVec 32 := Scalar.extui v23
  let v25 : BitVec 32 := Scalar.subi v22 v24
  let v26 : BitVec 1 := Scalar.cmpi .ne v20 v25
  let v27 : BitVec 32 := Scalar.remsi v1 c8_i32
  let c0_i32_10 : BitVec 32 := 0#32
  let v28 : BitVec 1 := Scalar.cmpi .ne v27 c0_i32_10
  let v29 : BitVec 1 := Scalar.andi v26 v28
  let v15 : BitVec 32 := Scalar.divsi v1 c8_i32
  let c1_i32 : BitVec 32 := 1#32
  let v30 : BitVec 32 := Scalar.subi v15 c1_i32
  let v31 : BitVec 32 := Scalar.select v29 v30 v15
  let v34 : Index := Scalar.indexCast v31
  let c0_12 : Index := 0#32
  let c0_13 : Index := 0#32
  ![v34.toNat, 0, 0]
def k1_cond3 (i : grid1.Coords) : BitVec 1 :=
  let arg1 : BitVec 32 := BitVec.ofNat 32 (i 1).val
  let c6_i32_20 : BitVec 32 := 6#32
  let v48 : BitVec 32 := Scalar.addi arg1 c6_i32_20
  let c32_i32_21 : BitVec 32 := 32#32
  let v49 : BitVec 1 := Scalar.cmpi .slt v48 c32_i32_21
  let v50 : BitVec 32 := Scalar.extui v49
  let c0_i32_22 : BitVec 32 := 0#32
  let v51 : BitVec 1 := Scalar.cmpi .ne v50 c0_i32_22
  v51

def k1_off10 (i : grid1.Coords) : Fin 1 → Nat :=
  let arg1 : BitVec 32 := BitVec.ofNat 32 (i 1).val
  let c6_i32 : BitVec 32 := 6#32
  let v5 : BitVec 32 := Scalar.remsi arg1 c6_i32
  ![v5.toNat]
def k1_off11 (i : grid1.Coords) : Fin 3 → Nat :=
  let arg1 : BitVec 32 := BitVec.ofNat 32 (i 1).val
  let c6_i32 : BitVec 32 := 6#32
  let v5 : BitVec 32 := Scalar.remsi arg1 c6_i32
  let c0_i32_26 : BitVec 32 := 0#32
  let c0_i32_27 : BitVec 32 := 0#32
  ![v5.toNat, 0, 0]
def k1_off12 (i : grid1.Coords) : Fin 2 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let c6_i32_24 : BitVec 32 := 6#32
  let v55 : BitVec 32 := Scalar.addi v1 c6_i32_24
  let c512_i32_25 : BitVec 32 := 512#32
  let v56 : BitVec 32 := Scalar.muli v55 c512_i32_25
  let c0_i32_28 : BitVec 32 := 0#32
  ![v56.toNat, 0]
def k1_cond4 (i : grid1.Coords) : BitVec 1 :=
  let arg1 : BitVec 32 := BitVec.ofNat 32 (i 1).val
  let c31_i32 : BitVec 32 := 31#32
  let v52 : BitVec 1 := Scalar.cmpi .eq arg1 c31_i32
  let v53 : BitVec 32 := Scalar.extui v52
  let c0_i32_23 : BitVec 32 := 0#32
  let v54 : BitVec 1 := Scalar.cmpi .ne v53 c0_i32_23
  v54

def k1_off13 (i : grid1.Coords) (c26_i32 : BitVec 32) : Fin 2 → Nat :=
  let arg0 : BitVec 32 := BitVec.ofNat 32 (i 0).val
  let c32_i32_24 : BitVec 32 := 32#32
  let v55 : BitVec 32 := Scalar.muli arg0 c32_i32_24
  let v56 : BitVec 32 := Scalar.addi v55 c26_i32
  let c512_i32_25 : BitVec 32 := 512#32
  let v57 : BitVec 32 := Scalar.muli v56 c512_i32_25
  let c0_i32_27 : BitVec 32 := 0#32
  ![v57.toNat, 0]
def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2x8x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S8x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S32x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S256x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S1x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S2048x256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 1 → Memref sig .tc .vmem S1x2048 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]
-- ==== ReferenceIdeal.lean ====
abbrev S8x4096x2048 : Shape := ⟨3, ![8, 4096, 2048]⟩
abbrev S8x8x32 : Shape := ⟨3, ![8, 8, 32]⟩
abbrev S256x2048 : Shape := ⟨2, ![256, 2048]⟩
abbrev S256 : Shape := ⟨1, ![256]⟩
abbrev S256x256 : Shape := ⟨2, ![256, 256]⟩
abbrev S32x64 : Shape := ⟨2, ![32, 64]⟩
abbrev S256x512 : Shape := ⟨2, ![256, 512]⟩
abbrev S2048x256 : Shape := ⟨2, ![2048, 256]⟩
abbrev S2048 : Shape := ⟨1, ![2048]⟩
abbrev S_ : Shape := ⟨0, ![]⟩
abbrev S8x2048 : Shape := ⟨2, ![8, 2048]⟩
abbrev S8x256 : Shape := ⟨2, ![8, 256]⟩
abbrev S1x256 : Shape := ⟨2, ![1, 256]⟩
abbrev S8 : Shape := ⟨1, ![8]⟩
abbrev S8x1 : Shape := ⟨2, ![8, 1]⟩
abbrev S8x8 : Shape := ⟨2, ![8, 8]⟩
abbrev S8x8x1 : Shape := ⟨3, ![8, 8, 1]⟩
abbrev S1x1x32 : Shape := ⟨3, ![1, 1, 32]⟩
abbrev S8x8x64 : Shape := ⟨3, ![8, 8, 64]⟩
abbrev S8x512 : Shape := ⟨2, ![8, 512]⟩
abbrev S512x256 : Shape := ⟨2, ![512, 256]⟩
abbrev S1x2048 : Shape := ⟨2, ![1, 2048]⟩
abbrev S8x1x2048 : Shape := ⟨3, ![8, 1, 2048]⟩

abbrev nBuf : Space → Nat
  | .hbm => 160
  | .vmem => 0
  | .smem => 0
  | _ => 0

abbrev hbmTy0_0 (i : Nat) : BufTy := match i % 128 with
  | 0 => ⟨S8x4096x2048, .f32⟩
  | 1 => ⟨S8x8x32, .f32⟩
  | 2 => ⟨S256x2048, .f32⟩
  | 3 => ⟨S256, .f32⟩
  | 4 => ⟨S256, .f32⟩
  | 5 => ⟨S256, .f32⟩
  | 6 => ⟨S256x256, .f32⟩
  | 7 => ⟨S256, .f32⟩
  | 8 => ⟨S32x64, .f32⟩
  | 9 => ⟨S256x512, .f32⟩
  | 10 => ⟨S256, .f32⟩
  | 11 => ⟨S256, .f32⟩
  | 12 => ⟨S256, .f32⟩
  | 13 => ⟨S2048x256, .f32⟩
  | 14 => ⟨S2048, .f32⟩
  | 15 => ⟨S_, .f32⟩
  | 16 => ⟨S8x2048, .f32⟩
  | 17 => ⟨S_, .f32⟩
  | 18 => ⟨S8x2048, .f32⟩
  | 19 => ⟨S8x2048, .f32⟩
  | 20 => ⟨S2048x256, .f32⟩
  | 21 => ⟨S8x256, .f32⟩
  | 22 => ⟨S1x256, .f32⟩
  | 23 => ⟨S8x256, .f32⟩
  | 24 => ⟨S8x256, .f32⟩
  | 25 => ⟨S_, .f32⟩
  | 26 => ⟨S8, .f32⟩
  | 27 => ⟨S8x1, .f32⟩
  | 28 => ⟨S_, .f32⟩
  | 29 => ⟨S8x1, .f32⟩
  | 30 => ⟨S8x1, .f32⟩
  | 31 => ⟨S8x256, .f32⟩
  | 32 => ⟨S8x256, .f32⟩
  | 33 => ⟨S8x256, .f32⟩
  | 34 => ⟨S_, .f32⟩
  | 35 => ⟨S8, .f32⟩
  | 36 => ⟨S8x1, .f32⟩
  | 37 => ⟨S_, .f32⟩
  | 38 => ⟨S8x1, .f32⟩
  | 39 => ⟨S8x1, .f32⟩
  | 40 => ⟨S8x256, .f32⟩
  | 41 => ⟨S8x256, .f32⟩
  | 42 => ⟨S_, .f32⟩
  | 43 => ⟨S8x1, .f32⟩
  | 44 => ⟨S8x1, .f32⟩
  | 45 => ⟨S8x1, .f32⟩
  | 46 => ⟨S8x256, .f32⟩
  | 47 => ⟨S8x256, .f32⟩
  | 48 => ⟨S1x256, .f32⟩
  | 49 => ⟨S8x256, .f32⟩
  | 50 => ⟨S8x256, .f32⟩
  | 51 => ⟨S1x256, .f32⟩
  | 52 => ⟨S8x256, .f32⟩
  | 53 => ⟨S8x256, .f32⟩
  | 54 => ⟨S_, .f32⟩
  | 55 => ⟨S8x256, .f32⟩
  | 56 => ⟨S8x256, .f32⟩
  | 57 => ⟨S8x256, .f32⟩
  | 58 => ⟨S_, .f32⟩
  | 59 => ⟨S8x256, .f32⟩
  | 60 => ⟨S8x256, .f32⟩
  | 61 => ⟨S8x256, .f32⟩
  | 62 => ⟨S8x256, .f32⟩
  | 63 => ⟨S256x256, .f32⟩
  | 64 => ⟨S8x256, .f32⟩
  | 65 => ⟨S1x256, .f32⟩
  | 66 => ⟨S8x256, .f32⟩
  | 67 => ⟨S8x256, .f32⟩
  | 68 => ⟨S8x8x32, .f32⟩
  | 69 => ⟨S8x8x32, .f32⟩
  | 70 => ⟨S8x8x32, .f32⟩
  | 71 => ⟨S8x8x32, .f32⟩
  | 72 => ⟨S8x8x32, .f32⟩
  | 73 => ⟨S8x8x32, .f32⟩
  | 74 => ⟨S_, .f32⟩
  | 75 => ⟨S8x8x32, .f32⟩
  | 76 => ⟨S8x8x32, .f32⟩
  | 77 => ⟨S_, .f32⟩
  | 78 => ⟨S8x8, .f32⟩
  | 79 => ⟨S_, .f32⟩
  | 80 => ⟨S8x8, .f32⟩
  | 81 => ⟨S8x8, .f32⟩
  | 82 => ⟨S8x8x1, .f32⟩
  | 83 => ⟨S8x8x32, .f32⟩
  | 84 => ⟨S8x8x32, .f32⟩
  | 85 => ⟨S8x8x32, .f32⟩
  | 86 => ⟨S_, .f32⟩
  | 87 => ⟨S8x8, .f32⟩
  | 88 => ⟨S8x8x1, .f32⟩
  | 89 => ⟨S8x8x32, .f32⟩
  | 90 => ⟨S8x8x32, .f32⟩
  | 91 => ⟨S8x8x32, .i32⟩
  | 92 => ⟨S_, .f32⟩
  | 93 => ⟨S_, .i32⟩
  | 94 => ⟨S8x8, .f32⟩
  | 95 => ⟨S8x8, .i32⟩
  | 96 => ⟨S8x8x1, .i32⟩
  | 97 => ⟨S1x1x32, .i32⟩
  | 98 => ⟨S8x8x32, .i32⟩
  | 99 => ⟨S8x8x32, .i32⟩
  | 100 => ⟨S8x8x32, .i1⟩
  | 101 => ⟨S8x8x32, .f32⟩
  | 102 => ⟨S8x8x32, .f32⟩
  | 103 => ⟨S8x8x32, .f32⟩
  | 104 => ⟨S8x8x64, .f32⟩
  | 105 => ⟨S8x512, .f32⟩
  | 106 => ⟨S512x256, .f32⟩
  | 107 => ⟨S8x256, .f32⟩
  | 108 => ⟨S1x256, .f32⟩
  | 109 => ⟨S8x256, .f32⟩
  | 110 => ⟨S8x256, .f32⟩
  | 111 => ⟨S_, .f32⟩
  | 112 => ⟨S8, .f32⟩
  | 113 => ⟨S8x1, .f32⟩
  | 114 => ⟨S_, .f32⟩
  | 115 => ⟨S8x1, .f32⟩
  | 116 => ⟨S8x1, .f32⟩
  | 117 => ⟨S8x256, .f32⟩
  | 118 => ⟨S8x256, .f32⟩
  | 119 => ⟨S8x256, .f32⟩
  | 120 => ⟨S_, .f32⟩
  | 121 => ⟨S8, .f32⟩
  | 122 => ⟨S8x1, .f32⟩
  | 123 => ⟨S_, .f32⟩
  | 124 => ⟨S8x1, .f32⟩
  | 125 => ⟨S8x1, .f32⟩
  | 126 => ⟨S8x256, .f32⟩
  | 127 => ⟨S8x256, .f32⟩
  | _ => ⟨S8x4096x2048, .f32⟩

abbrev hbmTy0_1 (i : Nat) : BufTy := match i % 128 with
  | 0 => ⟨S_, .f32⟩
  | 1 => ⟨S8x1, .f32⟩
  | 2 => ⟨S8x1, .f32⟩
  | 3 => ⟨S8x1, .f32⟩
  | 4 => ⟨S8x256, .f32⟩
  | 5 => ⟨S8x256, .f32⟩
  | 6 => ⟨S1x256, .f32⟩
  | 7 => ⟨S8x256, .f32⟩
  | 8 => ⟨S8x256, .f32⟩
  | 9 => ⟨S1x256, .f32⟩
  | 10 => ⟨S8x256, .f32⟩
  | 11 => ⟨S8x256, .f32⟩
  | 12 => ⟨S_, .f32⟩
  | 13 => ⟨S8x256, .f32⟩
  | 14 => ⟨S8x256, .f32⟩
  | 15 => ⟨S8x256, .f32⟩
  | 16 => ⟨S_, .f32⟩
  | 17 => ⟨S8x256, .f32⟩
  | 18 => ⟨S8x256, .f32⟩
  | 19 => ⟨S8x256, .f32⟩
  | 20 => ⟨S8x256, .f32⟩
  | 21 => ⟨S256x2048, .f32⟩
  | 22 => ⟨S8x2048, .f32⟩
  | 23 => ⟨S1x2048, .f32⟩
  | 24 => ⟨S8x2048, .f32⟩
  | 25 => ⟨S8x2048, .f32⟩
  | 26 => ⟨S8x1x2048, .f32⟩
  | 27 => ⟨S_, .f32⟩
  | 28 => ⟨S8x1x2048, .f32⟩
  | 29 => ⟨S8x1x2048, .f32⟩
  | 30 => ⟨S8x4096x2048, .f32⟩
  | 31 => ⟨S8x4096x2048, .f32⟩
  | _ => ⟨S8x4096x2048, .f32⟩

abbrev hbmTy (i : Nat) : BufTy := match i / 128 with
  | 0 => hbmTy0_0 i
  | 1 => hbmTy0_1 i
  | _ => ⟨S8x4096x2048, .f32⟩

abbrev bufTy : (tb : Table) → Fin (tcTables nBuf tb) → BufTy
  | .hbm, ⟨i, _⟩ => hbmTy i
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_v16 : Ref sig .tc := ⟨.hbm, 36, rfl⟩
abbrev main_cst_4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_cst_10 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_call0_v0 : Ref sig .tc := ⟨.hbm, 91, rfl⟩
abbrev main_call0_cst : Ref sig .tc := ⟨.hbm, 92, rfl⟩
abbrev main_call0_c : Ref sig .tc := ⟨.hbm, 93, rfl⟩
abbrev main_call0_v1_0 : Ref sig .tc := ⟨.hbm, 94, rfl⟩
abbrev main_v63 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_12 : Ref sig .tc := ⟨.hbm, 111, rfl⟩
abbrev main_v74 : Ref sig .tc := ⟨.hbm, 112, rfl⟩
abbrev main_v75 : Ref sig .tc := ⟨.hbm, 113, rfl⟩
abbrev main_cst_13 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_14 : Ref sig .tc := ⟨.hbm, 120, rfl⟩
abbrev main_v81 : Ref sig .tc := ⟨.hbm, 121, rfl⟩
abbrev main_v82 : Ref sig .tc := ⟨.hbm, 122, rfl⟩
abbrev main_cst_15 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_16 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_17 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_18 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_19 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩

abbrev nD : Nat := 1
abbrev τ : Topo := Topo.v7x

variable {F : FTy → Type} [FloatOps F]
-- ==== Proof.KI.Ring.lean ====
/-
  The second kernel's two rings of copies, named: its in-ring (blocks of the hidden states on their way in), its
  out-ring (blocks of the result on their way out), the blocks of the two HBM arrays, and what one slot of either
  ring holds while it is free and while a copy is in flight.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Pipeline.Value
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The buffers -/

/-- The in-ring, the out-ring and the decoded rows' scratch; the hidden states and the result in HBM. -/
abbrev inM : Memref sig .tc .vmem S6x512x2048 .f32 := Memref.whole cc1_scratch1
abbrev outM : Memref sig .tc .vmem S6x512x2048 .f32 := Memref.whole cc1_scratch2
abbrev decM : Memref sig .tc .vmem S8x1x2048 .f32 := Memref.whole cc1_scratch0
abbrev hM : Memref sig .tc .hbm S32768x2048 .f32 := Memref.whole main_v0
abbrev yM : Memref sig .tc .hbm S32768x2048 .f32 := Memref.whole main_v11

/-- A memref's buffer on core `c`: its contents, and it held on a set of elements at a share. -/
abbrev Bf (c : Dev nD) {sp : Space} {S : Shape} {e : EltTy} (M : Memref sig .tc sp S e) : Type := Buf (Elt F) (M.view.loc (c : Thread nD τ))

theorem inb_slot (s : Fin 6) : ∀ a, (![s.val, 0, 0] : Fin 3 → Nat) a + S1x512x2048.size a ≤ S6x512x2048.size a := by
  revert s; decide
theorem inb_blk (b : Fin 64) : ∀ a, (![512 * b.val, 0] : Fin 2 → Nat) a + S512x2048.size a ≤ S32768x2048.size a := by
  revert b; decide

theorem inb_sem (s : Fin 6) : ∀ a, (![s.val] : Fin 1 → Nat) a + S1.size a ≤ S6.size a := by
  revert s; decide

/-- Slot `s` of the in-ring and of the out-ring; -/
abbrev inSlot (s : Fin 6) : Memref sig .tc .vmem S512x2048 .f32 :=
  (inM.slice (Rect.unit (s := S6x512x2048) ![s.val, 0, 0] S1x512x2048.size (inb_slot s)) (fun _ => rfl)).squeeze S512x2048 squeezes_S1x512x2048_S512x2048
abbrev outSlot (s : Fin 6) : Memref sig .tc .vmem S512x2048 .f32 :=
  (outM.slice (Rect.unit (s := S6x512x2048) ![s.val, 0, 0] S1x512x2048.size (inb_slot s)) (fun _ => rfl)).squeeze S512x2048 squeezes_S1x512x2048_S512x2048
/-- block `b` (512 rows) of the hidden states and of the result. -/
abbrev hBlk (b : Fin 64) : Memref sig .tc .hbm S512x2048 .f32 :=
  hM.slice (Rect.unit (s := S32768x2048) ![512 * b.val, 0] S512x2048.size (inb_blk b)) (fun _ => rfl)
abbrev yBlk (b : Fin 64) : Memref sig .tc .hbm S512x2048 .f32 :=
  yM.slice (Rect.unit (s := S32768x2048) ![512 * b.val, 0] S512x2048.size (inb_blk b)) (fun _ => rfl)

/-- The semaphore a slot's copies complete on, and its cell. -/
abbrev inSem (s : Fin 6) : DmaSems sig S_ :=
  (cc1_scratch3.slice (Rect.unit (s := S6) ![s.val] S1.size (inb_sem s))).squeeze S_ squeezes_S1_S_
abbrev outSem (s : Fin 6) : DmaSems sig S_ :=
  (cc1_scratch4.slice (Rect.unit (s := S6) ![s.val] S1.size (inb_sem s))).squeeze S_ squeezes_S1_S_
abbrev inCell (s : Fin 6) : SemLoc sig := .dma (inSem s).sem
abbrev outCell (s : Fin 6) : SemLoc sig := .dma (outSem s).sem

/-- The grid point's half and step as one block number. -/
abbrev blkOf (n : ℕ) : Fin 64 := Fin.ofNat 64 n
abbrev slotOf (n : ℕ) : Fin 6 := Fin.ofNat 6 n

/-! ## The offsets the body computes, in these terms -/

theorem off1_eq : ∀ i : grid1.Coords, (i 1).val = 0 → ∀ r : Fin 6, k1_off1 i (BitVec.ofNat 32 r.val) = ![512 * (blkOf (32 * (i 0).val + r.val)).val, 0] := by decide +kernel
theorem off4_eq : ∀ i : grid1.Coords, k1_off4 i = ![512 * (blkOf (32 * (i 0).val + (i 1).val)).val, 0] := by decide +kernel
theorem off6_eq : ∀ i : grid1.Coords, k1_cond2 i = 1#1 → k1_off6 i = ![512 * (blkOf (32 * (i 0).val + (i 1).val - 6)).val, 0] := by decide +kernel
theorem off12_eq : ∀ i : grid1.Coords, k1_cond3 i = 1#1 → k1_off12 i = ![512 * (blkOf (32 * (i 0).val + (i 1).val + 6)).val, 0] := by decide +kernel
theorem off13_eq : ∀ i : grid1.Coords, ∀ r : Fin 6, k1_off13 i (BitVec.ofNat 32 (26 + r.val)) = ![512 * (blkOf (32 * (i 0).val + 26 + r.val)).val, 0] := by decide +kernel
theorem off9_eq : ∀ i : grid1.Coords, k1_off9 i = ![(32 * (i 0).val + (i 1).val) / 8, 0, 0] := by decide +kernel
theorem cond1_iff : ∀ i : grid1.Coords, k1_cond1 i = 1#1 ↔ (i 1).val = 0 := by decide +kernel
theorem cond2_iff : ∀ i : grid1.Coords, k1_cond2 i = 1#1 ↔ 6 ≤ (i 1).val := by decide +kernel
theorem cond3_iff : ∀ i : grid1.Coords, k1_cond3 i = 1#1 ↔ (i 1).val < 26 := by decide +kernel
theorem cond4_iff : ∀ i : grid1.Coords, k1_cond4 i = 1#1 ↔ (i 1).val = 31 := by decide +kernel

/-! ## The program's own spellings of slots, blocks and semaphores, rewritten to these names -/

section Canon

theorem inSem_congr {off : Fin 1 → Nat} {s : Fin 6} (e : off = ![s.val]) (hh) :
    (cc1_scratch3.slice (Rect.unit (s := S6) off S1.size hh)).squeeze S_ squeezes_S1_S_ = inSem s :=
  congrArg (fun A : DmaSems sig S1 => A.squeeze S_ squeezes_S1_S_) (SemArray.slice_unit_congr _ e _ _)
theorem outSem_congr {off : Fin 1 → Nat} {s : Fin 6} (e : off = ![s.val]) (hh) :
    (cc1_scratch4.slice (Rect.unit (s := S6) off S1.size hh)).squeeze S_ squeezes_S1_S_ = outSem s :=
  congrArg (fun A : DmaSems sig S1 => A.squeeze S_ squeezes_S1_S_) (SemArray.slice_unit_congr _ e _ _)
theorem inSlot_congr {off : Fin 3 → Nat} {s : Fin 6} (e : off = ![s.val, 0, 0]) (hh hs) :
    (inM.slice (Rect.unit (s := S6x512x2048) off S1x512x2048.size hh) hs).squeeze S512x2048 squeezes_S1x512x2048_S512x2048 = inSlot s :=
  congrArg (fun M : Memref sig .tc .vmem S1x512x2048 .f32 => M.squeeze S512x2048 squeezes_S1x512x2048_S512x2048) (Memref.slice_unit_congr _ e _ _ _ _)
theorem outSlot_congr {off : Fin 3 → Nat} {s : Fin 6} (e : off = ![s.val, 0, 0]) (hh hs) :
    (outM.slice (Rect.unit (s := S6x512x2048) off S1x512x2048.size hh) hs).squeeze S512x2048 squeezes_S1x512x2048_S512x2048 = outSlot s :=
  congrArg (fun M : Memref sig .tc .vmem S1x512x2048 .f32 => M.squeeze S512x2048 squeezes_S1x512x2048_S512x2048) (Memref.slice_unit_congr _ e _ _ _ _)
theorem hBlk_congr {off : Fin 2 → Nat} {b : Fin 64} (e : off = ![512 * b.val, 0]) (hh hs) :
    hM.slice (Rect.unit (s := S32768x2048) off S512x2048.size hh) hs = hBlk b := Memref.slice_unit_congr _ e _ _ _ _
theorem yBlk_congr {off : Fin 2 → Nat} {b : Fin 64} (e : off = ![512 * b.val, 0]) (hh hs) :
    yM.slice (Rect.unit (s := S32768x2048) off S512x2048.size hh) hs = yBlk b := Memref.slice_unit_congr _ e _ _ _ _

@[sl_canon] theorem off1_0_hBlk (i : grid1.Coords) (h : (i 1).val = 0) (hh hs) : hM.slice (Rect.unit (s := S32768x2048) (k1_off1 i 0#32) S512x2048.size hh) hs = hBlk (blkOf (32 * (i 0).val + 0)) := hBlk_congr (off1_eq i h 0) _ _
@[sl_canon] theorem off13_0_yBlk (i : grid1.Coords) (hh hs) : yM.slice (Rect.unit (s := S32768x2048) (k1_off13 i 26#32) S512x2048.size hh) hs = yBlk (blkOf (32 * (i 0).val + 26)) := yBlk_congr (off13_eq i 0) _ _
@[sl_canon] theorem lit0_inSem (hh) : (cc1_scratch3.slice (Rect.unit (s := S6) ![0] S1.size hh)).squeeze S_ squeezes_S1_S_ = inSem 0 := inSem_congr (by decide) _
@[sl_canon] theorem lit0_inSlot (hh hs) : (inM.slice (Rect.unit (s := S6x512x2048) ![0, 0, 0] S1x512x2048.size hh) hs).squeeze S512x2048 squeezes_S1x512x2048_S512x2048 = inSlot 0 := inSlot_congr (by decide) _ _
@[sl_canon] theorem lit0_outSem (hh) : (cc1_scratch4.slice (Rect.unit (s := S6) ![0] S1.size hh)).squeeze S_ squeezes_S1_S_ = outSem 0 := outSem_congr (by decide) _
@[sl_canon] theorem lit0_outSlot (hh hs) : (outM.slice (Rect.unit (s := S6x512x2048) ![0, 0, 0] S1x512x2048.size hh) hs).squeeze S512x2048 squeezes_S1x512x2048_S512x2048 = outSlot 0 := outSlot_congr (by decide) _ _
@[sl_canon] theorem off1_1_hBlk (i : grid1.Coords) (h : (i 1).val = 0) (hh hs) : hM.slice (Rect.unit (s := S32768x2048) (k1_off1 i 1#32) S512x2048.size hh) hs = hBlk (blkOf (32 * (i 0).val + 1)) := hBlk_congr (off1_eq i h 1) _ _
@[sl_canon] theorem off13_1_yBlk (i : grid1.Coords) (hh hs) : yM.slice (Rect.unit (s := S32768x2048) (k1_off13 i 27#32) S512x2048.size hh) hs = yBlk (blkOf (32 * (i 0).val + 27)) := yBlk_congr (off13_eq i 1) _ _
@[sl_canon] theorem lit1_inSem (hh) : (cc1_scratch3.slice (Rect.unit (s := S6) ![1] S1.size hh)).squeeze S_ squeezes_S1_S_ = inSem 1 := inSem_congr (by decide) _
@[sl_canon] theorem lit1_inSlot (hh hs) : (inM.slice (Rect.unit (s := S6x512x2048) ![1, 0, 0] S1x512x2048.size hh) hs).squeeze S512x2048 squeezes_S1x512x2048_S512x2048 = inSlot 1 := inSlot_congr (by decide) _ _
@[sl_canon] theorem lit1_outSem (hh) : (cc1_scratch4.slice (Rect.unit (s := S6) ![1] S1.size hh)).squeeze S_ squeezes_S1_S_ = outSem 1 := outSem_congr (by decide) _
@[sl_canon] theorem lit1_outSlot (hh hs) : (outM.slice (Rect.unit (s := S6x512x2048) ![1, 0, 0] S1x512x2048.size hh) hs).squeeze S512x2048 squeezes_S1x512x2048_S512x2048 = outSlot 1 := outSlot_congr (by decide) _ _
@[sl_canon] theorem off1_2_hBlk (i : grid1.Coords) (h : (i 1).val = 0) (hh hs) : hM.slice (Rect.unit (s := S32768x2048) (k1_off1 i 2#32) S512x2048.size hh) hs = hBlk (blkOf (32 * (i 0).val + 2)) := hBlk_congr (off1_eq i h 2) _ _
@[sl_canon] theorem off13_2_yBlk (i : grid1.Coords) (hh hs) : yM.slice (Rect.unit (s := S32768x2048) (k1_off13 i 28#32) S512x2048.size hh) hs = yBlk (blkOf (32 * (i 0).val + 28)) := yBlk_congr (off13_eq i 2) _ _
@[sl_canon] theorem lit2_inSem (hh) : (cc1_scratch3.slice (Rect.unit (s := S6) ![2] S1.size hh)).squeeze S_ squeezes_S1_S_ = inSem 2 := inSem_congr (by decide) _
@[sl_canon] theorem lit2_inSlot (hh hs) : (inM.slice (Rect.unit (s := S6x512x2048) ![2, 0, 0] S1x512x2048.size hh) hs).squeeze S512x2048 squeezes_S1x512x2048_S512x2048 = inSlot 2 := inSlot_congr (by decide) _ _
@[sl_canon] theorem lit2_outSem (hh) : (cc1_scratch4.slice (Rect.unit (s := S6) ![2] S1.size hh)).squeeze S_ squeezes_S1_S_ = outSem 2 := outSem_congr (by decide) _
@[sl_canon] theorem lit2_outSlot (hh hs) : (outM.slice (Rect.unit (s := S6x512x2048) ![2, 0, 0] S1x512x2048.size hh) hs).squeeze S512x2048 squeezes_S1x512x2048_S512x2048 = outSlot 2 := outSlot_congr (by decide) _ _
@[sl_canon] theorem off1_3_hBlk (i : grid1.Coords) (h : (i 1).val = 0) (hh hs) : hM.slice (Rect.unit (s := S32768x2048) (k1_off1 i 3#32) S512x2048.size hh) hs = hBlk (blkOf (32 * (i 0).val + 3)) := hBlk_congr (off1_eq i h 3) _ _
@[sl_canon] theorem off13_3_yBlk (i : grid1.Coords) (hh hs) : yM.slice (Rect.unit (s := S32768x2048) (k1_off13 i 29#32) S512x2048.size hh) hs = yBlk (blkOf (32 * (i 0).val + 29)) := yBlk_congr (off13_eq i 3) _ _
@[sl_canon] theorem lit3_inSem (hh) : (cc1_scratch3.slice (Rect.unit (s := S6) ![3] S1.size hh)).squeeze S_ squeezes_S1_S_ = inSem 3 := inSem_congr (by decide) _
@[sl_canon] theorem lit3_inSlot (hh hs) : (inM.slice (Rect.unit (s := S6x512x2048) ![3, 0, 0] S1x512x2048.size hh) hs).squeeze S512x2048 squeezes_S1x512x2048_S512x2048 = inSlot 3 := inSlot_congr (by decide) _ _
@[sl_canon] theorem lit3_outSem (hh) : (cc1_scratch4.slice (Rect.unit (s := S6) ![3] S1.size hh)).squeeze S_ squeezes_S1_S_ = outSem 3 := outSem_congr (by decide) _
@[sl_canon] theorem lit3_outSlot (hh hs) : (outM.slice (Rect.unit (s := S6x512x2048) ![3, 0, 0] S1x512x2048.size hh) hs).squeeze S512x2048 squeezes_S1x512x2048_S512x2048 = outSlot 3 := outSlot_congr (by decide) _ _
@[sl_canon] theorem off1_4_hBlk (i : grid1.Coords) (h : (i 1).val = 0) (hh hs) : hM.slice (Rect.unit (s := S32768x2048) (k1_off1 i 4#32) S512x2048.size hh) hs = hBlk (blkOf (32 * (i 0).val + 4)) := hBlk_congr (off1_eq i h 4) _ _
@[sl_canon] theorem off13_4_yBlk (i : grid1.Coords) (hh hs) : yM.slice (Rect.unit (s := S32768x2048) (k1_off13 i 30#32) S512x2048.size hh) hs = yBlk (blkOf (32 * (i 0).val + 30)) := yBlk_congr (off13_eq i 4) _ _
@[sl_canon] theorem lit4_inSem (hh) : (cc1_scratch3.slice (Rect.unit (s := S6) ![4] S1.size hh)).squeeze S_ squeezes_S1_S_ = inSem 4 := inSem_congr (by decide) _
@[sl_canon] theorem lit4_inSlot (hh hs) : (inM.slice (Rect.unit (s := S6x512x2048) ![4, 0, 0] S1x512x2048.size hh) hs).squeeze S512x2048 squeezes_S1x512x2048_S512x2048 = inSlot 4 := inSlot_congr (by decide) _ _
@[sl_canon] theorem lit4_outSem (hh) : (cc1_scratch4.slice (Rect.unit (s := S6) ![4] S1.size hh)).squeeze S_ squeezes_S1_S_ = outSem 4 := outSem_congr (by decide) _
@[sl_canon] theorem lit4_outSlot (hh hs) : (outM.slice (Rect.unit (s := S6x512x2048) ![4, 0, 0] S1x512x2048.size hh) hs).squeeze S512x2048 squeezes_S1x512x2048_S512x2048 = outSlot 4 := outSlot_congr (by decide) _ _
@[sl_canon] theorem off1_5_hBlk (i : grid1.Coords) (h : (i 1).val = 0) (hh hs) : hM.slice (Rect.unit (s := S32768x2048) (k1_off1 i 5#32) S512x2048.size hh) hs = hBlk (blkOf (32 * (i 0).val + 5)) := hBlk_congr (off1_eq i h 5) _ _
@[sl_canon] theorem off13_5_yBlk (i : grid1.Coords) (hh hs) : yM.slice (Rect.unit (s := S32768x2048) (k1_off13 i 31#32) S512x2048.size hh) hs = yBlk (blkOf (32 * (i 0).val + 31)) := yBlk_congr (off13_eq i 5) _ _
@[sl_canon] theorem lit5_inSem (hh) : (cc1_scratch3.slice (Rect.unit (s := S6) ![5] S1.size hh)).squeeze S_ squeezes_S1_S_ = inSem 5 := inSem_congr (by decide) _
@[sl_canon] theorem lit5_inSlot (hh hs) : (inM.slice (Rect.unit (s := S6x512x2048) ![5, 0, 0] S1x512x2048.size hh) hs).squeeze S512x2048 squeezes_S1x512x2048_S512x2048 = inSlot 5 := inSlot_congr (by decide) _ _
@[sl_canon] theorem lit5_outSem (hh) : (cc1_scratch4.slice (Rect.unit (s := S6) ![5] S1.size hh)).squeeze S_ squeezes_S1_S_ = outSem 5 := outSem_congr (by decide) _
@[sl_canon] theorem lit5_outSlot (hh hs) : (outM.slice (Rect.unit (s := S6x512x2048) ![5, 0, 0] S1x512x2048.size hh) hs).squeeze S512x2048 squeezes_S1x512x2048_S512x2048 = outSlot 5 := outSlot_congr (by decide) _ _

/-- The offsets the body loads and stores at, closed. -/
instance (i : grid1.Coords) : ClosedOff (k1_off8 i) := ⟨![(slotOf (i 1).val).val, 0, 0], k1_off8_eq i⟩
instance (i : grid1.Coords) : ClosedOff (k1_off9 i) := ⟨![(32 * (i 0).val + (i 1).val) / 8, 0, 0], off9_eq i⟩

end Canon

/-! ## One slot -/

/-- One copy's units on its cell. -/
abbrev copyN : ℕ := 131072

/-- Slot `s`'s read share of the hidden states. -/
abbrev hTok (s : Fin 6) : PosShare TreeShare := Transfers.shareTok fullShare 6 s

variable (c : Dev nD) (H : Bf (F := F) c hM)

/-- The in-ring's slot `s` once block `b` has landed in it: what its elements hold, over earlier contents `f`. -/
abbrev inLanded (s : Fin 6) (b : Fin 64) (f : Bf (F := F) c (inSlot s)) : Bf (F := F) c (inSlot s) :=
  (inSlot s).view.writes (Elt F) f [⟨Rect.whole S512x2048, ReadAs.same.apply ((hBlk b).view.read (Elt F) H)⟩]

/-- The in-ring's slot `s`: free (`none`), or in flight with block `b`. -/
def inΦ (s : Fin 6) : Option (Fin 64) → sProp 𝕄
  | none => iprop(semVal ((c : Thread nD τ), inCell s) 0 ∗ (∃ f, (inSlot s).view.loc (c : Thread nD τ) ↦[(inSlot s).view.set]{fullShare} f)
      ∗ (hM.view.loc (c : Thread nD τ) ↦{hTok s} H))
  | some b => iprop((∃ f, Transfers.Flight (countersEmb (U := Pipeline.UD sig nD τ)) (c : Thread nD τ) (inCell s) () copyN
        iprop(((inSlot s).view.loc (c : Thread nD τ) ↦[(inSlot s).view.set]{fullShare} inLanded c H s b f)
          ∗ (hM.view.loc (c : Thread nD τ) ↦[(hBlk b).view.set]{hTok s} H)))
      ∗ (hM.view.loc (c : Thread nD τ) ↦[Finset.univ \ (hBlk b).view.set]{hTok s} H))

/-- The result's block `b` once the words of the out-ring's slot `s` (contents `fs`) have landed, over earlier contents `f`. -/
abbrev yLanded (s : Fin 6) (b : Fin 64) (fs : Bf (F := F) c (outSlot s)) (f : Bf (F := F) c (yBlk b)) : Bf (F := F) c (yBlk b) :=
  (yBlk b).view.writes (Elt F) f [⟨Rect.whole S512x2048, ReadAs.same.apply ((outSlot s).view.read (Elt F) fs)⟩]

variable (R : Fin 64 → S512x2048.Idx → Elt F .f32)

/-- The out-ring's slot `s`: free, or in flight to block `b`, its words the block's rows `R b`. -/
def outΦ (s : Fin 6) : Option (Fin 64) → sProp 𝕄
  | none => iprop(semVal ((c : Thread nD τ), outCell s) 0 ∗ (∃ f, (outSlot s).view.loc (c : Thread nD τ) ↦[(outSlot s).view.set]{fullShare} f))
  | some b => iprop(∃ f fs, ⌜(outSlot s).view.read (Elt F) fs = R b⌝
      ∗ Transfers.Flight (countersEmb (U := Pipeline.UD sig nD τ)) (c : Thread nD τ) (outCell s) () copyN
        iprop(((yBlk b).view.loc (c : Thread nD τ) ↦[(yBlk b).view.set]{fullShare} yLanded c s b fs f)
          ∗ ((outSlot s).view.loc (c : Thread nD τ) ↦[(outSlot s).view.set]{fullShare} fs)))

/-- Block `b` of the result at home: with whatever it holds, or with its rows `R b` written. -/
def yOld (b : Fin 64) : sProp 𝕄 := iprop(∃ f, (yBlk b).view.loc (c : Thread nD τ) ↦[(yBlk b).view.set]{fullShare} f)
def yNew (b : Fin 64) : sProp 𝕄 :=
  iprop(∃ f, ⌜(yBlk b).view.read (Elt F) f = R b⌝ ∗ ((yBlk b).view.loc (c : Thread nD τ) ↦[(yBlk b).view.set]{fullShare} f))

/-! ## What one block's rows are, and what a slot holds, read -/

theorem inb_row (b : Fin 64) : ∀ a, (![b.val / 8, 0, 0] : Fin 3 → Nat) a + S1x1x2048.size a ≤ S8x1x2048.size a := by
  revert b; decide

theorem casts_add : S512x2048.ShapeCasts S1x512x2048 := by decide +kernel
theorem casts_drop : S1x512x2048.ShapeCasts S512x2048 := by decide +kernel

/-- Row `b / 8` of the decoded rows, as the body loads it for block `b`. -/
def decRow (D : S8x1x2048.Idx → Elt F .f32) (b : Fin 64) : S1x1x2048.Idx → Elt F .f32 :=
  View.ld D (Rect.unit (s := S8x1x2048) ![b.val / 8, 0, 0] S1x1x2048.size (inb_row b))

/-- Block `b`'s rows of the result: the hidden states' block with the decoded row added to each of its rows. -/
def rowOf (D : S8x1x2048.Idx → Elt F .f32) (b : Fin 64) : S512x2048.Idx → Elt F .f32 :=
  shapeCast S512x2048 (k1_pay1 (shapeCast S1x512x2048 ((hBlk b).view.read (Elt F) H) casts_add) (decRow D b)) casts_drop

/-- What the body loads through the ring at slot `s`'s rectangle is that slot's words with a leading unit axis. -/
theorem inM_readAt {off : Fin 3 → Nat} (s : Fin 6) (e : off = ![s.val, 0, 0]) (hb) (f : Bf (F := F) c inM) :
    inM.view.readAt (Elt F) (Rect.unit (s := S6x512x2048) off S1x512x2048.size hb).toLoadRect f
      = shapeCast S1x512x2048 ((inSlot s).view.read (Elt F) f) casts_add := by
  subst e
  rw [Memref.read_squeeze_slice (hc := casts_drop)]
  exact (shapeCast_shapeCast (s := S1x512x2048) _ casts_drop casts_add).symm

/-- A slot the body has just stored through the ring reads what was stored, its leading unit axis dropped. -/
theorem outSlot_read {off : Fin 3 → Nat} (s : Fin 6) (e : off = ![s.val, 0, 0]) (hb) (f : Bf (F := F) c outM) (w : S1x512x2048.Idx → Elt F .f32) :
    (outSlot s).view.read (Elt F) (outM.view.writes (Elt F) f [⟨Rect.unit (s := S6x512x2048) off S1x512x2048.size hb, w⟩])
      = shapeCast S512x2048 w casts_drop := by
  subst e
  rw [Memref.read_squeeze_slice (hc := casts_drop)]
  refine congrArg (fun v : S1x512x2048.Idx → Elt F .f32 => shapeCast S512x2048 v casts_drop) (funext fun x => ?_)
  rw [View.readAt_eq_ld]
  exact View.read_writes_cons_emb _ _ (Rect.unit (s := S6x512x2048) ![s.val, 0, 0] S1x512x2048.size hb) w [] x

theorem inΦ_some (s : Fin 6) (b : Fin 64) : inΦ c H s (some b) = iprop((∃ f, Transfers.Flight (countersEmb (U := Pipeline.UD sig nD τ)) (c : Thread nD τ) (inCell s) () copyN
        iprop(((inSlot s).view.loc (c : Thread nD τ) ↦[(inSlot s).view.set]{fullShare} inLanded c H s b f)
          ∗ (hM.view.loc (c : Thread nD τ) ↦[(hBlk b).view.set]{hTok s} H)))
      ∗ (hM.view.loc (c : Thread nD τ) ↦[Finset.univ \ (hBlk b).view.set]{hTok s} H)) := rfl
theorem inΦ_none (s : Fin 6) : inΦ c H s none = iprop(semVal ((c : Thread nD τ), inCell s) 0 ∗ (∃ f, (inSlot s).view.loc (c : Thread nD τ) ↦[(inSlot s).view.set]{fullShare} f)
      ∗ (hM.view.loc (c : Thread nD τ) ↦{hTok s} H)) := rfl
theorem outΦ_some (s : Fin 6) (b : Fin 64) : outΦ c R s (some b) = iprop(∃ f fs, ⌜(outSlot s).view.read (Elt F) fs = R b⌝
      ∗ Transfers.Flight (countersEmb (U := Pipeline.UD sig nD τ)) (c : Thread nD τ) (outCell s) () copyN
        iprop(((yBlk b).view.loc (c : Thread nD τ) ↦[(yBlk b).view.set]{fullShare} yLanded c s b fs f)
          ∗ ((outSlot s).view.loc (c : Thread nD τ) ↦[(outSlot s).view.set]{fullShare} fs))) := rfl
theorem outΦ_none (s : Fin 6) : outΦ c R s none = iprop(semVal ((c : Thread nD τ), outCell s) 0 ∗ (∃ f, (outSlot s).view.loc (c : Thread nD τ) ↦[(outSlot s).view.set]{fullShare} f)) := rfl

/-- A copy in just started, as the run leaves it (its words put over a list of earlier ones), is the slot in flight. -/
theorem in_started (s : Fin 6) (b : Fin 64) (f : Bf (F := F) c (inSlot s)) (L : List (View.Piece (Elt F) S512x2048 .f32)) :
    iprop(Transfers.Flight (countersEmb (U := Pipeline.UD sig nD τ)) (c : Thread nD τ) (inCell s) () copyN
        iprop(((inSlot s).view.loc (c : Thread nD τ) ↦[(inSlot s).view.set]{fullShare}
            (inSlot s).view.writes (Elt F) f (⟨Rect.whole S512x2048, ReadAs.same.apply ((hBlk b).view.read (Elt F) H)⟩ :: L))
          ∗ (hM.view.loc (c : Thread nD τ) ↦[(hBlk b).view.set]{hTok s} H))
      ∗ (hM.view.loc (c : Thread nD τ) ↦[Finset.univ \ (hBlk b).view.set]{hTok s} H)) ⊢ inΦ c H s (some b) := by
  unfold inΦ
  iintro ⟨Hf, Ht⟩
  isplitl [Hf]
  · iexists ((inSlot s).view.writes (Elt F) f L)
    iexact Hf
  iexact Ht

/-- A copy out just started is the slot in flight, once the slot's words are the block's rows. -/
theorem out_started (s : Fin 6) (b : Fin 64) (f : Bf (F := F) c (yBlk b)) (fs : Bf (F := F) c (outSlot s)) :
    iprop(⌜(outSlot s).view.read (Elt F) fs = R b⌝ ∗ Transfers.Flight (countersEmb (U := Pipeline.UD sig nD τ)) (c : Thread nD τ) (outCell s) () copyN
        iprop(((yBlk b).view.loc (c : Thread nD τ) ↦[(yBlk b).view.set]{fullShare} yLanded c s b fs f)
          ∗ ((outSlot s).view.loc (c : Thread nD τ) ↦[(outSlot s).view.set]{fullShare} fs))) ⊢ outΦ c R s (some b) := by
  rw [outΦ_some]
  iintro ⟨%h, Hf⟩
  iexists f; iexists fs
  isplitr
  · ipureintro; exact h
  iexact Hf

/-- A copy out that has landed leaves its block with the block's rows. -/
theorem y_landed (s : Fin 6) (b : Fin 64) (f : Bf (F := F) c (yBlk b)) (fs : Bf (F := F) c (outSlot s)) (h : (outSlot s).view.read (Elt F) fs = R b) :
    ((yBlk b).view.loc (c : Thread nD τ) ↦[(yBlk b).view.set]{fullShare} yLanded c s b fs f : sProp 𝕄) ⊢ yNew c R b := by
  unfold yNew
  iintro H
  iexists _
  isplitr
  rotate_left
  · iexact H
  · ipureintro
    exact (View.read_writes_whole _ _ _).trans h

/-- What the body stores in the out-ring for block `b`, read back: the block's rows. -/
theorem stored_rows (s : Fin 6) (b : Fin 64) (D : S8x1x2048.Idx → Elt F .f32) {off8 off9 : Fin 3 → Nat} (e8 : off8 = ![s.val, 0, 0])
    (e9 : off9 = ![b.val / 8, 0, 0]) (h8 h8' h9) (fo : Bf (F := F) c outM) (fi : Bf (F := F) c inM) (fD : Bf (F := F) c decM)
    (hD : decM.view.read (Elt F) fD = D) (hin : (inSlot s).view.read (Elt F) fi = (hBlk b).view.read (Elt F) H) :
    (outSlot s).view.read (Elt F) (outM.view.writes (Elt F) fo [⟨Rect.unit (s := S6x512x2048) off8 S1x512x2048.size h8,
        k1_pay1 (inM.view.readAt (Elt F) (Rect.unit (s := S6x512x2048) off8 S1x512x2048.size h8').toLoadRect fi)
          (decM.view.readAt (Elt F) (Rect.unit (s := S8x1x2048) off9 S1x1x2048.size h9).toLoadRect fD)⟩]) = rowOf c H D b := by
  rw [outSlot_read c s e8, inM_readAt c s e8, hin]
  subst e9 hD
  rfl

/-- The slot's elements are those of its rectangle of the ring. -/
theorem in_access_sub (s : Fin 6) :
    (inM.access (Rect.unit (s := S6x512x2048) ![s.val, 0, 0] S1x512x2048.size (inb_slot s))).set ⊆ (inSlot s).view.set := by
  rw [Memref.set_view_squeeze]
theorem out_access_sub (s : Fin 6) :
    (outM.access (Rect.unit (s := S6x512x2048) ![s.val, 0, 0] S1x512x2048.size (inb_slot s))).set ⊆ (outSlot s).view.set := by
  rw [Memref.set_view_squeeze]

/-- The second kernel's body at a grid point, over the windows' staging buffers `w`, `…`. -/
abbrev bodyOf (i : grid1.Coords) (arg3 : Memref sig .tc .vmem S2x8x2048 .f32) (harg3 : arg3.IsWhole) (arg4 : Memref sig .tc .vmem S8x256 .f32) (harg4 : arg4.IsWhole) (arg5 : Memref sig .tc .vmem S256x2048 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S32x64 .f32) (harg11 : arg11.IsWhole) (arg12 : Memref sig .tc .vmem S256x512 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S2048x256 .f32) (harg16 : arg16.IsWhole) (arg17 : Memref sig .tc .vmem S1x2048 .f32) (harg17 : arg17.IsWhole) :
    Prog (TpuEff nD τ sig (Elt F) Λ₀ .tc) PUnit :=
  cc1__add_mlp_kernel i hM (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 yM (Memref.isWhole_whole _) decM (Memref.isWhole_whole _) inM (Memref.isWhole_whole _) outM (Memref.isWhole_whole _) cc1_scratch3 cc1_scratch4

/-- The decoded rows' scratch with the rows `D`. -/
def decΦ (D : S8x1x2048.Idx → Elt F .f32) : sProp 𝕄 :=
  iprop(∃ f, ⌜decM.view.read (Elt F) f = D⌝ ∗ (decM.view.loc (c : Thread nD τ) ↦{fullShare} f))

/-- What the core owes: no signal, whatever it has waited on. -/
def owesΦ : sProp 𝕄 := iprop(∃ W : Waits sig Unit, owes (c : Thread nD τ) 0 W)

theorem off9_val (i : grid1.Coords) : k1_off9 i = ![(blkOf (32 * (i 0).val + (i 1).val)).val / 8, 0, 0] := by revert i; decide +kernel

end Cert.KernelIdeal.Hand

end
-- ==== Proof.KI.State.lean ====
module

public import proofs.«01_k».proof.Proof.KI.Ring
public import Idealize.ShloMosaic.Lib.Ring.Tabled

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The rings' and the result's states at a point -/

/-- The in-ring's slot `s` before point `t`: in flight with the next block of this half that falls to it, or free. -/
def inSt (t : ℕ) (s : Fin 6) : Option (Fin 64) :=
  if t % 32 ≠ 0 ∧ t % 32 + (s.val + 6 - t % 32 % 6) % 6 < 32 then some (blkOf (32 * (t / 32) + (t % 32 + (s.val + 6 - t % 32 % 6) % 6))) else none

/-- The out-ring's slot `s` before point `t`: in flight with the last block of this half that fell to it, or free. -/
def outSt (t : ℕ) (s : Fin 6) : Option (Fin 64) :=
  if 6 ≤ t % 32 + (s.val + 6 - t % 32 % 6) % 6 ∧ t % 32 ≠ 0 then some (blkOf (32 * (t / 32) + (t % 32 + (s.val + 6 - t % 32 % 6) % 6) - 6)) else none

/-- The result's block `b` before point `t`: written (`some true`), on its way (`none`), or not begun (`some false`). -/
def ySt (t : ℕ) (b : Fin 64) : Option Bool :=
  if b.val < 32 * (t / 32) + (t % 32 - 6) then some true else if b.val < t then none else some false

section facts
open Idealize.ShloMosaic

theorem coords_val : ∀ t : Fin grid1.N, 32 * (grid1.coords t 0).val + (grid1.coords t 1).val = t.val := by decide +kernel

variable (i : grid1.Coords)

theorem in_now : ∀ i : grid1.Coords, (i 1).val ≠ 0 → inSt (32 * (i 0).val + (i 1).val) (slotOf (i 1).val) = some (blkOf (32 * (i 0).val + (i 1).val)) := by decide +kernel
theorem in_next : ∀ i : grid1.Coords, (i 1).val < 26 → inSt (32 * (i 0).val + (i 1).val + 1) (slotOf (i 1).val) = some (blkOf (32 * (i 0).val + (i 1).val + 6)) := by decide +kernel
theorem in_over : ∀ i : grid1.Coords, 26 ≤ (i 1).val → inSt (32 * (i 0).val + (i 1).val + 1) (slotOf (i 1).val) = none := by decide +kernel
theorem in_keep : ∀ i : grid1.Coords, (i 1).val ≠ 0 → ∀ s, s ∉ [slotOf (i 1).val] → inSt (32 * (i 0).val + (i 1).val + 1) s = inSt (32 * (i 0).val + (i 1).val) s := by decide +kernel
theorem out_now : ∀ i : grid1.Coords, 6 ≤ (i 1).val → outSt (32 * (i 0).val + (i 1).val) (slotOf (i 1).val) = some (blkOf (32 * (i 0).val + (i 1).val - 6)) := by decide +kernel
theorem out_free : ∀ i : grid1.Coords, (i 1).val < 6 → outSt (32 * (i 0).val + (i 1).val) (slotOf (i 1).val) = none := by decide +kernel
theorem out_next : ∀ i : grid1.Coords, (i 1).val ≠ 31 → outSt (32 * (i 0).val + (i 1).val + 1) (slotOf (i 1).val) = some (blkOf (32 * (i 0).val + (i 1).val)) := by decide +kernel
theorem out_keep : ∀ i : grid1.Coords, (i 1).val ≠ 31 → ∀ s, s ∉ [slotOf (i 1).val] → outSt (32 * (i 0).val + (i 1).val + 1) s = outSt (32 * (i 0).val + (i 1).val) s := by decide +kernel
theorem y_now : ∀ i : grid1.Coords, ySt (32 * (i 0).val + (i 1).val) (blkOf (32 * (i 0).val + (i 1).val)) = some false := by decide +kernel
theorem y_back_now : ∀ i : grid1.Coords, 6 ≤ (i 1).val → ySt (32 * (i 0).val + (i 1).val) (blkOf (32 * (i 0).val + (i 1).val - 6)) = none := by decide +kernel
theorem y_next : ∀ i : grid1.Coords, (i 1).val ≠ 31 → ySt (32 * (i 0).val + (i 1).val + 1) (blkOf (32 * (i 0).val + (i 1).val)) = none := by decide +kernel
theorem y_back_next : ∀ i : grid1.Coords, 6 ≤ (i 1).val → ySt (32 * (i 0).val + (i 1).val + 1) (blkOf (32 * (i 0).val + (i 1).val - 6)) = some true := by decide +kernel
theorem y_keep : ∀ i : grid1.Coords, 6 ≤ (i 1).val → (i 1).val ≠ 31 → ∀ b, b ∉ [blkOf (32 * (i 0).val + (i 1).val), blkOf (32 * (i 0).val + (i 1).val - 6)] → ySt (32 * (i 0).val + (i 1).val + 1) b = ySt (32 * (i 0).val + (i 1).val) b := by decide +kernel
theorem y_keep_early : ∀ i : grid1.Coords, (i 1).val < 6 → ∀ b, b ∉ [blkOf (32 * (i 0).val + (i 1).val)] → ySt (32 * (i 0).val + (i 1).val + 1) b = ySt (32 * (i 0).val + (i 1).val) b := by decide +kernel
theorem y_pair_nodup : ∀ i : grid1.Coords, 6 ≤ (i 1).val → [blkOf (32 * (i 0).val + (i 1).val), blkOf (32 * (i 0).val + (i 1).val - 6)].Nodup := by decide +kernel

theorem first_in : ∀ i : grid1.Coords, (i 1).val = 0 → ∀ s, inSt (32 * (i 0).val + (i 1).val) s = none := by decide +kernel
theorem first_in_next : ∀ i : grid1.Coords, (i 1).val = 0 → inSt (32 * (i 0).val + (i 1).val + 1) 0 = some (blkOf (32 * (i 0).val + 6))
    ∧ inSt (32 * (i 0).val + (i 1).val + 1) 1 = some (blkOf (32 * (i 0).val + 1)) ∧ inSt (32 * (i 0).val + (i 1).val + 1) 2 = some (blkOf (32 * (i 0).val + 2))
    ∧ inSt (32 * (i 0).val + (i 1).val + 1) 3 = some (blkOf (32 * (i 0).val + 3)) ∧ inSt (32 * (i 0).val + (i 1).val + 1) 4 = some (blkOf (32 * (i 0).val + 4))
    ∧ inSt (32 * (i 0).val + (i 1).val + 1) 5 = some (blkOf (32 * (i 0).val + 5)) := by decide +kernel
theorem last_out : ∀ i : grid1.Coords, (i 1).val = 31 → outSt (32 * (i 0).val + (i 1).val) 0 = some (blkOf (32 * (i 0).val + 30))
    ∧ outSt (32 * (i 0).val + (i 1).val) 1 = some (blkOf (32 * (i 0).val + 25)) ∧ outSt (32 * (i 0).val + (i 1).val) 2 = some (blkOf (32 * (i 0).val + 26))
    ∧ outSt (32 * (i 0).val + (i 1).val) 3 = some (blkOf (32 * (i 0).val + 27)) ∧ outSt (32 * (i 0).val + (i 1).val) 4 = some (blkOf (32 * (i 0).val + 28))
    ∧ outSt (32 * (i 0).val + (i 1).val) 5 = some (blkOf (32 * (i 0).val + 29)) := by decide +kernel
theorem last_out_next : ∀ i : grid1.Coords, (i 1).val = 31 → ∀ s, outSt (32 * (i 0).val + (i 1).val + 1) s = none := by decide +kernel
abbrev lastBlks (i : grid1.Coords) : List (Fin 64) := [blkOf (32 * (i 0).val + 25), blkOf (32 * (i 0).val + 26), blkOf (32 * (i 0).val + 27), blkOf (32 * (i 0).val + 28), blkOf (32 * (i 0).val + 29), blkOf (32 * (i 0).val + 30), blkOf (32 * (i 0).val + 31)]
theorem last_y_nodup : ∀ i : grid1.Coords, (lastBlks i).Nodup := by decide +kernel
theorem last_y : ∀ i : grid1.Coords, (i 1).val = 31 → ∀ r : Fin 6, ySt (32 * (i 0).val + (i 1).val) (blkOf (32 * (i 0).val + (25 + r.val))) = none := by decide +kernel
theorem last_y_next : ∀ i : grid1.Coords, (i 1).val = 31 → ∀ r : Fin 7, ySt (32 * (i 0).val + (i 1).val + 1) (blkOf (32 * (i 0).val + (25 + r.val))) = some true := by decide +kernel
theorem last_y_keep : ∀ i : grid1.Coords, (i 1).val = 31 → ∀ b, b ∉ lastBlks i → ySt (32 * (i 0).val + (i 1).val + 1) b = ySt (32 * (i 0).val + (i 1).val) b := by decide +kernel

theorem inSt_zero : ∀ s, inSt 0 s = none := by decide
theorem outSt_zero : ∀ s, outSt 0 s = none := by decide
theorem ySt_zero : ∀ b, ySt 0 b = some false := by decide
theorem inSt_end : ∀ s, inSt 64 s = none := by decide
theorem outSt_end : ∀ s, outSt 64 s = none := by decide
theorem ySt_end : ∀ b, ySt 64 b = some true := by decide
end facts

/-- The result's block `b` in a state. -/
def yΦ (c : Dev nD) (R : Fin 64 → S512x2048.Idx → Elt F .f32) (b : Fin 64) : Option Bool → sProp 𝕄
  | none => BI.emp
  | some true => yNew c R b
  | some false => yOld c b

theorem yΦ_away (c : Dev nD) (R : Fin 64 → S512x2048.Idx → Elt F .f32) (b : Fin 64) : yΦ c R b none = BI.emp := rfl
theorem yΦ_old (c : Dev nD) (R : Fin 64 → S512x2048.Idx → Elt F .f32) (b : Fin 64) : yΦ c R b (some false) = yOld c b := rfl
theorem yΦ_new (c : Dev nD) (R : Fin 64 → S512x2048.Idx → Elt F .f32) (b : Fin 64) : yΦ c R b (some true) = yNew c R b := rfl

variable (c : Dev nD) (H : Bf (F := F) c hM) (R : Fin 64 → S512x2048.Idx → Elt F .f32) (D : S8x1x2048.Idx → Elt F .f32)

/-- The decoded rows' scratch before point `t`: anything before the first, the rows after. -/
def decSt (t : ℕ) : sProp 𝕄 := if t = 0 then iprop(∃ f, decM.view.loc (c : Thread nD τ) ↦{fullShare} f) else decΦ c D

/-- The rings, the result's blocks, the decoded rows and what the core owes, before point `t`. -/
def core (t : ℕ) : sProp 𝕄 :=
  iprop(Ring.AtW (σ := fun _ => Option (Fin 64)) (inΦ c H) (inSt t) ∗ Ring.AtW (σ := fun _ => Option (Fin 64)) (outΦ c R) (outSt t)
    ∗ Ring.AtW (σ := fun _ => Option Bool) (yΦ c R) (ySt t) ∗ decSt c D t ∗ owesΦ c)

/-- A chain's first member set apart. -/
theorem chain_cons {I : Type} (i j : I) (l : List I) (Φ : I → sProp 𝕄) : bigSepL (i :: j :: l) Φ = iprop(Φ i ∗ bigSepL (j :: l) Φ) := rfl

/-- A step told of the members it moves is a step of the whole. -/
theorem core_step {Wn : sProp 𝕄} {p : Prog (TpuEff nD τ sig (Elt F) Λ₀ .tc) PUnit} (t : ℕ) (li lo : List (Fin 6)) (ly : List (Fin 64)) (hi : li.Nodup) (ho : lo.Nodup) (hy : ly.Nodup)
    (ki : ∀ s, s ∉ li → inSt (t + 1) s = inSt t s) (ko : ∀ s, s ∉ lo → outSt (t + 1) s = outSt t s) (ky : ∀ b, b ∉ ly → ySt (t + 1) b = ySt t b)
    (hs : iprop(bigSepL li (fun s => inΦ c H s (inSt t s)) ∗ bigSepL lo (fun s => outΦ c R s (outSt t s)) ∗ bigSepL ly (fun b => yΦ c R b (ySt t b))
        ∗ decSt c D t ∗ owesΦ c ∗ Wn)
      ⊢ wp frame (wpE (defs₀ (F := F)) Variants.none c none) Set.univ p (fun _ => iprop(bigSepL li (fun s => inΦ c H s (inSt (t + 1) s))
        ∗ bigSepL lo (fun s => outΦ c R s (outSt (t + 1) s)) ∗ bigSepL ly (fun b => yΦ c R b (ySt (t + 1) b)) ∗ decSt c D (t + 1) ∗ owesΦ c ∗ Wn))) :
    iprop(core c H R D t ∗ Wn) ⊢ wp frame (wpE (defs₀ (F := F)) Variants.none c none) Set.univ p (fun _ => iprop(core c H R D (t + 1) ∗ Wn)) := by
  have e : iprop(core c H R D t ∗ Wn) ⊢ iprop((bigSepL li (fun s => inΦ c H s (inSt t s)) ∗ bigSepL lo (fun s => outΦ c R s (outSt t s)) ∗ bigSepL ly (fun b => yΦ c R b (ySt t b))
        ∗ decSt c D t ∗ owesΦ c ∗ Wn) ∗ (Ring.restL (inΦ c H) (inSt t) li ∗ Ring.restL (outΦ c R) (outSt t) lo ∗ Ring.restL (yΦ c R) (ySt t) ly)) := by
    unfold core
    rw [Ring.AtW_focusL (inΦ c H) (inSt t) li hi, Ring.AtW_focusL (outΦ c R) (outSt t) lo ho, Ring.AtW_focusL (yΦ c R) (ySt t) ly hy]
    iintro ⟨⟨⟨A, A'⟩, ⟨B, B'⟩, ⟨C, C'⟩, Dd, O⟩, Ww⟩
    isplitl [A B C Dd O Ww]
    · isplitl [A]; · iexact A
      isplitl [B]; · iexact B
      isplitl [C]; · iexact C
      isplitl [Dd]; · iexact Dd
      isplitl [O]; · iexact O
      iexact Ww
    isplitl [A']; · iexact A'
    isplitl [B']; · iexact B'
    iexact C'
  refine e.trans ((sep_mono_left hs).trans ((wp_frame_r _ _ _).trans (wp_mono _ _ _ fun _ => ?_)))
  unfold core
  iintro ⟨⟨A, B, C, Dd, O, Ww⟩, A', B', C'⟩
  isplitr [Ww]
  · isplitl [A A']
    · iapply (Ring.AtW_refocusL (inΦ c H) (inSt t) (inSt (t + 1)) li hi ki)
      isplitl [A]; · iexact A
      iexact A'
    isplitl [B B']
    · iapply (Ring.AtW_refocusL (outΦ c R) (outSt t) (outSt (t + 1)) lo ho ko)
      isplitl [B]; · iexact B
      iexact B'
    isplitl [C C']
    · iapply (Ring.AtW_refocusL (yΦ c R) (ySt t) (ySt (t + 1)) ly hy ky)
      isplitl [C]; · iexact C
      iexact C'
    isplitl [Dd]; · iexact Dd
    iexact O
  iexact Ww

theorem decSt_pos (t : ℕ) (h : t ≠ 0) : decSt c D t = decΦ c D := by unfold decSt; rw [if_neg h]

theorem decSt_any (t : ℕ) : decSt c D t ⊢ iprop(∃ f, decM.view.loc (c : Thread nD τ) ↦{fullShare} f) := by
  unfold decSt
  by_cases h : t = 0
  · rw [if_pos h]
  · rw [if_neg h]; unfold decΦ; iintro ⟨%f, %hf, Hf⟩; iexists f; iexact Hf

end Cert.KernelIdeal.Hand
-- ==== Proof.KI.Mid.lean ====
module

public import proofs.«01_k».proof.Proof.KI.Ring

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The body's slots, blocks and semaphores at a point, named -/

@[sl_canon] theorem off2_inSem (i : grid1.Coords) (hh) : (cc1_scratch3.slice (Rect.unit (s := S6) (k1_off2 i) S1.size hh)).squeeze S_ squeezes_S1_S_ = inSem (slotOf ((i 1).val)) := inSem_congr (k1_off2_eq i) _
@[sl_canon] theorem off2_outSem (i : grid1.Coords) (hh) : (cc1_scratch4.slice (Rect.unit (s := S6) (k1_off2 i) S1.size hh)).squeeze S_ squeezes_S1_S_ = outSem (slotOf ((i 1).val)) := outSem_congr (k1_off2_eq i) _
@[sl_canon] theorem off5_outSem (i : grid1.Coords) (hh) : (cc1_scratch4.slice (Rect.unit (s := S6) (k1_off5 i) S1.size hh)).squeeze S_ squeezes_S1_S_ = outSem (slotOf ((i 1).val)) := outSem_congr (k1_off5_eq i) _
@[sl_canon] theorem off10_inSem (i : grid1.Coords) (hh) : (cc1_scratch3.slice (Rect.unit (s := S6) (k1_off10 i) S1.size hh)).squeeze S_ squeezes_S1_S_ = inSem (slotOf ((i 1).val)) := inSem_congr (k1_off10_eq i) _
@[sl_canon] theorem off3_inSlot (i : grid1.Coords) (hh hs) : (inM.slice (Rect.unit (s := S6x512x2048) (k1_off3 i) S1x512x2048.size hh) hs).squeeze S512x2048 squeezes_S1x512x2048_S512x2048 = inSlot (slotOf ((i 1).val)) := inSlot_congr (k1_off3_eq i) _ _
@[sl_canon] theorem off3_outSlot (i : grid1.Coords) (hh hs) : (outM.slice (Rect.unit (s := S6x512x2048) (k1_off3 i) S1x512x2048.size hh) hs).squeeze S512x2048 squeezes_S1x512x2048_S512x2048 = outSlot (slotOf ((i 1).val)) := outSlot_congr (k1_off3_eq i) _ _
@[sl_canon] theorem off7_outSlot (i : grid1.Coords) (hh hs) : (outM.slice (Rect.unit (s := S6x512x2048) (k1_off7 i) S1x512x2048.size hh) hs).squeeze S512x2048 squeezes_S1x512x2048_S512x2048 = outSlot (slotOf ((i 1).val)) := outSlot_congr (k1_off7_eq i) _ _
@[sl_canon] theorem off11_inSlot (i : grid1.Coords) (hh hs) : (inM.slice (Rect.unit (s := S6x512x2048) (k1_off11 i) S1x512x2048.size hh) hs).squeeze S512x2048 squeezes_S1x512x2048_S512x2048 = inSlot (slotOf ((i 1).val)) := inSlot_congr (k1_off11_eq i) _ _
@[sl_canon] theorem off4_hBlk (i : grid1.Coords) (hh hs) : hM.slice (Rect.unit (s := S32768x2048) (k1_off4 i) S512x2048.size hh) hs = hBlk (blkOf (32 * (i 0).val + (i 1).val)) := hBlk_congr (off4_eq i) _ _
@[sl_canon] theorem off4_yBlk (i : grid1.Coords) (hh hs) : yM.slice (Rect.unit (s := S32768x2048) (k1_off4 i) S512x2048.size hh) hs = yBlk (blkOf (32 * (i 0).val + (i 1).val)) := yBlk_congr (off4_eq i) _ _
@[sl_canon] theorem off6_yBlk (i : grid1.Coords) (h : k1_cond2 i = 1#1) (hh hs) : yM.slice (Rect.unit (s := S32768x2048) (k1_off6 i) S512x2048.size hh) hs = yBlk (blkOf (32 * (i 0).val + (i 1).val - 6)) := yBlk_congr (off6_eq i h) _ _
@[sl_canon] theorem off12_hBlk (i : grid1.Coords) (h : k1_cond3 i = 1#1) (hh hs) : hM.slice (Rect.unit (s := S32768x2048) (k1_off12 i) S512x2048.size hh) hs = hBlk (blkOf (32 * (i 0).val + (i 1).val + 6)) := hBlk_congr (off12_eq i h) _ _

variable (c : Dev nD) (H : Bf (F := F) c hM) (R : Fin 64 → S512x2048.Idx → Elt F .f32)

section
variable [∀ e, Nonempty (Elt F e)] (i : grid1.Coords)
    (arg3 : Memref sig .tc .vmem S2x8x2048 .f32) (harg3 : arg3.IsWhole) (arg4 : Memref sig .tc .vmem S8x256 .f32) (harg4 : arg4.IsWhole) (arg5 : Memref sig .tc .vmem S256x2048 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S32x64 .f32) (harg11 : arg11.IsWhole) (arg12 : Memref sig .tc .vmem S256x512 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S2048x256 .f32) (harg16 : arg16.IsWhole) (arg17 : Memref sig .tc .vmem S1x2048 .f32) (harg17 : arg17.IsWhole)
    (D : S8x1x2048.Idx → Elt F .f32)

set_option backward.proofsInPublic true in
/-- A point with six or more before it and more than five after it: the block that has landed is summed with its decoded row into the out-ring's slot once that slot's copy out is done, the sum's copy out starts, and the copy in of the block six on starts. -/
theorem point_mid (h6 : 6 ≤ (i 1).val) (h26 : (i 1).val < 26)
    (hR : R (blkOf (32 * (i 0).val + (i 1).val)) = rowOf c H D (blkOf (32 * (i 0).val + (i 1).val))) :
    iprop(inΦ c H (slotOf (i 1).val) (some (blkOf (32 * (i 0).val + (i 1).val)))
      ∗ outΦ c R (slotOf (i 1).val) (some (blkOf (32 * (i 0).val + (i 1).val - 6)))
      ∗ yOld c (blkOf (32 * (i 0).val + (i 1).val)) ∗ decΦ c D ∗ owesΦ c)
    ⊢ wp frame (wpE (defs₀ (F := F)) Variants.none c none) Set.univ (bodyOf i arg3 harg3 arg4 harg4 arg5 harg5 arg6 harg6 arg7 harg7 arg8 harg8 arg9 harg9 arg10 harg10 arg11 harg11 arg12 harg12 arg13 harg13 arg14 harg14 arg15 harg15 arg16 harg16 arg17 harg17)
      (fun _ => iprop(inΦ c H (slotOf (i 1).val) (some (blkOf (32 * (i 0).val + (i 1).val + 6)))
        ∗ outΦ c R (slotOf (i 1).val) (some (blkOf (32 * (i 0).val + (i 1).val)))
        ∗ yNew c R (blkOf (32 * (i 0).val + (i 1).val - 6)) ∗ decΦ c D ∗ owesΦ c)) := by
  have c1 : ¬ k1_cond1 i = 1#1 := by rw [cond1_iff]; omega
  have c2 : k1_cond2 i = 1#1 := by rw [cond2_iff]; omega
  have c3 : k1_cond3 i = 1#1 := by rw [cond3_iff]; omega
  have c4 : ¬ k1_cond4 i = 1#1 := by rw [cond4_iff]; omega
  have hS := in_access_sub (slotOf (i 1).val)
  have hS' := out_access_sub (slotOf (i 1).val)
  unfold bodyOf
  rw [cc1__add_mlp_kernel_eq_skeleton]; unfold cc1__add_mlp_kernel_skel
  rw [k1_part9_eq_skeleton]; unfold k1_part9_skel
  rw [inΦ_some c H _ (blkOf (32 * (i 0).val + (i 1).val)), outΦ_some c R _ (blkOf (32 * (i 0).val + (i 1).val - 6))]
  unfold yOld decΦ owesΦ
  iintro ⟨⟨⟨%fi, Hin⟩, Htok⟩, ⟨%fy, %fo, %hfo, Hout⟩, ⟨%Y, Hy⟩, ⟨%fD, %hD, Hd⟩, ⟨%W, HO⟩⟩
  sl_exec
  sl_step
  isplitl [Hin Htok]
  · iapply (in_started c H)
    isplitl [Hin]
    · iexact Hin
    iexact Htok
  isplitl [Hout]
  · iapply (out_started c R)
    isplitr
    rotate_left
    · iexact Hout
    · ipureintro
      rw [hR]
      unfold point_mid.sl.Hout_src_w1
      exact stored_rows c H _ _ D (k1_off8_eq i) (off9_val i) (k1_off8_inb i) (k1_off8_inb i) (k1_off9_inb i) _ _ _ hD (View.read_writes_whole _ _ _)
  isplitl [Hout_dst]
  · iapply (y_landed c R (h := hfo)); iexact Hout_dst
  isplitl [Hd]
  · iexists fD
    isplitr
    · ipureintro; exact hD
    iexact Hd
  iexists _; iexact HO

set_option backward.proofsInPublic true in
/-- A point after the first with fewer than six before it: the out-ring's slot is free. -/
theorem point_early (h1 : 1 ≤ (i 1).val) (h6 : (i 1).val < 6)
    (hR : R (blkOf (32 * (i 0).val + (i 1).val)) = rowOf c H D (blkOf (32 * (i 0).val + (i 1).val))) :
    iprop(inΦ c H (slotOf (i 1).val) (some (blkOf (32 * (i 0).val + (i 1).val)))
      ∗ outΦ c R (slotOf (i 1).val) none
      ∗ yOld c (blkOf (32 * (i 0).val + (i 1).val)) ∗ decΦ c D ∗ owesΦ c)
    ⊢ wp frame (wpE (defs₀ (F := F)) Variants.none c none) Set.univ (bodyOf i arg3 harg3 arg4 harg4 arg5 harg5 arg6 harg6 arg7 harg7 arg8 harg8 arg9 harg9 arg10 harg10 arg11 harg11 arg12 harg12 arg13 harg13 arg14 harg14 arg15 harg15 arg16 harg16 arg17 harg17)
      (fun _ => iprop(inΦ c H (slotOf (i 1).val) (some (blkOf (32 * (i 0).val + (i 1).val + 6)))
        ∗ outΦ c R (slotOf (i 1).val) (some (blkOf (32 * (i 0).val + (i 1).val)))
        ∗ decΦ c D ∗ owesΦ c)) := by
  have c1 : ¬ k1_cond1 i = 1#1 := by rw [cond1_iff]; omega
  have c2 : ¬ k1_cond2 i = 1#1 := by rw [cond2_iff]; omega
  have c3 : k1_cond3 i = 1#1 := by rw [cond3_iff]; omega
  have c4 : ¬ k1_cond4 i = 1#1 := by rw [cond4_iff]; omega
  have hS := in_access_sub (slotOf (i 1).val)
  have hS' := out_access_sub (slotOf (i 1).val)
  unfold bodyOf
  rw [cc1__add_mlp_kernel_eq_skeleton]; unfold cc1__add_mlp_kernel_skel
  rw [k1_part9_eq_skeleton]; unfold k1_part9_skel
  rw [inΦ_some c H _ (blkOf (32 * (i 0).val + (i 1).val)), outΦ_none c R]
  unfold yOld decΦ owesΦ
  iintro ⟨⟨⟨%fi, Hin⟩, Htok⟩, ⟨Hcell, ⟨%fo, Hout⟩⟩, ⟨%Y, Hy⟩, ⟨%fD, %hD, Hd⟩, ⟨%W, HO⟩⟩
  sl_exec
  sl_step
  isplitl [Hin Htok]
  · iapply (in_started c H)
    isplitl [Hin]
    · iexact Hin
    iexact Htok
  isplitl [Hcell]
  · iapply (out_started c R)
    isplitr
    rotate_left
    · iexact Hcell
    · ipureintro
      rw [hR]
      unfold point_early.sl.Hout_w1
      exact stored_rows c H _ _ D (k1_off8_eq i) (off9_val i) (k1_off8_inb i) (k1_off8_inb i) (k1_off9_inb i) _ _ _ hD (View.read_writes_whole _ _ _)
  isplitl [Hd]
  · iexists fD
    isplitr
    · ipureintro; exact hD
    iexact Hd
  iexists _; iexact HO

set_option backward.proofsInPublic true in
/-- A point before the last with fewer than six after it: no further block is fetched, so the in-ring's slot stays free. -/
theorem point_late (h26 : 26 ≤ (i 1).val) (h31 : (i 1).val < 31)
    (hR : R (blkOf (32 * (i 0).val + (i 1).val)) = rowOf c H D (blkOf (32 * (i 0).val + (i 1).val))) :
    iprop(inΦ c H (slotOf (i 1).val) (some (blkOf (32 * (i 0).val + (i 1).val)))
      ∗ outΦ c R (slotOf (i 1).val) (some (blkOf (32 * (i 0).val + (i 1).val - 6)))
      ∗ yOld c (blkOf (32 * (i 0).val + (i 1).val)) ∗ decΦ c D ∗ owesΦ c)
    ⊢ wp frame (wpE (defs₀ (F := F)) Variants.none c none) Set.univ (bodyOf i arg3 harg3 arg4 harg4 arg5 harg5 arg6 harg6 arg7 harg7 arg8 harg8 arg9 harg9 arg10 harg10 arg11 harg11 arg12 harg12 arg13 harg13 arg14 harg14 arg15 harg15 arg16 harg16 arg17 harg17)
      (fun _ => iprop(inΦ c H (slotOf (i 1).val) none
        ∗ outΦ c R (slotOf (i 1).val) (some (blkOf (32 * (i 0).val + (i 1).val)))
        ∗ yNew c R (blkOf (32 * (i 0).val + (i 1).val - 6)) ∗ decΦ c D ∗ owesΦ c)) := by
  have c1 : ¬ k1_cond1 i = 1#1 := by rw [cond1_iff]; omega
  have c2 : k1_cond2 i = 1#1 := by rw [cond2_iff]; omega
  have c3 : ¬ k1_cond3 i = 1#1 := by rw [cond3_iff]; omega
  have c4 : ¬ k1_cond4 i = 1#1 := by rw [cond4_iff]; omega
  have hS := in_access_sub (slotOf (i 1).val)
  have hS' := out_access_sub (slotOf (i 1).val)
  unfold bodyOf
  rw [cc1__add_mlp_kernel_eq_skeleton]; unfold cc1__add_mlp_kernel_skel
  rw [k1_part9_eq_skeleton]; unfold k1_part9_skel
  rw [inΦ_some c H _ (blkOf (32 * (i 0).val + (i 1).val)), outΦ_some c R _ (blkOf (32 * (i 0).val + (i 1).val - 6))]
  unfold yOld decΦ owesΦ
  iintro ⟨⟨⟨%fi, Hin⟩, Htok⟩, ⟨%fy, %fo, %hfo, Hout⟩, ⟨%Y, Hy⟩, ⟨%fD, %hD, Hd⟩, ⟨%W, HO⟩⟩
  sl_exec
  sl_step
  isplitl [Hin Hin_dst Htok]
  · rw [inΦ_none]
    isplitl [Hin]
    · iexact Hin
    isplitl [Hin_dst]
    · iexists _; iexact Hin_dst
    iexact Htok
  isplitl [Hout]
  · iapply (out_started c R)
    isplitr
    rotate_left
    · iexact Hout
    · ipureintro
      rw [hR]
      unfold point_late.sl.Hout_src_w1
      exact stored_rows c H _ _ D (k1_off8_eq i) (off9_val i) (k1_off8_inb i) (k1_off8_inb i) (k1_off9_inb i) _ _ _ hD (View.read_writes_whole _ _ _)
  isplitl [Hout_dst]
  · iapply (y_landed c R (h := hfo)); iexact Hout_dst
  isplitl [Hd]
  · iexists fD
    isplitr
    · ipureintro; exact hD
    iexact Hd
  iexists _; iexact HO

end

end Cert.KernelIdeal.Hand

end
-- ==== Proof.KI.Decode.lean ====
module

public import proofs.«01_k».proof.Proof.KI.Ring
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The decoded rows: what the body computes from the fifteen windows at a half's first point -/

section Decode
variable (P : S2x8x2048.Idx → Elt F .f32) (gum : S8x256.Idx → Elt F .f32) (w1 : S256x2048.Idx → Elt F .f32) (b1 : S1x256.Idx → Elt F .f32) (g1 : S1x256.Idx → Elt F .f32) (be1 : S1x256.Idx → Elt F .f32) (w2 : S256x256.Idx → Elt F .f32) (b2 : S1x256.Idx → Elt F .f32) (cb : S32x64.Idx → Elt F .f32) (dw : S256x512.Idx → Elt F .f32) (db : S1x256.Idx → Elt F .f32) (g2 : S1x256.Idx → Elt F .f32) (be2 : S1x256.Idx → Elt F .f32) (dw2 : S2048x256.Idx → Elt F .f32) (db2 : S1x2048.Idx → Elt F .f32)

/-- The encoder's rows before normalisation; its logits; each symbol's share of the decoder's first layer added up; -/
def mlpA : S8x256.Idx → Elt F .f32 := k1_pay2 (View.ld P (Rect.unit (s := S2x8x2048) ![0, 0, 0] S1x8x2048.size inb_S2x8x2048_S1x8x2048_0_0_0)) (View.ld P (Rect.unit (s := S2x8x2048) ![1, 0, 0] S1x8x2048.size inb_S2x8x2048_S1x8x2048_1_0_0)) (View.ld w1 (Rect.unit (s := S256x2048) ![0, 0] S256x2048.size inb_S256x2048_S256x2048_0_0)) (View.ld b1 (Rect.unit (s := S1x256) ![0, 0] S1x256.size inb_S1x256_S1x256_0_0))
def mlpZ (v109 : S8x256.Idx → Elt F .f32) : S8x256.Idx → Elt F .f32 := k1_pay5 v109 (k1_pay3 (View.ld g1 (Rect.unit (s := S1x256) ![0, 0] S1x256.size inb_S1x256_S1x256_0_0))) (View.ld be1 (Rect.unit (s := S1x256) ![0, 0] S1x256.size inb_S1x256_S1x256_0_0)) (View.ld w2 (Rect.unit (s := S256x256) ![0, 0] S256x256.size inb_S256x256_S256x256_0_0))
def mlpG : S8x256.Idx → Elt F .f32 := k1_pay4 (View.ld gum (Rect.unit (s := S8x256) ![0, 0] S8x256.size inb_S8x256_S8x256_0_0))
def mlpD1 (v151 v153 : S8x256.Idx → Elt F .f32) : S8x256.Idx → Elt F .f32 := k1_pay7 v151 v153 (View.ld b2 (Rect.unit (s := S1x256) ![0, 0] S1x256.size inb_S1x256_S1x256_0_0)) (View.ld cb (Rect.unit (s := S32x64) ![0, 0] S32x64.size inb_S32x64_S32x64_0_0)) (View.ld dw (Rect.unit (s := S256x512) ![0, 0] S256x64.size inb_S256x512_S256x64_0_0)) (View.ld dw (Rect.unit (s := S256x512) ![0, 64] S256x64.size inb_S256x512_S256x64_0_64))
def mlpD2 (v158 v196 : S8x256.Idx → Elt F .f32) : S8x256.Idx → Elt F .f32 := k1_pay8 v158 (View.ld cb (Rect.unit (s := S32x64) ![0, 0] S32x64.size inb_S32x64_S32x64_0_0)) v196 (View.ld dw (Rect.unit (s := S256x512) ![0, 128] S256x64.size inb_S256x512_S256x64_0_128)) (View.ld dw (Rect.unit (s := S256x512) ![0, 192] S256x64.size inb_S256x512_S256x64_0_192))
def mlpD3 (v158 v232 : S8x256.Idx → Elt F .f32) : S8x256.Idx → Elt F .f32 := k1_pay10 v158 (View.ld cb (Rect.unit (s := S32x64) ![0, 0] S32x64.size inb_S32x64_S32x64_0_0)) v232 (iota .tc S8x32 32 [1] iota_S8x32_d1_w32) (k1_pay9 v158) (View.ld dw (Rect.unit (s := S256x512) ![0, 256] S256x64.size inb_S256x512_S256x64_0_256)) (View.ld dw (Rect.unit (s := S256x512) ![0, 320] S256x64.size inb_S256x512_S256x64_0_320))
/-- from the logits with the noise added (`v158`): the decoder's rows out. -/
def mlpOut (v158 : S8x256.Idx → Elt F .f32) (v268 : S8x256.Idx → Elt F .f32) : S8x1x2048.Idx → Elt F .f32 :=
  let v159 := (View.ld cb (Rect.unit (s := S32x64) ![0, 0] S32x64.size inb_S32x64_S32x64_0_0))
  let v283 := k1_pay11 v158 v159
  let v284 := (View.ld dw (Rect.unit (s := S256x512) ![0, 384] S256x64.size inb_S256x512_S256x64_0_384))
  let v302 := (View.ld dw (Rect.unit (s := S256x512) ![0, 448] S256x64.size inb_S256x512_S256x64_0_448))
  let v305 := (View.ld db (Rect.unit (s := S1x256) ![0, 0] S1x256.size inb_S1x256_S1x256_0_0))
  k1_pay18 (k1_pay12 v158 v159 v268 v283 v284 v302 v305) (k1_pay13 (View.ld g2 (Rect.unit (s := S1x256) ![0, 0] S1x256.size inb_S1x256_S1x256_0_0))) (k1_pay14 (View.ld be2 (Rect.unit (s := S1x256) ![0, 0] S1x256.size inb_S1x256_S1x256_0_0)))
    (k1_pay16 v158 v159 v268 v283 v284 v302 v305) (k1_pay17 v158 v159 v268 v283 v284 v302 v305) (View.ld dw2 (Rect.unit (s := S2048x256) ![0, 0] S2048x256.size inb_S2048x256_S2048x256_0_0)) (View.ld db2 (Rect.unit (s := S1x2048) ![0, 0] S1x2048.size inb_S1x2048_S1x2048_0_0))

/-- The eight decoded rows. -/
def decOf : S8x1x2048.Idx → Elt F .f32 :=
  let v109 := mlpA P w1 b1
  let v151 := mlpG gum
  let v153 := mlpZ g1 be1 w2 v109
  let v158 := k1_pay6 v151 v153 (View.ld b2 (Rect.unit (s := S1x256) ![0, 0] S1x256.size inb_S1x256_S1x256_0_0))
  mlpOut cb dw db g2 be2 dw2 db2 v158 (mlpD3 cb dw v158 (mlpD2 cb dw v158 (mlpD1 b2 cb dw v151 v153)))

end Decode

end Cert.KernelIdeal.Hand

end
-- ==== Proof.KI.First.lean ====
module

public import proofs.«01_k».proof.Proof.KI.Decode

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## A half's first point: slots and blocks named -/

theorem off2_first : ∀ i : grid1.Coords, (i 1).val = 0 → k1_off2 i = ![0] := by decide +kernel
theorem off3_first : ∀ i : grid1.Coords, (i 1).val = 0 → k1_off3 i = ![0, 0, 0] := by decide +kernel
theorem off8_first : ∀ i : grid1.Coords, (i 1).val = 0 → k1_off8 i = ![0, 0, 0] := by decide +kernel
theorem off4_first : ∀ i : grid1.Coords, (i 1).val = 0 → k1_off4 i = ![512 * (blkOf (32 * (i 0).val + 0)).val, 0] := by decide +kernel
theorem off9_first : ∀ i : grid1.Coords, (i 1).val = 0 → k1_off9 i = ![(blkOf (32 * (i 0).val + 0)).val / 8, 0, 0] := by decide +kernel
theorem off10_first : ∀ i : grid1.Coords, (i 1).val = 0 → k1_off10 i = ![0] := by decide +kernel
theorem off11_first : ∀ i : grid1.Coords, (i 1).val = 0 → k1_off11 i = ![0, 0, 0] := by decide +kernel
theorem off12_first : ∀ i : grid1.Coords, (i 1).val = 0 → k1_off12 i = ![512 * (blkOf (32 * (i 0).val + 6)).val, 0] := by decide +kernel

@[sl_canon] theorem off2_inSem_first (i : grid1.Coords) (h : (i 1).val = 0) (hh) : (cc1_scratch3.slice (Rect.unit (s := S6) (k1_off2 i) S1.size hh)).squeeze S_ squeezes_S1_S_ = inSem 0 := inSem_congr ((off2_first i h)) _
@[sl_canon] theorem off2_outSem_first (i : grid1.Coords) (h : (i 1).val = 0) (hh) : (cc1_scratch4.slice (Rect.unit (s := S6) (k1_off2 i) S1.size hh)).squeeze S_ squeezes_S1_S_ = outSem 0 := outSem_congr ((off2_first i h)) _
@[sl_canon] theorem off3_inSlot_first (i : grid1.Coords) (h : (i 1).val = 0) (hh hs) : (inM.slice (Rect.unit (s := S6x512x2048) (k1_off3 i) S1x512x2048.size hh) hs).squeeze S512x2048 squeezes_S1x512x2048_S512x2048 = inSlot 0 := inSlot_congr (off3_first i h) _ _
@[sl_canon] theorem off3_outSlot_first (i : grid1.Coords) (h : (i 1).val = 0) (hh hs) : (outM.slice (Rect.unit (s := S6x512x2048) (k1_off3 i) S1x512x2048.size hh) hs).squeeze S512x2048 squeezes_S1x512x2048_S512x2048 = outSlot 0 := outSlot_congr (off3_first i h) _ _
@[sl_canon] theorem off4_hBlk_first (i : grid1.Coords) (h : (i 1).val = 0) (hh hs) : hM.slice (Rect.unit (s := S32768x2048) (k1_off4 i) S512x2048.size hh) hs = hBlk (blkOf (32 * (i 0).val + 0)) := hBlk_congr (off4_first i h) _ _
@[sl_canon] theorem off4_yBlk_first (i : grid1.Coords) (h : (i 1).val = 0) (hh hs) : yM.slice (Rect.unit (s := S32768x2048) (k1_off4 i) S512x2048.size hh) hs = yBlk (blkOf (32 * (i 0).val + 0)) := yBlk_congr (off4_first i h) _ _
@[sl_canon] theorem off10_inSem_first (i : grid1.Coords) (h : (i 1).val = 0) (hh) : (cc1_scratch3.slice (Rect.unit (s := S6) (k1_off10 i) S1.size hh)).squeeze S_ squeezes_S1_S_ = inSem 0 := inSem_congr ((off10_first i h)) _
@[sl_canon] theorem off11_inSlot_first (i : grid1.Coords) (h : (i 1).val = 0) (hh hs) : (inM.slice (Rect.unit (s := S6x512x2048) (k1_off11 i) S1x512x2048.size hh) hs).squeeze S512x2048 squeezes_S1x512x2048_S512x2048 = inSlot 0 := inSlot_congr (off11_first i h) _ _
@[sl_canon] theorem off12_hBlk_first (i : grid1.Coords) (h : (i 1).val = 0) (hh hs) : hM.slice (Rect.unit (s := S32768x2048) (k1_off12 i) S512x2048.size hh) hs = hBlk (blkOf (32 * (i 0).val + 6)) := hBlk_congr (off12_first i h) _ _

variable (c : Dev nD) (H : Bf (F := F) c hM) (R : Fin 64 → S512x2048.Idx → Elt F .f32)

section
variable [∀ e, Nonempty (Elt F e)] (i : grid1.Coords)
    (arg3 : Memref sig .tc .vmem S2x8x2048 .f32) (harg3 : arg3.IsWhole) (arg4 : Memref sig .tc .vmem S8x256 .f32) (harg4 : arg4.IsWhole) (arg5 : Memref sig .tc .vmem S256x2048 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S32x64 .f32) (harg11 : arg11.IsWhole) (arg12 : Memref sig .tc .vmem S256x512 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S2048x256 .f32) (harg16 : arg16.IsWhole) (arg17 : Memref sig .tc .vmem S1x2048 .f32) (harg17 : arg17.IsWhole)
    (P : S2x8x2048.Idx → Elt F .f32) (gum : S8x256.Idx → Elt F .f32) (w1 : S256x2048.Idx → Elt F .f32) (b1 : S1x256.Idx → Elt F .f32) (g1 : S1x256.Idx → Elt F .f32) (be1 : S1x256.Idx → Elt F .f32) (w2 : S256x256.Idx → Elt F .f32) (b2 : S1x256.Idx → Elt F .f32) (cb : S32x64.Idx → Elt F .f32) (dw : S256x512.Idx → Elt F .f32) (db : S1x256.Idx → Elt F .f32) (g2 : S1x256.Idx → Elt F .f32) (be2 : S1x256.Idx → Elt F .f32) (dw2 : S2048x256.Idx → Elt F .f32) (db2 : S1x2048.Idx → Elt F .f32)

/-- The fifteen windows' staging buffers, read. -/
def winsΦ : sProp 𝕄 := iprop(owns (c : Thread nD τ) arg3 fullShare P ∗ owns (c : Thread nD τ) arg4 fullShare gum ∗ owns (c : Thread nD τ) arg5 fullShare w1 ∗ owns (c : Thread nD τ) arg6 fullShare b1 ∗ owns (c : Thread nD τ) arg7 fullShare g1 ∗ owns (c : Thread nD τ) arg8 fullShare be1 ∗ owns (c : Thread nD τ) arg9 fullShare w2 ∗ owns (c : Thread nD τ) arg10 fullShare b2 ∗ owns (c : Thread nD τ) arg11 fullShare cb ∗ owns (c : Thread nD τ) arg12 fullShare dw ∗ owns (c : Thread nD τ) arg13 fullShare db ∗ owns (c : Thread nD τ) arg14 fullShare g2 ∗ owns (c : Thread nD τ) arg15 fullShare be2 ∗ owns (c : Thread nD τ) arg16 fullShare dw2 ∗ owns (c : Thread nD τ) arg17 fullShare db2)

set_option backward.proofsInPublic true in
set_option maxHeartbeats 800000 in
/-- A half's first point: the six first blocks' copies in start, the decoded rows are computed and stored, and the first block goes through as any other. -/
theorem point_first (h : (i 1).val = 0)
    (hR : R (blkOf (32 * (i 0).val + 0)) = rowOf c H (decOf P gum w1 b1 g1 be1 w2 b2 cb dw db g2 be2 dw2 db2) (blkOf (32 * (i 0).val + 0))) :
    iprop(inΦ c H 0 none ∗ inΦ c H 1 none ∗ inΦ c H 2 none ∗ inΦ c H 3 none ∗ inΦ c H 4 none ∗ inΦ c H 5 none
      ∗ outΦ c R 0 none ∗ yOld c (blkOf (32 * (i 0).val + 0)) ∗ (∃ f, decM.view.loc (c : Thread nD τ) ↦{fullShare} f)
      ∗ winsΦ c arg3 arg4 arg5 arg6 arg7 arg8 arg9 arg10 arg11 arg12 arg13 arg14 arg15 arg16 arg17 P gum w1 b1 g1 be1 w2 b2 cb dw db g2 be2 dw2 db2 ∗ owesΦ c)
    ⊢ wp frame (wpE (defs₀ (F := F)) Variants.none c none) Set.univ (bodyOf i arg3 harg3 arg4 harg4 arg5 harg5 arg6 harg6 arg7 harg7 arg8 harg8 arg9 harg9 arg10 harg10 arg11 harg11 arg12 harg12 arg13 harg13 arg14 harg14 arg15 harg15 arg16 harg16 arg17 harg17)
      (fun _ => iprop(inΦ c H 0 (some (blkOf (32 * (i 0).val + 6))) ∗ inΦ c H 1 (some (blkOf (32 * (i 0).val + 1))) ∗ inΦ c H 2 (some (blkOf (32 * (i 0).val + 2)))
        ∗ inΦ c H 3 (some (blkOf (32 * (i 0).val + 3))) ∗ inΦ c H 4 (some (blkOf (32 * (i 0).val + 4))) ∗ inΦ c H 5 (some (blkOf (32 * (i 0).val + 5)))
        ∗ outΦ c R 0 (some (blkOf (32 * (i 0).val + 0))) ∗ decΦ c (decOf P gum w1 b1 g1 be1 w2 b2 cb dw db g2 be2 dw2 db2)
        ∗ winsΦ c arg3 arg4 arg5 arg6 arg7 arg8 arg9 arg10 arg11 arg12 arg13 arg14 arg15 arg16 arg17 P gum w1 b1 g1 be1 w2 b2 cb dw db g2 be2 dw2 db2 ∗ owesΦ c)) := by
  have c1 : k1_cond1 i = 1#1 := by rw [cond1_iff]; omega
  have c2 : ¬ k1_cond2 i = 1#1 := by rw [cond2_iff]; omega
  have c3 : k1_cond3 i = 1#1 := by rw [cond3_iff]; omega
  have c4 : ¬ k1_cond4 i = 1#1 := by rw [cond4_iff]; omega
  have hS := in_access_sub 0
  have hS' := out_access_sub 0
  have e0 : (slotOf (i 1).val).val = 0 := by rw [h]; rfl
  unfold bodyOf
  rw [cc1__add_mlp_kernel_eq_skeleton]; unfold cc1__add_mlp_kernel_skel
  rw [k1_part9_eq_skeleton]; unfold k1_part9_skel
  rw [inΦ_none, inΦ_none, inΦ_none, inΦ_none, inΦ_none, inΦ_none, outΦ_none]
  unfold yOld decΦ owesΦ winsΦ owns
  iintro ⟨⟨I0, ⟨%g0, S0⟩, T0⟩, ⟨I1, ⟨%g1', S1⟩, T1⟩, ⟨I2, ⟨%g2', S2⟩, T2⟩, ⟨I3, ⟨%g3, S3⟩, T3⟩, ⟨I4, ⟨%g4, S4⟩, T4⟩, ⟨I5, ⟨%g5, S5⟩, T5⟩, ⟨Hcell, ⟨%fo, Hout⟩⟩, ⟨%Y, Hy⟩, ⟨%fD, Hd⟩, ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩, ⟨%W, HO⟩⟩
  sl_exec
  sl_exec
  sl_step
  have hD : decM.view.read (Elt F) (decM.view.writes (Elt F) decM.view.junk (point_first.sl.Hd_1 c arg3 arg4 arg5 arg6 arg7 arg8 arg9 arg10 arg11 arg12 arg13 arg14 arg15 arg16 arg17 f3 f4 f5 f6 f7 f8 f9 f10 f11 f12 f13 f14 f15 f16 f17)) = decOf P gum w1 b1 g1 be1 w2 b2 cb dw db g2 be2 dw2 db2 := by
    subst hf3 hf4 hf5 hf6 hf7 hf8 hf9 hf10 hf11 hf12 hf13 hf14 hf15 hf16 hf17
    unfold point_first.sl.Hd_1
    refine (View.read_writes_full _ _ _ _ _).trans ?_
    unfold decOf mlpOut mlpA mlpZ mlpG mlpD1 mlpD2 mlpD3
    rfl
  isplitl [I0 T0]
  · iapply (in_started c H)
    isplitl [I0]
    · iexact I0
    iexact T0
  isplitl [I1 T1]
  · iapply (in_started c H)
    isplitl [I1]
    · iexact I1
    iexact T1
  isplitl [I2 T2]
  · iapply (in_started c H)
    isplitl [I2]
    · iexact I2
    iexact T2
  isplitl [I3 T3]
  · iapply (in_started c H)
    isplitl [I3]
    · iexact I3
    iexact T3
  isplitl [I4 T4]
  · iapply (in_started c H)
    isplitl [I4]
    · iexact I4
    iexact T4
  isplitl [I5 T5]
  · iapply (in_started c H)
    isplitl [I5]
    · iexact I5
    iexact T5
  isplitl [Hcell]
  · iapply (out_started c R)
    isplitr
    rotate_left
    · iexact Hcell
    · ipureintro
      rw [hR]
      unfold point_first.sl.Hout_w1
      unfold point_first.sl.v33
      exact stored_rows c H 0 _ _ (off8_first i h) (off9_first i h) (k1_off8_inb i) (k1_off8_inb i) (k1_off9_inb i) _ _ _ hD (View.read_writes_whole _ _ _)
  isplitl [Hd]
  · iexists _
    isplitr
    rotate_left
    · iexact Hd
    · ipureintro; exact hD
  isplitl [H3 H4 H5 H6 H7 H8 H9 H10 H11 H12 H13 H14 H15 H16 H17]
  · isplitl [H3]
    · iexists f3; isplitr
      · ipureintro; exact hf3
      iexact H3
    isplitl [H4]
    · iexists f4; isplitr
      · ipureintro; exact hf4
      iexact H4
    isplitl [H5]
    · iexists f5; isplitr
      · ipureintro; exact hf5
      iexact H5
    isplitl [H6]
    · iexists f6; isplitr
      · ipureintro; exact hf6
      iexact H6
    isplitl [H7]
    · iexists f7; isplitr
      · ipureintro; exact hf7
      iexact H7
    isplitl [H8]
    · iexists f8; isplitr
      · ipureintro; exact hf8
      iexact H8
    isplitl [H9]
    · iexists f9; isplitr
      · ipureintro; exact hf9
      iexact H9
    isplitl [H10]
    · iexists f10; isplitr
      · ipureintro; exact hf10
      iexact H10
    isplitl [H11]
    · iexists f11; isplitr
      · ipureintro; exact hf11
      iexact H11
    isplitl [H12]
    · iexists f12; isplitr
      · ipureintro; exact hf12
      iexact H12
    isplitl [H13]
    · iexists f13; isplitr
      · ipureintro; exact hf13
      iexact H13
    isplitl [H14]
    · iexists f14; isplitr
      · ipureintro; exact hf14
      iexact H14
    isplitl [H15]
    · iexists f15; isplitr
      · ipureintro; exact hf15
      iexact H15
    isplitl [H16]
    · iexists f16; isplitr
      · ipureintro; exact hf16
      iexact H16
    iexists f17; isplitr
    · ipureintro; exact hf17
    iexact H17
  iexists _; iexact HO

end

end Cert.KernelIdeal.Hand

end
-- ==== Proof.KI.Last.lean ====
module

public import proofs.«01_k».proof.Proof.KI.Ring

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## A half's last point: slots and blocks named -/

theorem off2_last : ∀ i : grid1.Coords, (i 1).val = 31 → k1_off2 i = ![1] := by decide +kernel
theorem off3_last : ∀ i : grid1.Coords, (i 1).val = 31 → k1_off3 i = ![1, 0, 0] := by decide +kernel
theorem off8_last : ∀ i : grid1.Coords, (i 1).val = 31 → k1_off8 i = ![1, 0, 0] := by decide +kernel
theorem off4_last : ∀ i : grid1.Coords, (i 1).val = 31 → k1_off4 i = ![512 * (blkOf (32 * (i 0).val + 31)).val, 0] := by decide +kernel
theorem off9_last : ∀ i : grid1.Coords, (i 1).val = 31 → k1_off9 i = ![(blkOf (32 * (i 0).val + 31)).val / 8, 0, 0] := by decide +kernel
theorem off5_last : ∀ i : grid1.Coords, (i 1).val = 31 → k1_off5 i = ![1] := by decide +kernel
theorem off7_last : ∀ i : grid1.Coords, (i 1).val = 31 → k1_off7 i = ![1, 0, 0] := by decide +kernel
theorem off6_last : ∀ i : grid1.Coords, (i 1).val = 31 → k1_off6 i = ![512 * (blkOf (32 * (i 0).val + 25)).val, 0] := by decide +kernel

@[sl_canon] theorem off2_inSem_last (i : grid1.Coords) (h : (i 1).val = 31) (hh) : (cc1_scratch3.slice (Rect.unit (s := S6) (k1_off2 i) S1.size hh)).squeeze S_ squeezes_S1_S_ = inSem 1 := inSem_congr ((off2_last i h)) _
@[sl_canon] theorem off2_outSem_last (i : grid1.Coords) (h : (i 1).val = 31) (hh) : (cc1_scratch4.slice (Rect.unit (s := S6) (k1_off2 i) S1.size hh)).squeeze S_ squeezes_S1_S_ = outSem 1 := outSem_congr ((off2_last i h)) _
@[sl_canon] theorem off3_inSlot_last (i : grid1.Coords) (h : (i 1).val = 31) (hh hs) : (inM.slice (Rect.unit (s := S6x512x2048) (k1_off3 i) S1x512x2048.size hh) hs).squeeze S512x2048 squeezes_S1x512x2048_S512x2048 = inSlot 1 := inSlot_congr (off3_last i h) _ _
@[sl_canon] theorem off3_outSlot_last (i : grid1.Coords) (h : (i 1).val = 31) (hh hs) : (outM.slice (Rect.unit (s := S6x512x2048) (k1_off3 i) S1x512x2048.size hh) hs).squeeze S512x2048 squeezes_S1x512x2048_S512x2048 = outSlot 1 := outSlot_congr (off3_last i h) _ _
@[sl_canon] theorem off4_hBlk_last (i : grid1.Coords) (h : (i 1).val = 31) (hh hs) : hM.slice (Rect.unit (s := S32768x2048) (k1_off4 i) S512x2048.size hh) hs = hBlk (blkOf (32 * (i 0).val + 31)) := hBlk_congr (off4_last i h) _ _
@[sl_canon] theorem off4_yBlk_last (i : grid1.Coords) (h : (i 1).val = 31) (hh hs) : yM.slice (Rect.unit (s := S32768x2048) (k1_off4 i) S512x2048.size hh) hs = yBlk (blkOf (32 * (i 0).val + 31)) := yBlk_congr (off4_last i h) _ _
@[sl_canon] theorem off5_outSem_last (i : grid1.Coords) (h : (i 1).val = 31) (hh) : (cc1_scratch4.slice (Rect.unit (s := S6) (k1_off5 i) S1.size hh)).squeeze S_ squeezes_S1_S_ = outSem 1 := outSem_congr ((off5_last i h)) _
@[sl_canon] theorem off7_outSlot_last (i : grid1.Coords) (h : (i 1).val = 31) (hh hs) : (outM.slice (Rect.unit (s := S6x512x2048) (k1_off7 i) S1x512x2048.size hh) hs).squeeze S512x2048 squeezes_S1x512x2048_S512x2048 = outSlot 1 := outSlot_congr (off7_last i h) _ _
@[sl_canon] theorem off6_yBlk_last (i : grid1.Coords) (h : (i 1).val = 31) (hh hs) : yM.slice (Rect.unit (s := S32768x2048) (k1_off6 i) S512x2048.size hh) hs = yBlk (blkOf (32 * (i 0).val + 25)) := yBlk_congr (off6_last i h) _ _

variable (c : Dev nD) (H : Bf (F := F) c hM) (R : Fin 64 → S512x2048.Idx → Elt F .f32)

section
variable [∀ e, Nonempty (Elt F e)] (i : grid1.Coords)
    (arg3 : Memref sig .tc .vmem S2x8x2048 .f32) (harg3 : arg3.IsWhole) (arg4 : Memref sig .tc .vmem S8x256 .f32) (harg4 : arg4.IsWhole) (arg5 : Memref sig .tc .vmem S256x2048 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S32x64 .f32) (harg11 : arg11.IsWhole) (arg12 : Memref sig .tc .vmem S256x512 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S2048x256 .f32) (harg16 : arg16.IsWhole) (arg17 : Memref sig .tc .vmem S1x2048 .f32) (harg17 : arg17.IsWhole)
    (D : S8x1x2048.Idx → Elt F .f32)

set_option backward.proofsInPublic true in
set_option maxHeartbeats 800000 in
/-- A half's last point: its block goes through as any other, and then every copy out still in flight is waited for. -/
theorem point_last (h : (i 1).val = 31)
    (hR : R (blkOf (32 * (i 0).val + 31)) = rowOf c H D (blkOf (32 * (i 0).val + 31))) :
    iprop(inΦ c H 1 (some (blkOf (32 * (i 0).val + 31)))
      ∗ outΦ c R 1 (some (blkOf (32 * (i 0).val + 25))) ∗ outΦ c R 2 (some (blkOf (32 * (i 0).val + 26))) ∗ outΦ c R 3 (some (blkOf (32 * (i 0).val + 27))) ∗ outΦ c R 4 (some (blkOf (32 * (i 0).val + 28))) ∗ outΦ c R 5 (some (blkOf (32 * (i 0).val + 29))) ∗ outΦ c R 0 (some (blkOf (32 * (i 0).val + 30)))
      ∗ yOld c (blkOf (32 * (i 0).val + 31)) ∗ decΦ c D ∗ owesΦ c)
    ⊢ wp frame (wpE (defs₀ (F := F)) Variants.none c none) Set.univ (bodyOf i arg3 harg3 arg4 harg4 arg5 harg5 arg6 harg6 arg7 harg7 arg8 harg8 arg9 harg9 arg10 harg10 arg11 harg11 arg12 harg12 arg13 harg13 arg14 harg14 arg15 harg15 arg16 harg16 arg17 harg17)
      (fun _ => iprop(inΦ c H 1 none
        ∗ outΦ c R 1 none ∗ outΦ c R 2 none ∗ outΦ c R 3 none ∗ outΦ c R 4 none ∗ outΦ c R 5 none ∗ outΦ c R 0 none
        ∗ yNew c R (blkOf (32 * (i 0).val + 25)) ∗ yNew c R (blkOf (32 * (i 0).val + 26)) ∗ yNew c R (blkOf (32 * (i 0).val + 27)) ∗ yNew c R (blkOf (32 * (i 0).val + 28)) ∗ yNew c R (blkOf (32 * (i 0).val + 29)) ∗ yNew c R (blkOf (32 * (i 0).val + 30)) ∗ yNew c R (blkOf (32 * (i 0).val + 31)) ∗ decΦ c D ∗ owesΦ c)) := by
  have c1 : ¬ k1_cond1 i = 1#1 := by rw [cond1_iff]; omega
  have c2 : k1_cond2 i = 1#1 := by rw [cond2_iff]; omega
  have c3 : ¬ k1_cond3 i = 1#1 := by rw [cond3_iff]; omega
  have c4 : k1_cond4 i = 1#1 := by rw [cond4_iff]; omega
  have hS := in_access_sub 1
  have hS' := out_access_sub 1
  have e0 : (slotOf (i 1).val).val = 1 := by rw [h]; rfl
  unfold bodyOf
  rw [cc1__add_mlp_kernel_eq_skeleton]; unfold cc1__add_mlp_kernel_skel
  rw [k1_part9_eq_skeleton]; unfold k1_part9_skel
  rw [inΦ_some, outΦ_some, outΦ_some, outΦ_some, outΦ_some, outΦ_some, outΦ_some]
  unfold yOld decΦ owesΦ
  iintro ⟨⟨⟨%fi, Hin⟩, Htok⟩, ⟨%fy1, %fo1, %hfo1, Hout1⟩, ⟨%fy2, %fo2, %hfo2, Hout2⟩, ⟨%fy3, %fo3, %hfo3, Hout3⟩, ⟨%fy4, %fo4, %hfo4, Hout4⟩, ⟨%fy5, %fo5, %hfo5, Hout5⟩, ⟨%fy0, %fo0, %hfo0, Hout0⟩, ⟨%Y, Hy⟩, ⟨%fD, %hD, Hd⟩, ⟨%W, HO⟩⟩
  sl_exec
  sl_exec
  sl_step
  isplitl [Hin Hin_dst Htok]
  · rw [inΦ_none]
    isplitl [Hin]
    · iexact Hin
    isplitl [Hin_dst]
    · iexists _; iexact Hin_dst
    iexact Htok
  isplitl [Hout1 Hout1_src]
  · rw [outΦ_none]
    isplitl [Hout1]
    · iexact Hout1
    iexists _; iexact Hout1_src
  isplitl [Hout2 Hout2_src]
  · rw [outΦ_none]
    isplitl [Hout2]
    · iexact Hout2
    iexists _; iexact Hout2_src
  isplitl [Hout3 Hout3_src]
  · rw [outΦ_none]
    isplitl [Hout3]
    · iexact Hout3
    iexists _; iexact Hout3_src
  isplitl [Hout4 Hout4_src]
  · rw [outΦ_none]
    isplitl [Hout4]
    · iexact Hout4
    iexists _; iexact Hout4_src
  isplitl [Hout5 Hout5_src]
  · rw [outΦ_none]
    isplitl [Hout5]
    · iexact Hout5
    iexists _; iexact Hout5_src
  isplitl [Hout0 Hout0_src]
  · rw [outΦ_none]
    isplitl [Hout0]
    · iexact Hout0
    iexists _; iexact Hout0_src
  isplitl [Hout1_dst]
  · iapply (y_landed c R (h := hfo1)); iexact Hout1_dst
  isplitl [Hout2_dst]
  · iapply (y_landed c R (h := hfo2)); iexact Hout2_dst
  isplitl [Hout3_dst]
  · iapply (y_landed c R (h := hfo3)); iexact Hout3_dst
  isplitl [Hout4_dst]
  · iapply (y_landed c R (h := hfo4)); iexact Hout4_dst
  isplitl [Hout5_dst]
  · iapply (y_landed c R (h := hfo5)); iexact Hout5_dst
  isplitl [Hout0_dst]
  · iapply (y_landed c R (h := hfo0)); iexact Hout0_dst
  isplitl [Hy]
  · iapply (y_landed c R (s := 1) (fs := point_last.sl.Hout1_src_w1 c H i fo1 fD) (h := by
      rw [hR]
      unfold point_last.sl.Hout1_src_w1
      exact stored_rows c H 1 _ D (off8_last i h) (off9_last i h) (k1_off8_inb i) (k1_off8_inb i) (k1_off9_inb i) _ _ _ hD (View.read_writes_whole _ _ _)))
    iexact Hy
  isplitl [Hd]
  · iexists fD
    isplitr
    · ipureintro; exact hD
    iexact Hd
  iexists _; iexact HO

end

end Cert.KernelIdeal.Hand

end
-- ==== Proof.KI.Move.lean ====
module

public import proofs.«01_k».proof.Proof.KI.State
public import proofs.«01_k».proof.Proof.KI.Mid
public import proofs.«01_k».proof.Proof.KI.First
public import proofs.«01_k».proof.Proof.KI.Last
public import Idealize.ShloMosaic.Lib.Ring.Tabled

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (H : Bf (F := F) c hM) (R : Fin 64 → S512x2048.Idx → Elt F .f32) (D : S8x1x2048.Idx → Elt F .f32)

section
variable [∀ e, Nonempty (Elt F e)] (i : grid1.Coords)
    (arg3 : Memref sig .tc .vmem S2x8x2048 .f32) (harg3 : arg3.IsWhole) (arg4 : Memref sig .tc .vmem S8x256 .f32) (harg4 : arg4.IsWhole) (arg5 : Memref sig .tc .vmem S256x2048 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S1x256 .f32) (harg10 : arg10.IsWhole) (arg11 : Memref sig .tc .vmem S32x64 .f32) (harg11 : arg11.IsWhole) (arg12 : Memref sig .tc .vmem S256x512 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S2048x256 .f32) (harg16 : arg16.IsWhole) (arg17 : Memref sig .tc .vmem S1x2048 .f32) (harg17 : arg17.IsWhole)
    (P : S2x8x2048.Idx → Elt F .f32) (gum : S8x256.Idx → Elt F .f32) (w1 : S256x2048.Idx → Elt F .f32) (b1 : S1x256.Idx → Elt F .f32) (g1 : S1x256.Idx → Elt F .f32) (be1 : S1x256.Idx → Elt F .f32) (w2 : S256x256.Idx → Elt F .f32) (b2 : S1x256.Idx → Elt F .f32) (cb : S32x64.Idx → Elt F .f32) (dw : S256x512.Idx → Elt F .f32) (db : S1x256.Idx → Elt F .f32) (g2 : S1x256.Idx → Elt F .f32) (be2 : S1x256.Idx → Elt F .f32) (dw2 : S2048x256.Idx → Elt F .f32) (db2 : S1x2048.Idx → Elt F .f32)

/-- The windows, and the body over them, as one step of the whole. -/
abbrev Moves : Prop := iprop(core c H R D (32 * (i 0).val + (i 1).val) ∗ winsΦ c arg3 arg4 arg5 arg6 arg7 arg8 arg9 arg10 arg11 arg12 arg13 arg14 arg15 arg16 arg17 P gum w1 b1 g1 be1 w2 b2 cb dw db g2 be2 dw2 db2)
  ⊢ wp frame (wpE (defs₀ (F := F)) Variants.none c none) Set.univ (bodyOf i arg3 harg3 arg4 harg4 arg5 harg5 arg6 harg6 arg7 harg7 arg8 harg8 arg9 harg9 arg10 harg10 arg11 harg11 arg12 harg12 arg13 harg13 arg14 harg14 arg15 harg15 arg16 harg16 arg17 harg17)
    (fun _ => iprop(core c H R D (32 * (i 0).val + (i 1).val + 1) ∗ winsΦ c arg3 arg4 arg5 arg6 arg7 arg8 arg9 arg10 arg11 arg12 arg13 arg14 arg15 arg16 arg17 P gum w1 b1 g1 be1 w2 b2 cb dw db g2 be2 dw2 db2))

theorem move_mid (h6 : 6 ≤ (i 1).val) (h26 : (i 1).val < 26) (hR : ∀ b, R b = rowOf c H D b) : Moves c H R D i arg3 harg3 arg4 harg4 arg5 harg5 arg6 harg6 arg7 harg7 arg8 harg8 arg9 harg9 arg10 harg10 arg11 harg11 arg12 harg12 arg13 harg13 arg14 harg14 arg15 harg15 arg16 harg16 arg17 harg17 P gum w1 b1 g1 be1 w2 b2 cb dw db g2 be2 dw2 db2 := by
  refine core_step c H R D _ [slotOf (i 1).val] [slotOf (i 1).val] [blkOf (32 * (i 0).val + (i 1).val), blkOf (32 * (i 0).val + (i 1).val - 6)]
    (List.nodup_singleton _) (List.nodup_singleton _) (y_pair_nodup i h6) (in_keep i (by omega)) (out_keep i (by omega)) (y_keep i h6 (by omega)) ?_
  simp only [bigSepL_singleton, yΦ_away, yΦ_old, yΦ_new, chain_cons, in_now i (by omega), in_next i h26, out_now i h6, out_next i (by omega), y_now i, y_back_now i h6, y_next i (by omega), y_back_next i h6]
  rw [decSt_pos c D (32 * (i 0).val + (i 1).val) (by omega), decSt_pos c D (32 * (i 0).val + (i 1).val + 1) (by omega)]
  refine BIBase.Entails.trans ?_ ((sep_mono_left (Q := winsΦ c arg3 arg4 arg5 arg6 arg7 arg8 arg9 arg10 arg11 arg12 arg13 arg14 arg15 arg16 arg17 P gum w1 b1 g1 be1 w2 b2 cb dw db g2 be2 dw2 db2) (point_mid c H R i arg3 harg3 arg4 harg4 arg5 harg5 arg6 harg6 arg7 harg7 arg8 harg8 arg9 harg9 arg10 harg10 arg11 harg11 arg12 harg12 arg13 harg13 arg14 harg14 arg15 harg15 arg16 harg16 arg17 harg17 D h6 h26 (hR _))).trans ((wp_frame_r _ _ _).trans (wp_mono _ _ _ fun _ => ?_)))
  · iintro ⟨A, B, ⟨C, -⟩, Dd, O, Ww⟩
    isplitr [Ww]
    · isplitl [A]; · iexact A
      isplitl [B]; · iexact B
      isplitl [C]; · iexact C
      isplitl [Dd]; · iexact Dd
      iexact O
    iexact Ww
  · iintro ⟨⟨A, B, C, Dd, O⟩, Ww⟩
    isplitl [A]; · iexact A
    isplitl [B]; · iexact B
    isplitl [C]
    · isplitr; · iempintro
      iexact C
    isplitl [Dd]; · iexact Dd
    isplitl [O]; · iexact O
    iexact Ww

theorem move_late (h26 : 26 ≤ (i 1).val) (h31 : (i 1).val < 31) (hR : ∀ b, R b = rowOf c H D b) : Moves c H R D i arg3 harg3 arg4 harg4 arg5 harg5 arg6 harg6 arg7 harg7 arg8 harg8 arg9 harg9 arg10 harg10 arg11 harg11 arg12 harg12 arg13 harg13 arg14 harg14 arg15 harg15 arg16 harg16 arg17 harg17 P gum w1 b1 g1 be1 w2 b2 cb dw db g2 be2 dw2 db2 := by
  have h6 : 6 ≤ (i 1).val := by omega
  refine core_step c H R D _ [slotOf (i 1).val] [slotOf (i 1).val] [blkOf (32 * (i 0).val + (i 1).val), blkOf (32 * (i 0).val + (i 1).val - 6)]
    (List.nodup_singleton _) (List.nodup_singleton _) (y_pair_nodup i h6) (in_keep i (by omega)) (out_keep i (by omega)) (y_keep i h6 (by omega)) ?_
  simp only [bigSepL_singleton, yΦ_away, yΦ_old, yΦ_new, chain_cons, in_now i (by omega), in_over i h26, out_now i h6, out_next i (by omega), y_now i, y_back_now i h6, y_next i (by omega), y_back_next i h6]
  rw [decSt_pos c D (32 * (i 0).val + (i 1).val) (by omega), decSt_pos c D (32 * (i 0).val + (i 1).val + 1) (by omega)]
  refine BIBase.Entails.trans ?_ ((sep_mono_left (Q := winsΦ c arg3 arg4 arg5 arg6 arg7 arg8 arg9 arg10 arg11 arg12 arg13 arg14 arg15 arg16 arg17 P gum w1 b1 g1 be1 w2 b2 cb dw db g2 be2 dw2 db2) (point_late c H R i arg3 harg3 arg4 harg4 arg5 harg5 arg6 harg6 arg7 harg7 arg8 harg8 arg9 harg9 arg10 harg10 arg11 harg11 arg12 harg12 arg13 harg13 arg14 harg14 arg15 harg15 arg16 harg16 arg17 harg17 D h26 h31 (hR _))).trans ((wp_frame_r _ _ _).trans (wp_mono _ _ _ fun _ => ?_)))
  · iintro ⟨A, B, ⟨C, -⟩, Dd, O, Ww⟩
    isplitr [Ww]
    · isplitl [A]; · iexact A
      isplitl [B]; · iexact B
      isplitl [C]; · iexact C
      isplitl [Dd]; · iexact Dd
      iexact O
    iexact Ww
  · iintro ⟨⟨A, B, C, Dd, O⟩, Ww⟩
    isplitl [A]; · iexact A
    isplitl [B]; · iexact B
    isplitl [C]
    · isplitr; · iempintro
      iexact C
    isplitl [Dd]; · iexact Dd
    isplitl [O]; · iexact O
    iexact Ww

theorem move_early (h1 : 1 ≤ (i 1).val) (h6 : (i 1).val < 6) (hR : ∀ b, R b = rowOf c H D b) : Moves c H R D i arg3 harg3 arg4 harg4 arg5 harg5 arg6 harg6 arg7 harg7 arg8 harg8 arg9 harg9 arg10 harg10 arg11 harg11 arg12 harg12 arg13 harg13 arg14 harg14 arg15 harg15 arg16 harg16 arg17 harg17 P gum w1 b1 g1 be1 w2 b2 cb dw db g2 be2 dw2 db2 := by
  refine core_step c H R D _ [slotOf (i 1).val] [slotOf (i 1).val] [blkOf (32 * (i 0).val + (i 1).val)]
    (List.nodup_singleton _) (List.nodup_singleton _) (List.nodup_singleton _) (in_keep i (by omega)) (out_keep i (by omega)) (y_keep_early i h6) ?_
  simp only [bigSepL_singleton, yΦ_away, yΦ_old, yΦ_new, in_now i (by omega), in_next i (by omega), out_free i h6, out_next i (by omega), y_now i, y_next i (by omega)]
  rw [decSt_pos c D (32 * (i 0).val + (i 1).val) (by omega), decSt_pos c D (32 * (i 0).val + (i 1).val + 1) (by omega)]
  refine BIBase.Entails.trans ?_ ((sep_mono_left (Q := winsΦ c arg3 arg4 arg5 arg6 arg7 arg8 arg9 arg10 arg11 arg12 arg13 arg14 arg15 arg16 arg17 P gum w1 b1 g1 be1 w2 b2 cb dw db g2 be2 dw2 db2) (point_early c H R i arg3 harg3 arg4 harg4 arg5 harg5 arg6 harg6 arg7 harg7 arg8 harg8 arg9 harg9 arg10 harg10 arg11 harg11 arg12 harg12 arg13 harg13 arg14 harg14 arg15 harg15 arg16 harg16 arg17 harg17 D h1 h6 (hR _))).trans ((wp_frame_r _ _ _).trans (wp_mono _ _ _ fun _ => ?_)))
  · iintro ⟨A, B, C, Dd, O, Ww⟩
    isplitr [Ww]
    · isplitl [A]; · iexact A
      isplitl [B]; · iexact B
      isplitl [C]; · iexact C
      isplitl [Dd]; · iexact Dd
      iexact O
    iexact Ww
  · iintro ⟨⟨A, B, Dd, O⟩, Ww⟩
    isplitl [A]; · iexact A
    isplitl [B]; · iexact B
    isplitr; · iempintro
    isplitl [Dd]; · iexact Dd
    isplitl [O]; · iexact O
    iexact Ww

theorem move_first (h : (i 1).val = 0) (hD : D = decOf P gum w1 b1 g1 be1 w2 b2 cb dw db g2 be2 dw2 db2) (hR : ∀ b, R b = rowOf c H D b) : Moves c H R D i arg3 harg3 arg4 harg4 arg5 harg5 arg6 harg6 arg7 harg7 arg8 harg8 arg9 harg9 arg10 harg10 arg11 harg11 arg12 harg12 arg13 harg13 arg14 harg14 arg15 harg15 arg16 harg16 arg17 harg17 P gum w1 b1 g1 be1 w2 b2 cb dw db g2 be2 dw2 db2 := by
  have e0 : blkOf (32 * (i 0).val + (i 1).val) = blkOf (32 * (i 0).val + 0) := by rw [h]
  have s0 : slotOf (i 1).val = 0 := by rw [h]; rfl
  obtain ⟨n0, n1, n2, n3, n4, n5⟩ := first_in_next i h
  have on := out_next i (by omega); have of := out_free i (by omega)
  have yn := y_now i; have yx := y_next i (by omega); have yk := y_keep_early i (by omega); have ok := out_keep i (by omega)
  rw [s0, e0] at on; rw [s0] at of ok; rw [e0] at yn yx yk
  refine core_step c H R D _ [0, 1, 2, 3, 4, 5] [0] [blkOf (32 * (i 0).val + 0)]
    (by decide) (List.nodup_singleton _) (List.nodup_singleton _) (fun s hs => absurd hs (by revert s; decide)) ok yk ?_
  simp only [bigSepL_singleton, yΦ_away, yΦ_old, yΦ_new, chain_cons, first_in i h, n0, n1, n2, n3, n4, n5, on, of, yn, yx]
  rw [decSt_pos c D _ (by omega : 32 * (i 0).val + (i 1).val + 1 ≠ 0)]
  subst hD
  refine BIBase.Entails.trans ?_ ((point_first c H R i arg3 harg3 arg4 harg4 arg5 harg5 arg6 harg6 arg7 harg7 arg8 harg8 arg9 harg9 arg10 harg10 arg11 harg11 arg12 harg12 arg13 harg13 arg14 harg14 arg15 harg15 arg16 harg16 arg17 harg17 P gum w1 b1 g1 be1 w2 b2 cb dw db g2 be2 dw2 db2 h (hR _)).trans (wp_mono _ _ _ fun _ => ?_))
  · iintro ⟨⟨A0, A1, A2, A3, A4, A5⟩, B, C, Dd, O, Ww⟩
    isplitl [A0]; · iexact A0
    isplitl [A1]; · iexact A1
    isplitl [A2]; · iexact A2
    isplitl [A3]; · iexact A3
    isplitl [A4]; · iexact A4
    isplitl [A5]; · iexact A5
    isplitl [B]; · iexact B
    isplitl [C]; · iexact C
    isplitl [Dd]; · iapply (decSt_any c _ _); iexact Dd
    isplitl [Ww]; · iexact Ww
    iexact O
  · iintro ⟨A0, A1, A2, A3, A4, A5, B, Dd, Ww, O⟩
    isplitl [A0 A1 A2 A3 A4 A5]
    · isplitl [A0]; · iexact A0
      isplitl [A1]; · iexact A1
      isplitl [A2]; · iexact A2
      isplitl [A3]; · iexact A3
      isplitl [A4]; · iexact A4
      iexact A5
    isplitl [B]; · iexact B
    isplitr; · iempintro
    isplitl [Dd]; · iexact Dd
    isplitl [O]; · iexact O
    iexact Ww

theorem move_last (h : (i 1).val = 31) (hR : ∀ b, R b = rowOf c H D b) : Moves c H R D i arg3 harg3 arg4 harg4 arg5 harg5 arg6 harg6 arg7 harg7 arg8 harg8 arg9 harg9 arg10 harg10 arg11 harg11 arg12 harg12 arg13 harg13 arg14 harg14 arg15 harg15 arg16 harg16 arg17 harg17 P gum w1 b1 g1 be1 w2 b2 cb dw db g2 be2 dw2 db2 := by
  have e0 : blkOf (32 * (i 0).val + (i 1).val) = blkOf (32 * (i 0).val + 31) := by rw [h]
  have s0 : slotOf (i 1).val = 1 := by rw [h]; rfl
  obtain ⟨m0, m1, m2, m3, m4, m5⟩ := last_out i h
  have inow := in_now i (by omega); have iov := in_over i (by omega); have ik := in_keep i (by omega)
  have yn := y_now i; have yx := last_y_next i h; have yo := last_y i h
  rw [s0, e0] at inow; rw [s0] at iov ik; rw [e0] at yn
  refine core_step c H R D _ [1] [1, 2, 3, 4, 5, 0] (lastBlks i)
    (List.nodup_singleton _) (by decide) (last_y_nodup i) ik (fun s hs => absurd hs (by revert s; decide)) (last_y_keep i h) ?_
  have y0 := yo 0; have y1 := yo 1; have y2 := yo 2; have y3 := yo 3; have y4 := yo 4; have y5 := yo 5
  have z0 := yx 0; have z1 := yx 1; have z2 := yx 2; have z3 := yx 3; have z4 := yx 4; have z5 := yx 5; have z6 := yx 6
  clear yo yx
  change ySt _ (blkOf (32 * (i 0).val + 25)) = _ at y0 z0
  change ySt _ (blkOf (32 * (i 0).val + 26)) = _ at y1 z1
  change ySt _ (blkOf (32 * (i 0).val + 27)) = _ at y2 z2
  change ySt _ (blkOf (32 * (i 0).val + 28)) = _ at y3 z3
  change ySt _ (blkOf (32 * (i 0).val + 29)) = _ at y4 z4
  change ySt _ (blkOf (32 * (i 0).val + 30)) = _ at y5 z5
  change ySt _ (blkOf (32 * (i 0).val + 31)) = _ at z6
  simp only [bigSepL_singleton, yΦ_away, yΦ_old, yΦ_new, chain_cons, inow, iov, m0, m1, m2, m3, m4, m5, last_out_next i h, yn, y0, y1, y2, y3, y4, y5, z0, z1, z2, z3, z4, z5, z6]
  rw [decSt_pos c D (32 * (i 0).val + (i 1).val) (by omega), decSt_pos c D (32 * (i 0).val + (i 1).val + 1) (by omega)]
  refine BIBase.Entails.trans ?_ ((sep_mono_left (Q := winsΦ c arg3 arg4 arg5 arg6 arg7 arg8 arg9 arg10 arg11 arg12 arg13 arg14 arg15 arg16 arg17 P gum w1 b1 g1 be1 w2 b2 cb dw db g2 be2 dw2 db2) (point_last c H R i arg3 harg3 arg4 harg4 arg5 harg5 arg6 harg6 arg7 harg7 arg8 harg8 arg9 harg9 arg10 harg10 arg11 harg11 arg12 harg12 arg13 harg13 arg14 harg14 arg15 harg15 arg16 harg16 arg17 harg17 D h (hR _))).trans ((wp_frame_r _ _ _).trans (wp_mono _ _ _ fun _ => ?_)))
  · iintro ⟨A, ⟨B1, B2, B3, B4, B5, B0⟩, ⟨-, -, -, -, -, -, C⟩, Dd, O, Ww⟩
    isplitr [Ww]
    · isplitl [A]; · iexact A
      isplitl [B1]; · iexact B1
      isplitl [B2]; · iexact B2
      isplitl [B3]; · iexact B3
      isplitl [B4]; · iexact B4
      isplitl [B5]; · iexact B5
      isplitl [B0]; · iexact B0
      isplitl [C]; · iexact C
      isplitl [Dd]; · iexact Dd
      iexact O
    iexact Ww
  · iintro ⟨⟨A, B1, B2, B3, B4, B5, B0, C0, C1, C2, C3, C4, C5, C6, Dd, O⟩, Ww⟩
    isplitl [A]; · iexact A
    isplitl [B1 B2 B3 B4 B5 B0]
    · isplitl [B1]; · iexact B1
      isplitl [B2]; · iexact B2
      isplitl [B3]; · iexact B3
      isplitl [B4]; · iexact B4
      isplitl [B5]; · iexact B5
      iexact B0
    isplitl [C0 C1 C2 C3 C4 C5 C6]
    · isplitl [C0]; · iexact C0
      isplitl [C1]; · iexact C1
      isplitl [C2]; · iexact C2
      isplitl [C3]; · iexact C3
      isplitl [C4]; · iexact C4
      isplitl [C5]; · iexact C5
      iexact C6
    isplitl [Dd]; · iexact Dd
    isplitl [O]; · iexact O
    iexact Ww

/-- Every point of the second kernel moves the whole one step on. -/
theorem move (hD : D = decOf P gum w1 b1 g1 be1 w2 b2 cb dw db g2 be2 dw2 db2) (hR : ∀ b, R b = rowOf c H D b) : Moves c H R D i arg3 harg3 arg4 harg4 arg5 harg5 arg6 harg6 arg7 harg7 arg8 harg8 arg9 harg9 arg10 harg10 arg11 harg11 arg12 harg12 arg13 harg13 arg14 harg14 arg15 harg15 arg16 harg16 arg17 harg17 P gum w1 b1 g1 be1 w2 b2 cb dw db g2 be2 dw2 db2 := by
  have hlt : (i 1).val < 32 := (i 1).isLt
  by_cases h0 : (i 1).val = 0
  · exact move_first c H R D i arg3 harg3 arg4 harg4 arg5 harg5 arg6 harg6 arg7 harg7 arg8 harg8 arg9 harg9 arg10 harg10 arg11 harg11 arg12 harg12 arg13 harg13 arg14 harg14 arg15 harg15 arg16 harg16 arg17 harg17 P gum w1 b1 g1 be1 w2 b2 cb dw db g2 be2 dw2 db2 h0 hD hR
  by_cases h6 : (i 1).val < 6
  · exact move_early c H R D i arg3 harg3 arg4 harg4 arg5 harg5 arg6 harg6 arg7 harg7 arg8 harg8 arg9 harg9 arg10 harg10 arg11 harg11 arg12 harg12 arg13 harg13 arg14 harg14 arg15 harg15 arg16 harg16 arg17 harg17 P gum w1 b1 g1 be1 w2 b2 cb dw db g2 be2 dw2 db2 (by omega) h6 hR
  by_cases h26 : (i 1).val < 26
  · exact move_mid c H R D i arg3 harg3 arg4 harg4 arg5 harg5 arg6 harg6 arg7 harg7 arg8 harg8 arg9 harg9 arg10 harg10 arg11 harg11 arg12 harg12 arg13 harg13 arg14 harg14 arg15 harg15 arg16 harg16 arg17 harg17 P gum w1 b1 g1 be1 w2 b2 cb dw db g2 be2 dw2 db2 (by omega) h26 hR
  by_cases h31 : (i 1).val < 31
  · exact move_late c H R D i arg3 harg3 arg4 harg4 arg5 harg5 arg6 harg6 arg7 harg7 arg8 harg8 arg9 harg9 arg10 harg10 arg11 harg11 arg12 harg12 arg13 harg13 arg14 harg14 arg15 harg15 arg16 harg16 arg17 harg17 P gum w1 b1 g1 be1 w2 b2 cb dw db g2 be2 dw2 db2 (by omega) h31 hR
  exact move_last c H R D i arg3 harg3 arg4 harg4 arg5 harg5 arg6 harg6 arg7 harg7 arg8 harg8 arg9 harg9 arg10 harg10 arg11 harg11 arg12 harg12 arg13 harg13 arg14 harg14 arg15 harg15 arg16 harg16 arg17 harg17 P gum w1 b1 g1 be1 w2 b2 cb dw db g2 be2 dw2 db2 (by omega) hR

end

end Cert.KernelIdeal.Hand
-- ==== Proof.KI.Body1.lean ====
module

public import proofs.«01_k».proof.Proof.KI.Move
public import proofs.«01_k».proof.Proof.Gen.KernelIdeal.Points
public import proofs.«01_k».proof.Proof.Gen.KernelIdeal.Launch
public import Idealize.ShloMosaic.Lib.Pipeline.FrameBody
public import Idealize.ShloMosaic.Lib.Pipeline.ValueKit.Geometry

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A block at offset zero of the whole array's size, read: the array. -/
theorem read_all {sp : Space} {S : Shape} {e : EltTy} (M : Memref sig .tc sp S e) {off : Fin S.rank → Nat} (inb : ∀ a, off a + S.size a ≤ S.size a) (hs) (h : ∀ a, off a = 0)
    (f : M.view.ty.Contents (Elt F)) : (M.slice (Rect.unit off S.size inb) hs).view.read (Elt F) f = M.view.read (Elt F) f := by
  funext x
  have hx : (Rect.unit off S.size inb).emb x = x := by
    funext a
    refine Fin.ext ?_
    rw [ValueKit.rect_emb_unit_val, h a, Nat.zero_add]
  exact congrArg (M.view.read (Elt F) f) hx

variable (V : (c : Dev nD) → (b : Ref sig .tc) → Buf (Elt F) ((c : Thread nD τ).loc b)) (c : Dev nD)

/-- The decoded rows, of the arrays the second kernel is entered with; -/
def decRows : S8x1x2048.Idx → Elt F .f32 := decOf (V c main_v1) (V c main_v2) (V c main_arg2) (V c main_v3) (V c main_v4) (V c main_v5) (V c main_arg6) (V c main_v6) (V c main_arg8) (V c main_arg9) (V c main_v7) (V c main_v8) (V c main_v9) (V c main_arg13) (V c main_v10)

/-- and the rows block `b` of its result ends with. -/
def rowsOut (b : Fin 64) : S512x2048.Idx → Elt F .f32 := rowOf c (V c main_v0) (decRows V c) b

/-- The first kernel's staging buffers, which the second kernel does not touch. -/
def idle1 : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f))

/-- The second kernel's invariant before point `t`. -/
def inv1 (t : ℕ) : sProp 𝕄 :=
  iprop(Ring.AtW (σ := fun _ => Option (Fin 64)) (inΦ c (V c main_v0)) (inSt t) ∗ Ring.AtW (σ := fun _ => Option (Fin 64)) (outΦ c (rowsOut V c)) (outSt t)
    ∗ Ring.AtW (σ := fun _ => Option Bool) (yΦ c (rowsOut V c)) (ySt t) ∗ decSt c (decRows V c) t
    ∗ (hM.view.loc (c : Thread nD τ) ↦{Transfers.shareDrop fullShare 6} V c main_v0) ∗ idle1 c)

/-- The second pipeline's proof data: every window's array is read whole and kept. -/
def dat1 : Dat τ (Elt F) Unit ℕ (Pipeline.UD sig nD τ) ℕ cfg1 c where
  A w := V c (Pipeline.arrRef spec1 w)
  after w _ := match w with
    | ⟨0, _⟩ => V c main_v1
    | ⟨1, _⟩ => V c main_v2
    | ⟨2, _⟩ => V c main_arg2
    | ⟨3, _⟩ => V c main_v3
    | ⟨4, _⟩ => V c main_v4
    | ⟨5, _⟩ => V c main_v5
    | ⟨6, _⟩ => V c main_arg6
    | ⟨7, _⟩ => V c main_v6
    | ⟨8, _⟩ => V c main_arg8
    | ⟨9, _⟩ => V c main_arg9
    | ⟨10, _⟩ => V c main_v7
    | ⟨11, _⟩ => V c main_v8
    | ⟨12, _⟩ => V c main_v9
    | ⟨13, _⟩ => V c main_arg13
    | ⟨14, _⟩ => V c main_v10
  Φ t := inv1 V c t.val
  q _ := fullShare
  owed _ := 0

theorem A1_eq (w : Fin cfg1.W) : (dat1 V c).A w = V c (Pipeline.arrRef spec1 w) := by dsimp only [dat1]

theorem off1_w0 : ∀ t : Fin cfg1.N, ∀ a, (win1_0.rect t).off a = 0 := by decide +kernel
theorem off1_w1 : ∀ t : Fin cfg1.N, ∀ a, (win1_1.rect t).off a = 0 := by decide +kernel
theorem off1_w2 : ∀ t : Fin cfg1.N, ∀ a, (win1_2.rect t).off a = 0 := by decide +kernel
theorem off1_w3 : ∀ t : Fin cfg1.N, ∀ a, (win1_3.rect t).off a = 0 := by decide +kernel
theorem off1_w4 : ∀ t : Fin cfg1.N, ∀ a, (win1_4.rect t).off a = 0 := by decide +kernel
theorem off1_w5 : ∀ t : Fin cfg1.N, ∀ a, (win1_5.rect t).off a = 0 := by decide +kernel
theorem off1_w6 : ∀ t : Fin cfg1.N, ∀ a, (win1_6.rect t).off a = 0 := by decide +kernel
theorem off1_w7 : ∀ t : Fin cfg1.N, ∀ a, (win1_7.rect t).off a = 0 := by decide +kernel
theorem off1_w8 : ∀ t : Fin cfg1.N, ∀ a, (win1_8.rect t).off a = 0 := by decide +kernel
theorem off1_w9 : ∀ t : Fin cfg1.N, ∀ a, (win1_9.rect t).off a = 0 := by decide +kernel
theorem off1_w10 : ∀ t : Fin cfg1.N, ∀ a, (win1_10.rect t).off a = 0 := by decide +kernel
theorem off1_w11 : ∀ t : Fin cfg1.N, ∀ a, (win1_11.rect t).off a = 0 := by decide +kernel
theorem off1_w12 : ∀ t : Fin cfg1.N, ∀ a, (win1_12.rect t).off a = 0 := by decide +kernel
theorem off1_w13 : ∀ t : Fin cfg1.N, ∀ a, (win1_13.rect t).off a = 0 := by decide +kernel
theorem off1_w14 : ∀ t : Fin cfg1.N, ∀ a, (win1_14.rect t).off a = 0 := by decide +kernel
theorem fetched1_w0 (t : Fin cfg1.N) : (dat1 V c).blockOf 0 t = V c main_v1 := read_all (Memref.whole main_v1) _ _ (off1_w0 t) _
theorem fetched1_w1 (t : Fin cfg1.N) : (dat1 V c).blockOf 1 t = V c main_v2 := read_all (Memref.whole main_v2) _ _ (off1_w1 t) _
theorem fetched1_w2 (t : Fin cfg1.N) : (dat1 V c).blockOf 2 t = V c main_arg2 := read_all (Memref.whole main_arg2) _ _ (off1_w2 t) _
theorem fetched1_w3 (t : Fin cfg1.N) : (dat1 V c).blockOf 3 t = V c main_v3 := read_all (Memref.whole main_v3) _ _ (off1_w3 t) _
theorem fetched1_w4 (t : Fin cfg1.N) : (dat1 V c).blockOf 4 t = V c main_v4 := read_all (Memref.whole main_v4) _ _ (off1_w4 t) _
theorem fetched1_w5 (t : Fin cfg1.N) : (dat1 V c).blockOf 5 t = V c main_v5 := read_all (Memref.whole main_v5) _ _ (off1_w5 t) _
theorem fetched1_w6 (t : Fin cfg1.N) : (dat1 V c).blockOf 6 t = V c main_arg6 := read_all (Memref.whole main_arg6) _ _ (off1_w6 t) _
theorem fetched1_w7 (t : Fin cfg1.N) : (dat1 V c).blockOf 7 t = V c main_v6 := read_all (Memref.whole main_v6) _ _ (off1_w7 t) _
theorem fetched1_w8 (t : Fin cfg1.N) : (dat1 V c).blockOf 8 t = V c main_arg8 := read_all (Memref.whole main_arg8) _ _ (off1_w8 t) _
theorem fetched1_w9 (t : Fin cfg1.N) : (dat1 V c).blockOf 9 t = V c main_arg9 := read_all (Memref.whole main_arg9) _ _ (off1_w9 t) _
theorem fetched1_w10 (t : Fin cfg1.N) : (dat1 V c).blockOf 10 t = V c main_v7 := read_all (Memref.whole main_v7) _ _ (off1_w10 t) _
theorem fetched1_w11 (t : Fin cfg1.N) : (dat1 V c).blockOf 11 t = V c main_v8 := read_all (Memref.whole main_v8) _ _ (off1_w11 t) _
theorem fetched1_w12 (t : Fin cfg1.N) : (dat1 V c).blockOf 12 t = V c main_v9 := read_all (Memref.whole main_v9) _ _ (off1_w12 t) _
theorem fetched1_w13 (t : Fin cfg1.N) : (dat1 V c).blockOf 13 t = V c main_arg13 := read_all (Memref.whole main_arg13) _ _ (off1_w13 t) _
theorem fetched1_w14 (t : Fin cfg1.N) : (dat1 V c).blockOf 14 t = V c main_v10 := read_all (Memref.whole main_v10) _ _ (off1_w14 t) _
theorem before1_w0 (t : Fin cfg1.N) (d) : (dat1 V c).before 0 t d = V c main_v1 :=
  ((dat1 V c).before_in_eq_fetched 0 rfl (fun _ => rfl) (fun _ _ _ => rfl) (fun t => (fetched1_w0 V c t).symm) t d).trans (fetched1_w0 V c t)
theorem before1_w1 (t : Fin cfg1.N) (d) : (dat1 V c).before 1 t d = V c main_v2 :=
  ((dat1 V c).before_in_eq_fetched 1 rfl (fun _ => rfl) (fun _ _ _ => rfl) (fun t => (fetched1_w1 V c t).symm) t d).trans (fetched1_w1 V c t)
theorem before1_w2 (t : Fin cfg1.N) (d) : (dat1 V c).before 2 t d = V c main_arg2 :=
  ((dat1 V c).before_in_eq_fetched 2 rfl (fun _ => rfl) (fun _ _ _ => rfl) (fun t => (fetched1_w2 V c t).symm) t d).trans (fetched1_w2 V c t)
theorem before1_w3 (t : Fin cfg1.N) (d) : (dat1 V c).before 3 t d = V c main_v3 :=
  ((dat1 V c).before_in_eq_fetched 3 rfl (fun _ => rfl) (fun _ _ _ => rfl) (fun t => (fetched1_w3 V c t).symm) t d).trans (fetched1_w3 V c t)
theorem before1_w4 (t : Fin cfg1.N) (d) : (dat1 V c).before 4 t d = V c main_v4 :=
  ((dat1 V c).before_in_eq_fetched 4 rfl (fun _ => rfl) (fun _ _ _ => rfl) (fun t => (fetched1_w4 V c t).symm) t d).trans (fetched1_w4 V c t)
theorem before1_w5 (t : Fin cfg1.N) (d) : (dat1 V c).before 5 t d = V c main_v5 :=
  ((dat1 V c).before_in_eq_fetched 5 rfl (fun _ => rfl) (fun _ _ _ => rfl) (fun t => (fetched1_w5 V c t).symm) t d).trans (fetched1_w5 V c t)
theorem before1_w6 (t : Fin cfg1.N) (d) : (dat1 V c).before 6 t d = V c main_arg6 :=
  ((dat1 V c).before_in_eq_fetched 6 rfl (fun _ => rfl) (fun _ _ _ => rfl) (fun t => (fetched1_w6 V c t).symm) t d).trans (fetched1_w6 V c t)
theorem before1_w7 (t : Fin cfg1.N) (d) : (dat1 V c).before 7 t d = V c main_v6 :=
  ((dat1 V c).before_in_eq_fetched 7 rfl (fun _ => rfl) (fun _ _ _ => rfl) (fun t => (fetched1_w7 V c t).symm) t d).trans (fetched1_w7 V c t)
theorem before1_w8 (t : Fin cfg1.N) (d) : (dat1 V c).before 8 t d = V c main_arg8 :=
  ((dat1 V c).before_in_eq_fetched 8 rfl (fun _ => rfl) (fun _ _ _ => rfl) (fun t => (fetched1_w8 V c t).symm) t d).trans (fetched1_w8 V c t)
theorem before1_w9 (t : Fin cfg1.N) (d) : (dat1 V c).before 9 t d = V c main_arg9 :=
  ((dat1 V c).before_in_eq_fetched 9 rfl (fun _ => rfl) (fun _ _ _ => rfl) (fun t => (fetched1_w9 V c t).symm) t d).trans (fetched1_w9 V c t)
theorem before1_w10 (t : Fin cfg1.N) (d) : (dat1 V c).before 10 t d = V c main_v7 :=
  ((dat1 V c).before_in_eq_fetched 10 rfl (fun _ => rfl) (fun _ _ _ => rfl) (fun t => (fetched1_w10 V c t).symm) t d).trans (fetched1_w10 V c t)
theorem before1_w11 (t : Fin cfg1.N) (d) : (dat1 V c).before 11 t d = V c main_v8 :=
  ((dat1 V c).before_in_eq_fetched 11 rfl (fun _ => rfl) (fun _ _ _ => rfl) (fun t => (fetched1_w11 V c t).symm) t d).trans (fetched1_w11 V c t)
theorem before1_w12 (t : Fin cfg1.N) (d) : (dat1 V c).before 12 t d = V c main_v9 :=
  ((dat1 V c).before_in_eq_fetched 12 rfl (fun _ => rfl) (fun _ _ _ => rfl) (fun t => (fetched1_w12 V c t).symm) t d).trans (fetched1_w12 V c t)
theorem before1_w13 (t : Fin cfg1.N) (d) : (dat1 V c).before 13 t d = V c main_arg13 :=
  ((dat1 V c).before_in_eq_fetched 13 rfl (fun _ => rfl) (fun _ _ _ => rfl) (fun t => (fetched1_w13 V c t).symm) t d).trans (fetched1_w13 V c t)
theorem before1_w14 (t : Fin cfg1.N) (d) : (dat1 V c).before 14 t d = V c main_v10 :=
  ((dat1 V c).before_in_eq_fetched 14 rfl (fun _ => rfl) (fun _ _ _ => rfl) (fun t => (fetched1_w14 V c t).symm) t d).trans (fetched1_w14 V c t)

set_option maxHeartbeats 800000 in
/-- The second pipeline's body at every point. -/
theorem body1 [∀ e, Nonempty (Elt F e)] : BodyObligation (dat1 V c) (defs₀ (F := F)) Variants.none () Set.univ := fun t => by
  rw [bigSep_W1, bigSep_W1]
  rw [show (dat1 V c).Φ t.castSucc = inv1 V c t.val from rfl, show (dat1 V c).Φ t.succ = inv1 V c (t.val + 1) from rfl]
  unfold Dat.owesAt Pipeline.owesWithin
  rw [show (dat1 V c).owed t.castSucc = 0 from rfl, show (dat1 V c).owed t.succ = 0 from rfl]
  have hm := move c (V c main_v0) (rowsOut V c) (decRows V c) (grid1.coords t) _ (hstage1_0 ((cfg1.slots t 0).cast nbuf1_0)) _ (hstage1_1 ((cfg1.slots t 1).cast nbuf1_1)) _ (hstage1_2 ((cfg1.slots t 2).cast nbuf1_2)) _ (hstage1_3 ((cfg1.slots t 3).cast nbuf1_3)) _ (hstage1_4 ((cfg1.slots t 4).cast nbuf1_4)) _ (hstage1_5 ((cfg1.slots t 5).cast nbuf1_5)) _ (hstage1_6 ((cfg1.slots t 6).cast nbuf1_6)) _ (hstage1_7 ((cfg1.slots t 7).cast nbuf1_7)) _ (hstage1_8 ((cfg1.slots t 8).cast nbuf1_8)) _ (hstage1_9 ((cfg1.slots t 9).cast nbuf1_9)) _ (hstage1_10 ((cfg1.slots t 10).cast nbuf1_10)) _ (hstage1_11 ((cfg1.slots t 11).cast nbuf1_11)) _ (hstage1_12 ((cfg1.slots t 12).cast nbuf1_12)) _ (hstage1_13 ((cfg1.slots t 13).cast nbuf1_13)) _ (hstage1_14 ((cfg1.slots t 14).cast nbuf1_14)) (V c main_v1) (V c main_v2) (V c main_arg2) (V c main_v3) (V c main_v4) (V c main_v5) (V c main_arg6) (V c main_v6) (V c main_arg8) (V c main_arg9) (V c main_v7) (V c main_v8) (V c main_v9) (V c main_arg13) (V c main_v10) rfl (fun _ => rfl)
  unfold Moves at hm
  rw [coords_val t] at hm
  simp only [before1_w0, before1_w1, before1_w2, before1_w3, before1_w4, before1_w5, before1_w6, before1_w7, before1_w8, before1_w9, before1_w10, before1_w11, before1_w12, before1_w13, before1_w14]
  refine BIBase.Entails.trans ?_ ((sep_mono_left (Q := iprop((hM.view.loc (c : Thread nD τ) ↦{Transfers.shareDrop fullShare 6} V c main_v0) ∗ idle1 c)) hm).trans
    ((wp_frame_r _ _ _).trans (wp_mono _ _ _ fun _ => ?_)))
  · unfold inv1 core owesΦ winsΦ
    iintro ⟨⟨A, B, C, Dd, Hh, Hid⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    isplitr [Hh Hid]
    · isplitl [A B C Dd HO]
      · isplitl [A]; · iexact A
        isplitl [B]; · iexact B
        isplitl [C]; · iexact C
        isplitl [Dd]; · iexact Dd
        iexists W; iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    isplitl [Hh]; · iexact Hh
    iexact Hid
  · unfold inv1 core owesΦ winsΦ
    iintro ⟨⟨⟨A, B, C, Dd, ⟨%W, HO⟩⟩, H0, H1, H2, H3, H4, H5, H6, H7, H8, H9, H10, H11, H12, H13, H14⟩, Hh, Hid⟩
    isplitl [A B C Dd Hh Hid]
    · isplitl [A]; · iexact A
      isplitl [B]; · iexact B
      isplitl [C]; · iexact C
      isplitl [Dd]; · iexact Dd
      isplitl [Hh]; · iexact Hh
      iexact Hid
    isplitl [HO]
    · iexists W; isplitr; · ipureintro; exact fun _ _ => Or.inl trivial
      iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

end Cert.KernelIdeal.Hand
-- ==== Proof.KI.Body0.lean ====
module

public import proofs.«01_k».proof.Proof.KI.Body1

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem off0_zero : (![0, 0, 0] : Fin 3 → Nat) = fun _ => 0 := funext fun a => by fin_cases a <;> rfl

section
variable (c : Dev nD) (i : grid0.Coords) (arg2 : Memref sig .tc .vmem S8x256x2048 .f32) (harg2 : arg2.IsWhole) (arg3 : Memref sig .tc .vmem S1x8x2048 .f32) (harg3 : arg3.IsWhole)
    (X : S8x256x2048.Idx → Elt F .f32) (Y : S1x8x2048.Idx → Elt F .f32)

set_option backward.proofsInPublic true in
/-- The first kernel's point that starts a half: the block's sums over its rows are stored. -/
theorem sum_first (h1 : k0_cond1 i = 1#1) (h2 : ¬ k0_cond2 i = 1#1) :
    (iprop(owns (c : Thread nD τ) arg2 fullShare X ∗ owns (c : Thread nD τ) arg3 fullShare Y) : sProp 𝕄)
    ⊢ wp frame (wpE (defs₀ (F := F)) Variants.none c none) Set.univ (cc0__partial_sum_kernel (F := F) i arg2 harg2 arg3 harg3)
      (fun _ => iprop(owns (c : Thread nD τ) arg2 fullShare X ∗ owns (c : Thread nD τ) arg3 fullShare (k0_pay2 X))) := by
  rw [cc0__partial_sum_kernel_eq_skeleton]; unfold cc0__partial_sum_kernel_skel
  unfold owns
  iintro ⟨⟨%f2, %hf2, H2⟩, ⟨%f3, %hf3, H3⟩⟩
  sl_exec
  sl_step
  isplitl [H2]
  · iexists f2; isplitr
    · ipureintro; exact hf2
    iexact H2
  iexists _
  isplitr
  rotate_left
  · iexact H3
  · ipureintro
    refine (View.read_writes_full _ _ _ _ _).trans ?_
    subst hf2
    simp only [View.readAt_eq_ld, View.ld_unit_zero (S := S8x256x2048) off0_zero]

set_option backward.proofsInPublic true in
/-- A later point of a half: the block's sums are added to those stored before. -/
theorem sum_later (h1 : ¬ k0_cond1 i = 1#1) (h2 : k0_cond2 i = 1#1) :
    (iprop(owns (c : Thread nD τ) arg2 fullShare X ∗ owns (c : Thread nD τ) arg3 fullShare Y) : sProp 𝕄)
    ⊢ wp frame (wpE (defs₀ (F := F)) Variants.none c none) Set.univ (cc0__partial_sum_kernel (F := F) i arg2 harg2 arg3 harg3)
      (fun _ => iprop(owns (c : Thread nD τ) arg2 fullShare X ∗ owns (c : Thread nD τ) arg3 fullShare (k0_pay3 X Y))) := by
  rw [cc0__partial_sum_kernel_eq_skeleton]; unfold cc0__partial_sum_kernel_skel
  unfold owns
  iintro ⟨⟨%f2, %hf2, H2⟩, ⟨%f3, %hf3, H3⟩⟩
  sl_exec
  sl_step
  isplitl [H2]
  · iexists f2; isplitr
    · ipureintro; exact hf2
    iexact H2
  iexists _
  isplitr
  rotate_left
  · iexact H3
  · ipureintro
    refine (View.read_writes_full _ _ _ _ _).trans ?_
    subst hf2 hf3
    simp only [View.readAt_eq_ld, View.ld_unit_zero (S := S8x256x2048) off0_zero, View.ld_unit_zero (S := S1x8x2048) off0_zero]

end

variable (V : (c : Dev nD) → (b : Ref sig .tc) → Buf (Elt F) ((c : Thread nD τ).loc b)) (c : Dev nD)

/-- Block `n` of the hidden array as the first kernel reads it: 256 rows of each of its eight slabs; -/
def sumBlk (n : ℕ) : S8x256x2048.Idx → Elt F .f32 := ((cfg0.win 0).blk ⟨n % 16, lt_of_lt_of_eq (Nat.mod_lt n (by decide)) N_0.symm⟩).view.read (Elt F) (V c main_arg0)

/-- and the sums stored after point `n`: of a half's blocks up to there, added in order. -/
def sumAcc : ℕ → S1x8x2048.Idx → Elt F .f32
  | 0 => k0_pay2 (sumBlk V c 0)
  | n + 1 => if (n + 1) % 8 = 0 then k0_pay2 (sumBlk V c (n + 1)) else k0_pay3 (sumBlk V c (n + 1)) (sumAcc n)

theorem sumAcc_first (n : ℕ) (h : n % 8 = 0) : sumAcc V c n = k0_pay2 (sumBlk V c n) := by
  cases n with
  | zero => rfl
  | succ n => unfold sumAcc; rw [if_pos h]

theorem sumAcc_later (n : ℕ) (h : n % 8 ≠ 0) : sumAcc V c n = k0_pay3 (sumBlk V c n) (sumAcc V c (n - 1)) := by
  cases n with
  | zero => exact absurd rfl h
  | succ n => rw [Nat.add_sub_cancel, sumAcc, if_neg h]

/-- The first pipeline's proof data. -/
def dat0 : Dat τ (Elt F) Unit ℕ (Pipeline.UD sig nD τ) ℕ cfg0 c where
  A w := V c (Pipeline.arrRef spec0 w)
  after w t := match w with
    | ⟨0, _⟩ => sumBlk V c t.val
    | ⟨1, _⟩ => sumAcc V c t.val
  Φ t := Pipeline.scopedRest spec0 c
  q _ := fullShare
  owed _ := 0

theorem A0_eq (w : Fin cfg0.W) : (dat0 V c).A w = V c (Pipeline.arrRef spec0 w) := by dsimp only [dat0]

theorem cond0_first : ∀ t : Fin grid0.N, t.val % 8 = 0 → k0_cond1 (grid0.coords t) = 1#1 ∧ ¬ k0_cond2 (grid0.coords t) = 1#1 := by decide +kernel
theorem cond0_later : ∀ t : Fin grid0.N, t.val % 8 ≠ 0 → ¬ k0_cond1 (grid0.coords t) = 1#1 ∧ k0_cond2 (grid0.coords t) = 1#1 := by decide +kernel
theorem idle0_never : ∀ t : Fin cfg0.N, cfg0.idle 1 (cfg0.grid.coords t) = false :=
  (by decide +kernel : ∀ t : Fin grid0.N, idle0 1 (grid0.coords t) = false)

theorem before0_w0 (t : Fin cfg0.N) (d) : (dat0 V c).before 0 t d = sumBlk V c t.val := by
  rw [Dat.before_fetched _ 0 t (fetch0_0 t) d]
  have h : t.val < 16 := lt_of_lt_of_eq t.isLt N_0
  have e : (⟨t.val % 16, lt_of_lt_of_eq (Nat.mod_lt t.val (by decide)) N_0.symm⟩ : Fin cfg0.N) = t := Fin.ext (Nat.mod_eq_of_lt h)
  unfold sumBlk
  rw [e]
  rfl

theorem before0_w1 (t : Fin cfg0.N) (h : t.val % 8 ≠ 0) (d) : (dat0 V c).before 1 t d = sumAcc V c (t.val - 1) := by
  rw [Dat.before_of_pos _ 1 t (by omega) rfl d, if_neg (by rw [flush0_1]; dsimp only; omega)]
  unfold Dat.left
  rw [idle0_never]
  rfl

/-- The first pipeline's body at every point. -/
theorem body0 : BodyObligation (dat0 V c) (defs₀ (F := F)) Variants.none () Set.univ := fun t => by
  rw [bigSep_W0, bigSep_W0]
  simp only [show idle0 1 (grid0.coords t) = false from idle0_never t]
  rw [show (dat0 V c).Φ t.castSucc = Pipeline.scopedRest spec0 c from rfl, show (dat0 V c).Φ t.succ = Pipeline.scopedRest spec0 c from rfl]
  have hm : ∀ d, (iprop(owns (c : Thread nD τ) (st0_0 t) fullShare (sumBlk V c t.val) ∗ owns (c : Thread nD τ) (st0_1 t) fullShare ((dat0 V c).before 1 t d)) : sProp 𝕄)
      ⊢ wp frame (wpE (defs₀ (F := F)) Variants.none c none) Set.univ (bodyAt0 (F := F) t)
        (fun _ => iprop(owns (c : Thread nD τ) (st0_0 t) fullShare (sumBlk V c t.val) ∗ owns (c : Thread nD τ) (st0_1 t) fullShare (sumAcc V c t.val))) := fun d => by
    by_cases h : t.val % 8 = 0
    · rw [sumAcc_first _ _ _ h]
      exact sum_first c _ _ _ _ _ _ _ (cond0_first t h).1 (cond0_first t h).2
    · rw [sumAcc_later _ _ _ h, before0_w1 _ _ _ h]
      exact sum_later c _ _ _ _ _ _ _ (cond0_later t h).1 (cond0_later t h).2
  simp only [before0_w0]
  iintro ⟨HΦ, HO, ⟨%d0, H0⟩, ⟨%d1, H1⟩⟩
  iapply ((sep_mono_left (Q := iprop(Pipeline.scopedRest spec0 c ∗ (dat0 V c).owesAt () t.castSucc)) (hm d1)).trans
    ((wp_frame_r _ _ _).trans (wp_mono _ _ _ fun _ => ?_)))
  · iintro ⟨⟨H0, H1⟩, HΦ, HO⟩
    isplitl [HΦ]; · iexact HΦ
    isplitl [HO]; · iexact HO
    isplitl [H0]; · iexact H0
    iexact H1
  isplitl [H0 H1]
  · isplitl [H0]; · iexact H0
    iexact H1
  isplitl [HΦ]; · iexact HΦ
  iexact HO

end Cert.KernelIdeal.Hand
-- ==== Proof.KI.Ends1.lean ====
module

public import proofs.«01_k».proof.Proof.KI.Body1

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The rings' slots cover their buffers, the blocks the result -/

abbrev slotSet (s : Fin 6) : Finset S6x512x2048.Idx := (Rect.unit (s := S6x512x2048) ![s.val, 0, 0] S1x512x2048.size (inb_slot s)).set
abbrev blkSet (b : Fin 64) : Finset S32768x2048.Idx := (Rect.unit (s := S32768x2048) ![512 * b.val, 0] S512x2048.size (inb_blk b)).set

theorem inSlot_set (s : Fin 6) : (inSlot s).view.set = slotSet s := by
  rw [Memref.set_view_squeeze]; exact View.set_slice_whole _ _
theorem outSlot_set (s : Fin 6) : (outSlot s).view.set = slotSet s := by
  rw [Memref.set_view_squeeze]; exact View.set_slice_whole _ _
theorem yBlk_set (b : Fin 64) : (yBlk b).view.set = blkSet b := View.set_slice_whole _ _

theorem slots_disjoint (s s' : Fin 6) (h : s ≠ s') : Disjoint (slotSet s) (slotSet s') :=
  Ring.lead_disjoint (s := S6x512x2048) (0 : Fin 3) 1 (fun j : Fin 6 => (![j.val, 0, 0] : Fin 3 → Nat)) S1x512x2048.size inb_slot (fun j => by simp) rfl s s' h
theorem slots_cover : Finset.univ.biUnion slotSet = Finset.univ :=
  Ring.lead_cover (s := S6x512x2048) (0 : Fin 3) 1 (fun j : Fin 6 => (![j.val, 0, 0] : Fin 3 → Nat)) S1x512x2048.size inb_slot (fun j => by simp)
    (fun j a ha => by fin_cases a <;> first | exact absurd rfl ha | rfl) rfl (fun a ha => by fin_cases a <;> first | exact absurd rfl ha | rfl) rfl
theorem blks_disjoint (b b' : Fin 64) (h : b ≠ b') : Disjoint (blkSet b) (blkSet b') :=
  Ring.lead_disjoint (s := S32768x2048) (0 : Fin 2) 512 (fun j : Fin 64 => (![512 * j.val, 0] : Fin 2 → Nat)) S512x2048.size inb_blk (fun j => by simp) rfl b b' h
theorem blks_cover : Finset.univ.biUnion blkSet = Finset.univ :=
  Ring.lead_cover (s := S32768x2048) (0 : Fin 2) 512 (fun j : Fin 64 => (![512 * j.val, 0] : Fin 2 → Nat)) S512x2048.size inb_blk (fun j => by simp)
    (fun j a ha => by fin_cases a <;> first | exact absurd rfl ha | rfl) rfl (fun a ha => by fin_cases a <;> first | exact absurd rfl ha | rfl) rfl

/-- One entailment for every member. -/
theorem each {I : Type} [Fintype I] {Φ Ψ : I → sProp 𝕄} (h : ∀ i, Φ i ⊢ Ψ i) : bigSep Finset.univ Φ ⊢ bigSep Finset.univ Ψ := bigSep_mono fun i _ => h i

variable (c : Dev nD)

/-- The result's array, block by block of rows `R`. -/
def rowsArr (R : Fin 64 → S512x2048.Idx → Elt F .f32) : S32768x2048.Idx → Elt F .f32 := fun x =>
  R ⟨(x 0).val / 512, by have h : (x 0).val < 32768 := (x 0).isLt; omega⟩ (fun | 0 => ⟨(x 0).val % 512, Nat.mod_lt _ (by decide)⟩ | 1 => ⟨(x 1).val, (x 1).isLt⟩)

theorem rowsArr_read (R : Fin 64 → S512x2048.Idx → Elt F .f32) (b : Fin 64) : (yBlk b).view.read (Elt F) (rowsArr R) = R b := by
  funext y
  show rowsArr R ((Rect.unit (s := S32768x2048) ![512 * b.val, 0] S512x2048.size (inb_blk b)).emb y) = R b y
  have h0 : ((Rect.unit (s := S32768x2048) ![512 * b.val, 0] S512x2048.size (inb_blk b)).emb y 0).val = 512 * b.val + (y 0).val := by
    rw [ValueKit.rect_emb_unit_val]; rfl
  have h1 : ((Rect.unit (s := S32768x2048) ![512 * b.val, 0] S512x2048.size (inb_blk b)).emb y 1).val = (y 1).val := by
    rw [ValueKit.rect_emb_unit_val]; exact Nat.zero_add _
  have hy : (y 0).val < 512 := (y 0).isLt
  unfold rowsArr
  congr 1
  · congr 1
    rw [h0]; omega
  · funext a
    fin_cases a
    · refine Fin.ext ?_
      show (_ : ℕ) % 512 = (y 0).val
      rw [h0]; omega
    · exact Fin.ext h1

/-- Blocks written with their rows are the array of the rows. -/
theorem y_out (R : Fin 64 → S512x2048.Idx → Elt F .f32) :
    bigSep Finset.univ (fun b => yNew c R b) ⊢ (iprop(yM.view.loc (c : Thread nD τ) ↦{fullShare} rowsArr R) : sProp 𝕄) := by
  rw [Ring.pointsTo_blocks blkSet blks_disjoint blks_cover]
  refine each fun b => ?_
  have he : ∀ f, (yBlk b).view.read (Elt F) f = R b → (iprop((yBlk b).view.loc (c : Thread nD τ) ↦[(yBlk b).view.set]{fullShare} f) : sProp 𝕄)
      = iprop(yM.view.loc (c : Thread nD τ) ↦[blkSet b]{fullShare} rowsArr R) := by
    intro f hf
    rw [← yBlk_set]
    refine pointsTo_congr fun i hi => ?_
    unfold View.set at hi
    obtain ⟨x, -, rfl⟩ := Finset.mem_map.mp hi
    exact congrFun (hf.trans (rowsArr_read R b).symm) x
  unfold yNew
  iintro ⟨%f, %hf, H⟩
  iapply (Entails.of_eq (he f hf))
  iexact H

/-- The result's array at anything is its blocks, none begun. -/
theorem y_in (R : Fin 64 → S512x2048.Idx → Elt F .f32) (f : Bf (F := F) c yM) :
    (iprop(yM.view.loc (c : Thread nD τ) ↦{fullShare} f) : sProp 𝕄) ⊢ bigSep Finset.univ (fun b => yOld c b) := by
  rw [Ring.pointsTo_blocks blkSet blks_disjoint blks_cover]
  refine each fun b => ?_
  unfold yOld
  rw [yBlk_set]
  iintro H; iexists f; iexact H

/-- A ring's buffer at anything is its slots at anything, and back. -/
theorem in_slots_in : (iprop(∃ f, inM.view.loc (c : Thread nD τ) ↦{fullShare} f) : sProp 𝕄)
    ⊢ bigSep Finset.univ (fun s => iprop(∃ f, (inSlot s).view.loc (c : Thread nD τ) ↦[(inSlot s).view.set]{fullShare} f)) := by
  refine exists_elim fun f => ?_
  rw [Ring.pointsTo_blocks slotSet slots_disjoint slots_cover]
  refine each fun s => ?_
  rw [inSlot_set]
  iintro H; iexists f; iexact H
theorem out_slots_in : (iprop(∃ f, outM.view.loc (c : Thread nD τ) ↦{fullShare} f) : sProp 𝕄)
    ⊢ bigSep Finset.univ (fun s => iprop(∃ f, (outSlot s).view.loc (c : Thread nD τ) ↦[(outSlot s).view.set]{fullShare} f)) := by
  refine exists_elim fun f => ?_
  rw [Ring.pointsTo_blocks slotSet slots_disjoint slots_cover]
  refine each fun s => ?_
  rw [outSlot_set]
  iintro H; iexists f; iexact H
theorem in_slots_out [∀ e, Nonempty (Elt F e)] : bigSep Finset.univ (fun s => iprop(∃ f, (inSlot s).view.loc (c : Thread nD τ) ↦[(inSlot s).view.set]{fullShare} f))
    ⊢ (iprop(∃ f, inM.view.loc (c : Thread nD τ) ↦{fullShare} f) : sProp 𝕄) :=
  (each fun s => by rw [inSlot_set]).trans (Ring.pointsTo_blocks_join_exists slotSet slots_disjoint slots_cover (fun _ => Classical.arbitrary _))
theorem out_slots_out [∀ e, Nonempty (Elt F e)] : bigSep Finset.univ (fun s => iprop(∃ f, (outSlot s).view.loc (c : Thread nD τ) ↦[(outSlot s).view.set]{fullShare} f))
    ⊢ (iprop(∃ f, outM.view.loc (c : Thread nD τ) ↦{fullShare} f) : sProp 𝕄) :=
  (each fun s => by rw [outSlot_set]).trans (Ring.pointsTo_blocks_join_exists slotSet slots_disjoint slots_cover (fun _ => Classical.arbitrary _))

/-! ## The rings' semaphores -/

/-- The second kernel's own semaphores, the in-ring's and the out-ring's. -/
abbrev osem1 : Fin 6 ⊕ Fin 6 → SemLoc sig := Sum.elim inCell outCell

theorem osem1_facts : Pipeline.OwnSemFacts spec1 osem1 := by decide

theorem osem1_split : (Pipeline.ownSems0 (Ix := Unit) (Name := ℕ) (U := Pipeline.UD sig nD τ) (Lvl := ℕ) (Val := Elt F) (τ := τ) osem1 c : sProp 𝕄)
    = iprop(bigSep Finset.univ (fun s : Fin 6 => semVal ((c : Thread nD τ), inCell s) 0) ∗ bigSep Finset.univ (fun s : Fin 6 => semVal ((c : Thread nD τ), outCell s) 0)) := by
  rw [Pipeline.ownSems0_eq_of_list c osem1 [.inl 0, .inl 1, .inl 2, .inl 3, .inl 4, .inl 5, .inr 0, .inr 1, .inr 2, .inr 3, .inr 4, .inr 5] (by decide) (by decide),
    bigSep_univ_eq_bigSepL [0, 1, 2, 3, 4, 5] (by decide) (by decide), bigSep_univ_eq_bigSepL [0, 1, 2, 3, 4, 5] (by decide) (by decide)]
  have assoc : ∀ P Q S : sProp 𝕄, iprop((P ∗ Q) ∗ S) = iprop(P ∗ Q ∗ S) := fun P Q S => Idealize.SL.BI.equiv_iff.mp ⟨Idealize.SL.BI.sep_assoc, Idealize.SL.BI.sep_assoc'⟩
  simp only [chain_cons, bigSepL_singleton, assoc]
  rfl

/-! ## In and out of the second kernel's invariant -/

variable (V : (c : Dev nD) → (b : Ref sig .tc) → Buf (Elt F) ((c : Thread nD τ).loc b))

/-- The second kernel's own buffers, at anything: its scratch and the first kernel's staging buffers. -/
theorem rest1_in : (Pipeline.scopedRest (Ix := Unit) (Name := ℕ) (U := Pipeline.UD sig nD τ) (Lvl := ℕ) (Val := Elt F) spec1 c : sProp 𝕄)
    ⊢ iprop(idle1 (F := F) c ∗ (∃ f, decM.view.loc (c : Thread nD τ) ↦{fullShare} f) ∗ (∃ f, inM.view.loc (c : Thread nD τ) ↦{fullShare} f) ∗ (∃ f, outM.view.loc (c : Thread nD τ) ↦{fullShare} f)) := by
  rw [scopedRest1_eq]; unfold idle1
  iintro ⟨A, B, C, Dd, E, G, H⟩
  isplitl [A B C Dd]
  · isplitl [A]; · iexact A
    isplitl [B]; · iexact B
    isplitl [C]; · iexact C
    iexact Dd
  isplitl [E]; · iexact E
  isplitl [G]; · iexact G
  iexact H
theorem rest1_out : iprop(idle1 (F := F) c ∗ (∃ f, decM.view.loc (c : Thread nD τ) ↦{fullShare} f) ∗ (∃ f, inM.view.loc (c : Thread nD τ) ↦{fullShare} f) ∗ (∃ f, outM.view.loc (c : Thread nD τ) ↦{fullShare} f))
    ⊢ (Pipeline.scopedRest (Ix := Unit) (Name := ℕ) (U := Pipeline.UD sig nD τ) (Lvl := ℕ) (Val := Elt F) spec1 c : sProp 𝕄) := by
  rw [scopedRest1_eq]; unfold idle1
  iintro ⟨⟨A, B, C, Dd⟩, E, G, H⟩
  isplitl [A]; · iexact A
  isplitl [B]; · iexact B
  isplitl [C]; · iexact C
  isplitl [Dd]; · iexact Dd
  isplitl [E]; · iexact E
  isplitl [G]; · iexact G
  iexact H

/-- A ring all of whose slots are free, taken apart. -/
theorem in_free (H : Bf (F := F) c hM) (st : Fin 6 → Option (Fin 64)) (h : ∀ s, st s = none) :
    Ring.AtW (σ := fun _ => Option (Fin 64)) (inΦ c H) st = iprop(bigSep Finset.univ (fun s : Fin 6 => semVal ((c : Thread nD τ), inCell s) 0)
      ∗ bigSep Finset.univ (fun s => iprop(∃ f, (inSlot s).view.loc (c : Thread nD τ) ↦[(inSlot s).view.set]{fullShare} f))
      ∗ bigSep Finset.univ (fun s => iprop(hM.view.loc (c : Thread nD τ) ↦{hTok s} H))) := by
  rw [show st = fun _ => none from funext h]
  unfold Ring.AtW
  simp only [inΦ_none]
  rw [bigSep_sep', bigSep_sep']
theorem out_free_all (R : Fin 64 → S512x2048.Idx → Elt F .f32) (st : Fin 6 → Option (Fin 64)) (h : ∀ s, st s = none) :
    Ring.AtW (σ := fun _ => Option (Fin 64)) (outΦ c R) st = iprop(bigSep Finset.univ (fun s : Fin 6 => semVal ((c : Thread nD τ), outCell s) 0)
      ∗ bigSep Finset.univ (fun s => iprop(∃ f, (outSlot s).view.loc (c : Thread nD τ) ↦[(outSlot s).view.set]{fullShare} f))) := by
  rw [show st = fun _ => none from funext h]
  unfold Ring.AtW
  simp only [outΦ_none]
  rw [bigSep_sep']
theorem y_all (R : Fin 64 → S512x2048.Idx → Elt F .f32) (x : Option Bool) (st : Fin 64 → Option Bool) (h : ∀ s, st s = x) :
    Ring.AtW (σ := fun _ => Option Bool) (yΦ c R) st = bigSep Finset.univ (fun b => yΦ c R b x) := by
  rw [show st = fun _ => x from funext h]
  rfl

/-- Entry: the hidden states, the result at anything, the semaphores and the scratch make the invariant. -/
theorem enter1 (f : Bf (F := F) c yM) :
    iprop((hM.view.loc (c : Thread nD τ) ↦{fullShare} V c main_v0) ∗ (yM.view.loc (c : Thread nD τ) ↦{fullShare} f)
      ∗ Pipeline.ownSems0 (Ix := Unit) (Name := ℕ) (U := Pipeline.UD sig nD τ) (Lvl := ℕ) (Val := Elt F) (τ := τ) osem1 c
      ∗ Pipeline.scopedRest (Ix := Unit) (Name := ℕ) (U := Pipeline.UD sig nD τ) (Lvl := ℕ) (Val := Elt F) spec1 c) ⊢ inv1 V c 0 := by
  unfold inv1 decSt
  rw [if_pos rfl, in_free c _ _ inSt_zero, out_free_all c _ _ outSt_zero, y_all c _ (some false) _ ySt_zero, osem1_split]
  simp only [yΦ_old]
  iintro ⟨Hh, Hy, ⟨Si, So⟩, Hr⟩
  ihave Hr' := (rest1_in c) $$ Hr
  icases Hr' with ⟨Hid, Hd, Hi, Ho⟩
  ihave Hh' := (Transfers.pointsTo_toks_split fullShare 6) $$ Hh
  icases Hh' with ⟨Hk, Ht⟩
  ihave Hi' := (in_slots_in c) $$ Hi
  ihave Ho' := (out_slots_in c) $$ Ho
  ihave Hy' := (y_in c (rowsOut V c) f) $$ Hy
  isplitl [Si Hi' Ht]
  · isplitl [Si]; · iexact Si
    isplitl [Hi']; · iexact Hi'
    iexact Ht
  isplitl [So Ho']
  · isplitl [So]; · iexact So
    iexact Ho'
  isplitl [Hy']; · iexact Hy'
  isplitl [Hd]; · iexact Hd
  isplitl [Hk]; · iexact Hk
  iexact Hid

/-- Exit: the invariant at the last point gives back the hidden states, the result at its rows, the semaphores and the scratch. -/
theorem leave1 [∀ e, Nonempty (Elt F e)] : inv1 V c 64 ⊢
    iprop(((hM.view.loc (c : Thread nD τ) ↦{fullShare} V c main_v0) ∗ (yM.view.loc (c : Thread nD τ) ↦{fullShare} rowsArr (rowsOut V c)))
      ∗ Pipeline.ownSems0 (Ix := Unit) (Name := ℕ) (U := Pipeline.UD sig nD τ) (Lvl := ℕ) (Val := Elt F) (τ := τ) osem1 c
      ∗ Pipeline.scopedRest (Ix := Unit) (Name := ℕ) (U := Pipeline.UD sig nD τ) (Lvl := ℕ) (Val := Elt F) spec1 c) := by
  unfold inv1
  rw [in_free c _ _ inSt_end, out_free_all c _ _ outSt_end, y_all c _ (some true) _ ySt_end, osem1_split]
  simp only [yΦ_new]
  iintro ⟨⟨Si, Hi, Ht⟩, ⟨So, Ho⟩, Hy, Hd, Hk, Hid⟩
  ihave Hi' := (in_slots_out c) $$ Hi
  ihave Ho' := (out_slots_out c) $$ Ho
  ihave Hy' := (y_out c (rowsOut V c)) $$ Hy
  ihave Hd' := (decSt_any c _ _) $$ Hd
  isplitl [Hk Ht Hy']
  · isplitl [Hk Ht]
    · iapply (Transfers.pointsTo_toks_join fullShare 6)
      isplitl [Hk]; · iexact Hk
      iexact Ht
    iexact Hy'
  isplitl [Si So]
  · isplitl [Si]; · iexact Si
    iexact So
  iapply (rest1_out c)
  isplitl [Hid]; · iexact Hid
  isplitl [Hd']; · iexact Hd'
  isplitl [Hi']; · iexact Hi'
  iexact Ho'

end Cert.KernelIdeal.Hand
-- ==== Proof.KI.Run.lean ====
module

public import proofs.«01_k».proof.Proof.KI.Body0
public import proofs.«01_k».proof.Proof.KI.Ends1
public import proofs.«01_k».proof.Proof.Gen.KernelIdeal.Regions
public import Idealize.ShloMosaic.Lib.Pipeline.RegionsLoop

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window BodyObligation Seg HostSeg RegionSeg)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ)

/-! ## What the unscoped buffers hold between the program's five parts -/

/-- At launch; -/
def W0 (c : Dev nD) : Valuation τ sig (Elt F) := fun b => m (c, b)
/-- when the first kernel is entered; -/
def W1 (c : Dev nD) : Valuation τ sig (Elt F) := StableHlo.after hostOps0 (W0 m c)
/-- the first kernel's arrays when it is entered, -/
abbrev in0 (c : Dev nD) (b : Ref sig .tc) : Buf (Elt F) ((c : Thread nD τ).loc b) := W1 m c b
/-- and the partial sums it leaves; -/
def sums (c : Dev nD) : Buf (Elt F) ((c : Thread nD τ).loc main_v1) := (dat0 (in0 m) c).arrAt 1 cfg0.N
/-- when it is left; -/
def W2 (c : Dev nD) : Valuation τ sig (Elt F) := Function.update (W1 m c) main_v1 (sums m c)
/-- when the second kernel is entered; -/
def W3 (c : Dev nD) : Valuation τ sig (Elt F) := StableHlo.after hostOps1 (W2 m c)
/-- the second kernel's arrays when it is entered, -/
abbrev in1 (c : Dev nD) (b : Ref sig .tc) : Buf (Elt F) ((c : Thread nD τ).loc b) := W3 m c b
/-- and the rows it leaves; -/
def rows (c : Dev nD) : Buf (Elt F) ((c : Thread nD τ).loc main_v11) := rowsArr (rowsOut (in1 m) c)
/-- when it is left; -/
def W4 (c : Dev nD) : Valuation τ sig (Elt F) := Function.update (W3 m c) main_v11 (rows m c)
/-- and at the end. -/
def W5 (c : Dev nD) : Valuation τ sig (Elt F) := StableHlo.after hostOps2 (W4 m c)

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ≠ main_v1) : W2 m c r = W1 m c r :=
  Function.update_of_ne (StableHlo.devRef_ne_of_ne h : (Proc.devRef .tc r : DevRef τ sig) ≠ Proc.devRef .tc main_v1) _ _
theorem W2_v1 (c : Dev nD) : W2 m c main_v1 = sums m c := Function.update_self _ _ _
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ≠ main_v11) : W4 m c r = W3 m c r :=
  Function.update_of_ne (StableHlo.devRef_ne_of_ne h : (Proc.devRef .tc r : DevRef τ sig) ≠ Proc.devRef .tc main_v11) _ _
theorem W4_v11 (c : Dev nD) : W4 m c main_v11 = rows m c := Function.update_self _ _ _
theorem W5_of (c : Dev nD) (r : Ref sig .tc) (h : r ∉ hostOps2_W) : W5 m c r = W4 m c r :=
  StableHlo.after_of_writes_sub hostOps2 _ hostOps2_writes h

/-- A buffer nothing writes ends as launched. -/
theorem W5_kept (c : Dev nD) (r : Ref sig .tc) (h0 : r ∉ hostOps0_W) (h1 : r ≠ main_v1) (h2 : r ∉ hostOps1_W) (h3 : r ≠ main_v11) (h4 : r ∉ hostOps2_W) :
    W5 m c r = m ((c : Thread nD τ).loc r) :=
  (W5_of m c r h4).trans <| (W4_of m c r h3).trans <| (W3_of m c r h2).trans <| (W2_of m c r h1).trans <| (W1_of m c r h0).trans rfl

/-! ## The two kernels as regions -/

/-- Both pipelines' proof data. -/
def dats : (p : Fin 2) → (c : Dev nD) → Dat τ (Elt F) Unit ℕ (Pipeline.UD sig nD τ) ℕ (cfgs p) c
  | 0 => dat0 (in0 m)
  | 1 => dat1 (in1 m)

/-- The core owes nothing. -/
abbrev noDues (c : Dev nD) : sProp 𝕄 := iprop(∃ W, owes (c : Thread nD τ) (0 : CellTallies nD τ sig Unit) W)

abbrev noL : GSem nD τ sig → Finset Unit := fun _ => ∅
abbrev nolv : GSem nD τ sig → Unit → ℕ := fun _ _ => 0

/-- The unscoped buffers held are the core's. -/
theorem held_eq (c : Dev nD) (W : Valuation τ sig (Elt F)) :
    (StableHlo.held (c : Thread nD τ) (Pipeline.ucRefs τ sig) W : sProp 𝕄) = unscopedBufs c (fun b => W b) := (Pipeline.unscopedBufs_held c W).symm

set_option backward.isDefEq.respectTransparency.types false in
/-- The first kernel's region: its two arrays into the pipeline, every other unscoped buffer past it. -/
def reg0 : RegionSeg (pcfgs (F := F)) adm (dats m) () defs₀ Variants.none noL nolv 0 where
  win := launch0.win.to₀
  block_pos := launch0.block_pos
  stage_whole := launch0.stage_whole
  K := PEmpty
  osem := fun k => k.elim
  ho := Pipeline.OwnSemFacts.none _
  hbody c := (body0 (in0 m) c).loose
  hwaits := Pipeline.hwaits_of_owed_zero _ _ _ _ noL nolv 0 fun _ _ => rfl
  pre c := iprop(StableHlo.held (c : Thread nD τ) (Pipeline.ucRefs τ sig) (W1 m c) ∗ noDues c)
  post c := iprop(StableHlo.held (c : Thread nD τ) (Pipeline.ucRefs τ sig) (W2 m c) ∗ noDues c)
  X c := iprop(emp)
  Y c := iprop(emp)
  Z c := Pipeline.unscopedRest spec0 c (in0 m c)
  hentry c := by
    rw [Pipeline.ownSems0_none, held_eq]
    have hsplit := Pipeline.arrays_of_unscopedBufs (p := 0) (pcfgs (F := F)) adm (dats m) launch0.win launch0.arr_whole c
      ((dats m 0 c).share_full fun _ => rfl) (in0 m c) (A0_eq (in0 m) c)
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = Pipeline.scopedRest spec0 c from rfl]
    iintro ⟨-, -, Hr⟩
    iexact Hr
  hout c := by
    rw [Pipeline.ownSems0_none]
    show Pipeline.scopedRest spec0 c ⊢ _
    iintro Hr
    isplitr; · iempintro
    isplitr; · iempintro
    iexact Hr
  hexit c := by
    rw [held_eq]
    have hjoin := Pipeline.unscopedBufs_of_arrays (p := 0) (pcfgs (F := F)) adm (Ix := Unit) (Name := ℕ) (U := Pipeline.UD sig nD τ) (Lvl := ℕ)
      launch0.win launch0.arr_whole c (dats m) ((dats m 0 c).share_full fun _ => rfl)
      (in0 m c) (fun b => W2 m c b) ((dats m 0 c).arrAt · cfg0.N)
      (fun w => by
        match w with
        | ⟨0, _⟩ => exact ((dats m 0 c).arrAt_in 0 rfl _).trans ((A0_eq (in0 m) c 0).trans (W2_of m c main_arg0 (by decide)).symm)
        | ⟨1, _⟩ => exact (W2_v1 m c).symm)
      (fun b hb => W2_of m c b fun h => hb (h ▸ Finset.mem_image.mpr ⟨(1 : Fin 2), Finset.mem_univ _, rfl⟩))
    iintro ⟨Ha, HO, -, Hr⟩
    imodintro
    isplitr [HO]
    · iapply hjoin
      isplitl [Ha] <;> iassumption
    · unfold Pipeline.Dat.owesAt Pipeline.owesWithin
      icases HO with ⟨%W, -, HO⟩; iexists W; iexact HO

/-- The unscoped buffers the second kernel neither windows nor copies. -/
def beside (V : (c : Dev nD) → (b : Ref sig .tc) → Buf (Elt F) ((c : Thread nD τ).loc b)) (c : Dev nD) : sProp 𝕄 :=
  iprop(((c : Thread nD τ).loc main_arg0 ↦{fullShare} V c main_arg0) ∗ ((c : Thread nD τ).loc main_arg1 ↦{fullShare} V c main_arg1)
    ∗ ((c : Thread nD τ).loc main_arg3 ↦{fullShare} V c main_arg3) ∗ ((c : Thread nD τ).loc main_arg4 ↦{fullShare} V c main_arg4)
    ∗ ((c : Thread nD τ).loc main_arg5 ↦{fullShare} V c main_arg5) ∗ ((c : Thread nD τ).loc main_arg7 ↦{fullShare} V c main_arg7)
    ∗ ((c : Thread nD τ).loc main_arg10 ↦{fullShare} V c main_arg10) ∗ ((c : Thread nD τ).loc main_arg11 ↦{fullShare} V c main_arg11)
    ∗ ((c : Thread nD τ).loc main_arg12 ↦{fullShare} V c main_arg12) ∗ ((c : Thread nD τ).loc main_arg14 ↦{fullShare} V c main_arg14)
    ∗ ((c : Thread nD τ).loc main_v12 ↦{fullShare} V c main_v12))

/-- After the second kernel: those buffers as before, the hidden states as before, the result at its rows. -/
theorem rest1_after (c : Dev nD) : (Pipeline.unscopedRest spec1 c (fun b => W4 m c b) : sProp 𝕄) ⊣⊢
    iprop(beside (in1 m) c ∗ ((c : Thread nD τ).loc main_v0 ↦{fullShare} W3 m c main_v0) ∗ ((c : Thread nD τ).loc main_v11 ↦{fullShare} rows m c)) := by
  rw [unscopedRest1_eq, W4_of m c main_arg0 (by decide), W4_of m c main_arg1 (by decide), W4_of m c main_arg3 (by decide), W4_of m c main_arg4 (by decide),
    W4_of m c main_arg5 (by decide), W4_of m c main_arg7 (by decide), W4_of m c main_arg10 (by decide), W4_of m c main_arg11 (by decide),
    W4_of m c main_arg12 (by decide), W4_of m c main_arg14 (by decide), W4_of m c main_v0 (by decide), W4_v11, W4_of m c main_v12 (by decide)]
  unfold beside
  constructor
  · iintro ⟨A0, A1, A3, A4, A5, A7, A10, A11, A12, A14, V0, V11, V12⟩
    isplitr [V0 V11]
    · isplitl [A0]; · iexact A0
      isplitl [A1]; · iexact A1
      isplitl [A3]; · iexact A3
      isplitl [A4]; · iexact A4
      isplitl [A5]; · iexact A5
      isplitl [A7]; · iexact A7
      isplitl [A10]; · iexact A10
      isplitl [A11]; · iexact A11
      isplitl [A12]; · iexact A12
      isplitl [A14]; · iexact A14
      iexact V12
    isplitl [V0]; · iexact V0
    iexact V11
  · iintro ⟨⟨A0, A1, A3, A4, A5, A7, A10, A11, A12, A14, V12⟩, V0, V11⟩
    isplitl [A0]; · iexact A0
    isplitl [A1]; · iexact A1
    isplitl [A3]; · iexact A3
    isplitl [A4]; · iexact A4
    isplitl [A5]; · iexact A5
    isplitl [A7]; · iexact A7
    isplitl [A10]; · iexact A10
    isplitl [A11]; · iexact A11
    isplitl [A12]; · iexact A12
    isplitl [A14]; · iexact A14
    isplitl [V0]; · iexact V0
    isplitl [V11]; · iexact V11
    iexact V12

theorem in1_windows : ∀ w : Fin cfg1.W, (cfg1.win w).isOut = false := (by decide : ∀ w : Fin 15, (win1 w).isOut = false)
theorem not_result : ∀ w : Fin 15, Pipeline.arrRef spec1 w ≠ main_v11 := by decide

set_option backward.isDefEq.respectTransparency.types false in
/-- The second kernel's region: fifteen arrays into the pipeline, the hidden states and the result into its invariant,
    every other unscoped buffer past it. -/
def reg1 [∀ e, Nonempty (Elt F e)] : RegionSeg (pcfgs (F := F)) adm (dats m) () defs₀ Variants.none noL nolv 1 where
  win := launch1.win.to₀
  block_pos := launch1.block_pos
  stage_whole := launch1.stage_whole
  K := Fin 6 ⊕ Fin 6
  osem := osem1
  ho := osem1_facts
  hbody c := (body1 (in1 m) c).loose
  hwaits := Pipeline.hwaits_of_owed_zero _ _ _ _ noL nolv 1 fun _ _ => rfl
  pre c := iprop(StableHlo.held (c : Thread nD τ) (Pipeline.ucRefs τ sig) (W3 m c) ∗ noDues c)
  post c := iprop(StableHlo.held (c : Thread nD τ) (Pipeline.ucRefs τ sig) (W4 m c) ∗ noDues c)
  X c := iprop(((c : Thread nD τ).loc main_v0 ↦{fullShare} W3 m c main_v0) ∗ ((c : Thread nD τ).loc main_v11 ↦{fullShare} W3 m c main_v11)
    ∗ Pipeline.ownSems0 osem1 c)
  Y c := iprop(((c : Thread nD τ).loc main_v0 ↦{fullShare} W3 m c main_v0) ∗ ((c : Thread nD τ).loc main_v11 ↦{fullShare} rows m c))
  Z c := beside (in1 m) c
  hentry c := by
    rw [held_eq]
    have hsplit := (Pipeline.arrays_of_unscopedBufs (p := 1) (pcfgs (F := F)) adm (dats m) launch1.win launch1.arr_whole c
      ((dats m 1 c).share_full fun _ => rfl) (in1 m c) (A1_eq (in1 m) c)).trans (sep_mono .rfl (Entails.of_eq (unscopedRest1_eq c (in1 m c))))
    iintro ⟨⟨Hub, HO⟩, Hos, -⟩
    ihave H := hsplit $$ Hub
    icases H with ⟨Ha, A0, A1, A3, A4, A5, A7, A10, A11, A12, A14, V0, V11, V12⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [V0 V11 Hos]
    · isplitl [V0]; · iexact V0
      isplitl [V11]; · iexact V11
      iexact Hos
    unfold beside
    isplitl [A0]; · iexact A0
    isplitl [A1]; · iexact A1
    isplitl [A3]; · iexact A3
    isplitl [A4]; · iexact A4
    isplitl [A5]; · iexact A5
    isplitl [A7]; · iexact A7
    isplitl [A10]; · iexact A10
    isplitl [A11]; · iexact A11
    isplitl [A12]; · iexact A12
    isplitl [A14]; · iexact A14
    iexact V12
  hin c := by
    refine BIBase.Entails.trans ?_ (enter1 c (in1 m) (W3 m c main_v11))
    iintro ⟨⟨H0, H11, Hos⟩, -, Hr⟩
    isplitl [H0]; · iexact H0
    isplitl [H11]; · iexact H11
    isplitl [Hos]; · iexact Hos
    iexact Hr
  hout c := leave1 c (in1 m)
  hexit c := by
    rw [held_eq]
    have hjoin := Pipeline.unscopedBufs_of_arrays (p := 1) (pcfgs (F := F)) adm (Ix := Unit) (Name := ℕ) (U := Pipeline.UD sig nD τ) (Lvl := ℕ)
      launch1.win launch1.arr_whole c (dats m) ((dats m 1 c).share_full fun _ => rfl)
      (fun b => W4 m c b) (fun b => W4 m c b) ((dats m 1 c).arrAt · cfg1.N)
      (fun w => ((dats m 1 c).arrAt_in w (in1_windows w) _).trans ((A1_eq (in1 m) c w).trans (W4_of m c _ (not_result w)).symm))
      (fun b hb => rfl)
    iintro ⟨Ha, HO, ⟨V0, V11⟩, Hr⟩
    imodintro
    isplitr [HO]
    · iapply hjoin
      isplitl [Ha]; · iexact Ha
      iapply (rest1_after m c).2
      isplitl [Hr]; · iexact Hr
      isplitl [V0]; · iexact V0
      iexact V11
    · unfold Pipeline.Dat.owesAt Pipeline.owesWithin
      icases HO with ⟨%W, -, HO⟩; iexists W; iexact HO

end Cert.KernelIdeal.Hand
-- ==== Proof.KI.Whole.lean ====
module

public import proofs.«01_k».proof.Proof.KI.Run

@[expose] public section

noncomputable section

namespace Cert.KernelIdeal.Hand

open Cert.KernelIdeal Cert.KernelIdeal.Gen
open Idealize.ShloMosaic Idealize.ShloMosaic.TcCoe Idealize.ShloMosaic.Tactic
open Idealize.ShloMosaic.Rounds
open Idealize.ShloMosaic.Pipeline (Dat Cfg Window Seg HostSeg RegionSeg)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A stretch of host operations over the unscoped buffers. -/
abbrev host (ops : List (HloOp τ sig (Elt F))) (hs : ops.Forall fun op => op.bufs ⊆ StableHlo.tcRefs τ sig) (hf : ops.Forall fun op => op.fresh = ∅)
    (W : Dev nD → Valuation τ sig (Elt F)) : HostSeg (Ix := Unit) (Name := ℕ) (U := Pipeline.UD sig nD τ) (Lvl := ℕ) (pcfgs (F := F)) defs₀ Variants.none noL nolv :=
  HostSeg.ofOps _ _ _ _ _ (Pipeline.ucRefs τ sig) ops (fun op h => Pipeline.sub_ucRefs op ((List.forall_iff_forall_mem.mp hs) op h))
    (fun op h => (List.forall_iff_forall_mem.mp hf) op h) W (fun c => noDues c)

/-- The program's five parts. -/
abbrev parts [∀ e, Nonempty (Elt F e)] (c : Dev nD) : List (Seg (pcfgs (F := F)) adm (dats m) () defs₀ Variants.none noL nolv) :=
  [.host (host hostOps0 hostOps0_sub hostOps0_fresh (W0 m)), .region (reg0 m), .host (host hostOps1 hostOps1_sub hostOps1_fresh (W2 m)), .region (reg1 m),
    .host (host hostOps2 hostOps2_sub hostOps2_fresh (W4 m))]

/-- What the launch starts with: both pipelines' cells and transfers; no counter. -/
def start : Pipeline.UD sig nD τ := (initOf (Pipeline.cells cfgs cellOf_inj) (Pipeline.launchToks cfgs cellOf_inj), 1)

set_option backward.isDefEq.respectTransparency.types false in
/-- Every run ends, with each unscoped buffer at its last contents and every semaphore at zero. -/
theorem run [∀ e, Nonempty (Elt F e)] :
    θ_run defs (onTc (τ := τ) (main (F := F))) ⟨m, fun _ => 0, ρ⟩ (fun r =>
      (∀ c : Dev nD, ∀ b : Ref sig .tc, b.isScoped = false → r.2.mem ((c : Thread nD τ).loc b) = W5 m c b) ∧ r.2.sem = fun _ => 0) := by
  refine Pipeline.θ_run_regions_kit_dev_sems (pcfgs (F := F)) adm (dats m) () cellOf_inj embL defs₀ Variants.none noL nolv m ρ main
    (parts m)
    (fun c Q => by
      rewrite [main_chain c, Seg.run_eq_chain,
        show (parts m c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [parts, Seg.pipes_host, Seg.pipes_region, Seg.pipes_nil]; decide) (O₀ := 0) (hL := fun _ _ => rfl)
    (G := fun _ => iprop(emp)) (u₀ := start) (hu₀ := ?_)
    (T₀ := fun c => iprop(StableHlo.held (c : Thread nD τ) (Pipeline.ucRefs τ sig) (W0 m c) ∗ noDues c))
    (Tₙ := fun c => StableHlo.held (c : Thread nD τ) (Pipeline.ucRefs τ sig) (W5 m c))
    (hch := fun c => ⟨.rfl, .rfl, .rfl, .rfl, .rfl, .rfl⟩)
    (hinit := ?_) (QY := fun c s => ∀ b : Ref sig .tc, b.isScoped = false → s.mem ((c : Thread nD τ).loc b) = W5 m c b)
    (hfin := fun c s' => ?_) (hQ := fun _ h hz => ⟨h, funext fun g => hz g (.inr (regions_no_unscoped g.2))⟩)
  · unfold start
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · refine Pipeline.initEach noL nolv fun c => ?_
    rw [show unscopedBufs c (fun b => m ((c : Thread nD τ).loc b)) = StableHlo.held (c : Thread nD τ) (Pipeline.ucRefs τ sig) (W0 m c) from Pipeline.unscopedBufs_held c (W0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (W5 m c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, fun h' => Bool.false_ne_true (hb.symm.trans h')⟩)
    · iexact HSI

end Cert.KernelIdeal.Hand
-- ==== Proof.Same.lean ====
module

public import proofs.«01_k».proof.Proof.KI.Whole
public import proofs.«01_k».proof.Proof.Gen.Kernel
public import Idealize.ShloMosaic.PureOps.BitExact
public import Idealize.ShloMosaic.Lib.Tactic

@[expose] public section

noncomputable section

namespace Cert.Proof

open Idealize.ShloMosaic Idealize.ShloMosaic.TcCoe Idealize.SL.Sem

variable (F : FTy → Type) [FloatOps F]

/-- The arguments, of the program for reading at the extended reals -/
def argsIdeal : List (Ref Cert.KernelIdeal.sig .tc) := [Cert.KernelIdeal.main_arg0, Cert.KernelIdeal.main_arg1, Cert.KernelIdeal.main_arg2, Cert.KernelIdeal.main_arg3, Cert.KernelIdeal.main_arg4, Cert.KernelIdeal.main_arg5, Cert.KernelIdeal.main_arg6, Cert.KernelIdeal.main_arg7, Cert.KernelIdeal.main_arg8, Cert.KernelIdeal.main_arg9, Cert.KernelIdeal.main_arg10, Cert.KernelIdeal.main_arg11, Cert.KernelIdeal.main_arg12, Cert.KernelIdeal.main_arg13, Cert.KernelIdeal.main_arg14]

/-- and of the program as printed. -/
def argsPrinted : List (Ref Cert.Kernel.sig .tc) := [Cert.Kernel.main_arg0, Cert.Kernel.main_arg1, Cert.Kernel.main_arg2, Cert.Kernel.main_arg3, Cert.Kernel.main_arg4, Cert.Kernel.main_arg5, Cert.Kernel.main_arg6, Cert.Kernel.main_arg7, Cert.Kernel.main_arg8, Cert.Kernel.main_arg9, Cert.Kernel.main_arg10, Cert.Kernel.main_arg11, Cert.Kernel.main_arg12, Cert.Kernel.main_arg13, Cert.Kernel.main_arg14]

/-- No part of the program writes an argument. -/
theorem args_unwritten : ∀ b ∈ argsIdeal, b.isScoped = false ∧ b ∉ Cert.KernelIdeal.Gen.hostOps0_W ∧ b ≠ Cert.KernelIdeal.main_v1 ∧ b ∉ Cert.KernelIdeal.Gen.hostOps1_W
    ∧ b ≠ Cert.KernelIdeal.main_v11 ∧ b ∉ Cert.KernelIdeal.Gen.hostOps2_W := by unfold argsIdeal; decide

/-- The program for reading at the extended reals runs, leaves its arguments and ends with every semaphore at zero, at any arithmetic. -/
def KeptIdeal : Prop :=
  ∀ (m : (ℓ : Loc Cert.KernelIdeal.nD Cert.KernelIdeal.τ Cert.KernelIdeal.sig) → Buf (Elt F) ℓ) (g : Dev Cert.KernelIdeal.nD → PrngReg),
    θ_run (Cert.KernelIdeal.defs (F := F)) (onTc (τ := Cert.KernelIdeal.τ) (Cert.KernelIdeal.main (F := F))) ⟨m, fun _ => 0, g⟩ (fun r =>
      (∀ c : Dev Cert.KernelIdeal.nD, ∀ b ∈ argsIdeal,
        r.2.mem ((c.tc : Thread Cert.KernelIdeal.nD Cert.KernelIdeal.τ).loc b) = m ((c.tc : Thread Cert.KernelIdeal.nD Cert.KernelIdeal.τ).loc b)) ∧ r.2.sem = fun _ => 0)

/-- The same of the program as printed. -/
def KeptPrinted : Prop :=
  ∀ (m : (ℓ : Loc Cert.Kernel.nD Cert.Kernel.τ Cert.Kernel.sig) → Buf (Elt F) ℓ) (g : Dev Cert.Kernel.nD → PrngReg),
    θ_run (Cert.Kernel.defs (F := F)) (onTc (τ := Cert.Kernel.τ) (Cert.Kernel.main (F := F))) ⟨m, fun _ => 0, g⟩ (fun r =>
      (∀ c : Dev Cert.Kernel.nD, ∀ b ∈ argsPrinted,
        r.2.mem ((c.tc : Thread Cert.Kernel.nD Cert.Kernel.τ).loc b) = m ((c.tc : Thread Cert.Kernel.nD Cert.Kernel.τ).loc b)) ∧ r.2.sem = fun _ => 0)

/-- It does. -/
theorem kept_ideal [∀ e, Nonempty (Elt F e)] : KeptIdeal F := fun m g =>
  (θ_run Cert.KernelIdeal.defs _ _).mono (fun r h => ⟨fun c b hb => by
    obtain ⟨hs, h0, h1, h2, h3, h4⟩ := args_unwritten b hb
    exact (h.1 c b hs).trans (Cert.KernelIdeal.Hand.W5_kept m c b h0 h1 h2 h3 h4), h.2⟩)
    (Cert.KernelIdeal.Hand.run m g)

/-- The two programs are one text. -/
theorem kept_same : KeptPrinted F = KeptIdeal F := by sl_kernel_rfl

/-- So the program as printed runs, leaves its arguments and ends with every semaphore at zero. -/
theorem kept_printed [∀ e, Nonempty (Elt F e)] : KeptPrinted F := (kept_same F).mpr (kept_ideal F)

end Cert.Proof
-- ==== Proof.Ref.Ops.lean ====
module

public import proofs.«01_k».proof.ReferenceIdeal
public import proofs.«01_k».proof.Proof.Gen.ReferenceIdeal
public import Idealize.ShloMosaic.Lib.StableHlo.RunHlo
public import Idealize.ShloMosaic.Lib.Pipeline.Frame
public import Idealize.ShloMosaic.Lib.Tactic

@[expose] public section

noncomputable section

namespace Cert.ReferenceIdeal.Hand

open Cert.ReferenceIdeal Cert.ReferenceIdeal.Gen
open Idealize.ShloMosaic Idealize.ShloMosaic.TcCoe Idealize.SL.Sem
open Idealize.ShloMosaic.StableHlo

variable {F : FTy → Type} [FloatOps F]

/-- The mean over the sequence. -/
abbrev poolOps : List (HloOp τ sig (Elt F)) :=
  [ StableHlo.nullary main_cst (constant S_ .f32 0x00000000#32),
    StableHlo.binary main_arg0 main_cst main_v0 ((fun x v => Host.reduceAdd x v reducesTo_S8x4096x2048_S8x2048_d1 h_S_) : (⟨S8x4096x2048, .f32⟩ : BufTy).Contents (Elt F) → (⟨S_, .f32⟩ : BufTy).Contents (Elt F) → (⟨S8x2048, .f32⟩ : BufTy).Contents (Elt F)),
    StableHlo.nullary main_cst_0 (constant S_ .f32 0x45800000#32),
    StableHlo.unary main_cst_0 main_v1 (broadcastInDim S8x2048 ![] bcast_S_S8x2048 : (⟨S_, .f32⟩ : BufTy).Contents (Elt F) → (⟨S8x2048, .f32⟩ : BufTy).Contents (Elt F)),
    StableHlo.binary main_v0 main_v1 main_v2 (Host.divf : (⟨S8x2048, .f32⟩ : BufTy).Contents (Elt F) → (⟨S8x2048, .f32⟩ : BufTy).Contents (Elt F) → (⟨S8x2048, .f32⟩ : BufTy).Contents (Elt F)) ]

/-- The first dense layer of the encoder. -/
abbrev enc1Ops : List (HloOp τ sig (Elt F)) :=
  [ StableHlo.unary main_arg2 main_v3 ((transpose S2048x256 [1, 0] · transposes_S256x2048_S2048x256_1_0) : (⟨S256x2048, .f32⟩ : BufTy).Contents (Elt F) → (⟨S2048x256, .f32⟩ : BufTy).Contents (Elt F)),
    StableHlo.binary main_v2 main_v3 main_v4 ((fun l r => Host.dotGeneral dot_S8x2048_S2048x256_S8x256_1_0_0_1_n_n none l r) : (⟨S8x2048, .f32⟩ : BufTy).Contents (Elt F) → (⟨S2048x256, .f32⟩ : BufTy).Contents (Elt F) → (⟨S8x256, .f32⟩ : BufTy).Contents (Elt F)),
    StableHlo.unary main_arg3 main_v5 (broadcastInDim S1x256 ![1] bcast_S256_S1x256_1 : (⟨S256, .f32⟩ : BufTy).Contents (Elt F) → (⟨S1x256, .f32⟩ : BufTy).Contents (Elt F)),
    StableHlo.unary main_v5 main_v6 (broadcastInDim S8x256 ![0, 1] bcast_S1x256_S8x256_0_1 : (⟨S1x256, .f32⟩ : BufTy).Contents (Elt F) → (⟨S8x256, .f32⟩ : BufTy).Contents (Elt F)),
    StableHlo.binary main_v4 main_v6 main_v7 (addf : (⟨S8x256, .f32⟩ : BufTy).Contents (Elt F) → (⟨S8x256, .f32⟩ : BufTy).Contents (Elt F) → (⟨S8x256, .f32⟩ : BufTy).Contents (Elt F)) ]

/-- Its layer norm. -/
abbrev norm1Ops : List (HloOp τ sig (Elt F)) :=
  [ StableHlo.nullary main_cst_1 (constant S_ .f32 0x00000000#32),
    StableHlo.binary main_v7 main_cst_1 main_v8 ((fun x v => Host.reduceAdd x v reducesTo_S8x256_S8_d1 h_S_) : (⟨S8x256, .f32⟩ : BufTy).Contents (Elt F) → (⟨S_, .f32⟩ : BufTy).Contents (Elt F) → (⟨S8, .f32⟩ : BufTy).Contents (Elt F)),
    StableHlo.unary main_v8 main_v9 (broadcastInDim S8x1 ![0] bcast_S8_S8x1_0 : (⟨S8, .f32⟩ : BufTy).Contents (Elt F) → (⟨S8x1, .f32⟩ : BufTy).Contents (Elt F)),
    StableHlo.nullary main_cst_2 (constant S_ .f32 0x43800000#32),
    StableHlo.unary main_cst_2 main_v10 (broadcastInDim S8x1 ![] bcast_S_S8x1 : (⟨S_, .f32⟩ : BufTy).Contents (Elt F) → (⟨S8x1, .f32⟩ : BufTy).Contents (Elt F)),
    StableHlo.binary main_v9 main_v10 main_v11 (Host.divf : (⟨S8x1, .f32⟩ : BufTy).Contents (Elt F) → (⟨S8x1, .f32⟩ : BufTy).Contents (Elt F) → (⟨S8x1, .f32⟩ : BufTy).Contents (Elt F)),
    StableHlo.unary main_v11 main_v12 (broadcastInDim S8x256 ![0, 1] bcast_S8x1_S8x256_0_1 : (⟨S8x1, .f32⟩ : BufTy).Contents (Elt F) → (⟨S8x256, .f32⟩ : BufTy).Contents (Elt F)),
    StableHlo.binary main_v7 main_v12 main_v13 (subf : (⟨S8x256, .f32⟩ : BufTy).Contents (Elt F) → (⟨S8x256, .f32⟩ : BufTy).Contents (Elt F) → (⟨S8x256, .f32⟩ : BufTy).Contents (Elt F)),
    StableHlo.binary main_v13 main_v13 main_v14 (mulf : (⟨S8x256, .f32⟩ : BufTy).Contents (Elt F) → (⟨S8x256, .f32⟩ : BufTy).Contents (Elt F) → (⟨S8x256, .f32⟩ : BufTy).Contents (Elt F)),
    StableHlo.nullary main_cst_3 (constant S_ .f32 0x00000000#32),
    StableHlo.binary main_v14 main_cst_3 main_v15 ((fun x v => Host.reduceAdd x v reducesTo_S8x256_S8_d1 h_S_) : (⟨S8x256, .f32⟩ : BufTy).Contents (Elt F) → (⟨S_, .f32⟩ : BufTy).Contents (Elt F) → (⟨S8, .f32⟩ : BufTy).Contents (Elt F)),
    StableHlo.unary main_v15 main_v16 (broadcastInDim S8x1 ![0] bcast_S8_S8x1_0 : (⟨S8, .f32⟩ : BufTy).Contents (Elt F) → (⟨S8x1, .f32⟩ : BufTy).Contents (Elt F)),
    StableHlo.nullary main_cst_4 (constant S_ .f32 0x43800000#32),
    StableHlo.unary main_cst_4 main_v17 (broadcastInDim S8x1 ![] bcast_S_S8x1 : (⟨S_, .f32⟩ : BufTy).Contents (Elt F) → (⟨S8x1, .f32⟩ : BufTy).Contents (Elt F)),
    StableHlo.binary main_v16 main_v17 main_v18 (Host.divf : (⟨S8x1, .f32⟩ : BufTy).Contents (Elt F) → (⟨S8x1, .f32⟩ : BufTy).Contents (Elt F) → (⟨S8x1, .f32⟩ : BufTy).Contents (Elt F)),
    StableHlo.unary main_v11 main_v19 (broadcastInDim S8x256 ![0, 1] bcast_S8x1_S8x256_0_1 : (⟨S8x1, .f32⟩ : BufTy).Contents (Elt F) → (⟨S8x256, .f32⟩ : BufTy).Contents (Elt F)),
    StableHlo.binary main_v7 main_v19 main_v20 (subf : (⟨S8x256, .f32⟩ : BufTy).Contents (Elt F) → (⟨S8x256, .f32⟩ : BufTy).Contents (Elt F) → (⟨S8x256, .f32⟩ : BufTy).Contents (Elt F)),
    StableHlo.nullary main_cst_5 (constant S_ .f32 0x3727C5AC#32),
    StableHlo.unary main_cst_5 main_v21 (broadcastInDim S8x1 ![] bcast_S_S8x1 : (⟨S_, .f32⟩ : BufTy).Contents (Elt F) → (⟨S8x1, .f32⟩ : BufTy).Contents (Elt F)),
    StableHlo.binary main_v18 main_v21 main_v22 (addf : (⟨S8x1, .f32⟩ : BufTy).Contents (Elt F) → (⟨S8x1, .f32⟩ : BufTy).Contents (Elt F) → (⟨S8x1, .f32⟩ : BufTy).Contents (Elt F)),
    StableHlo.unary main_v22 main_v23 (Host.rsqrt : (⟨S8x1, .f32⟩ : BufTy).Contents (Elt F) → (⟨S8x1, .f32⟩ : BufTy).Contents (Elt F)),
    StableHlo.unary main_v23 main_v24 (broadcastInDim S8x256 ![0, 1] bcast_S8x1_S8x256_0_1 : (⟨S8x1, .f32⟩ : BufTy).Contents (Elt F) → (⟨S8x256, .f32⟩ : BufTy).Contents (Elt F)),
    StableHlo.binary main_v20 main_v24 main_v25 (mulf : (⟨S8x256, .f32⟩ : BufTy).Contents (Elt F) → (⟨S8x256, .f32⟩ : BufTy).Contents (Elt F) → (⟨S8x256, .f32⟩ : BufTy).Contents (Elt F)),
    StableHlo.unary main_arg4 main_v26 (broadcastInDim S1x256 ![1] bcast_S256_S1x256_1 : (⟨S256, .f32⟩ : BufTy).Contents (Elt F) → (⟨S1x256, .f32⟩ : BufTy).Contents (Elt F)),
    StableHlo.unary main_v26 main_v27 (broadcastInDim S8x256 ![0, 1] bcast_S1x256_S8x256_0_1 : (⟨S1x256, .f32⟩ : BufTy).Contents (Elt F) → (⟨S8x256, .f32⟩ : BufTy).Contents (Elt F)),
    StableHlo.binary main_v25 main_v27 main_v28 (mulf : (⟨S8x256, .f32⟩ : BufTy).Contents (Elt F) → (⟨S8x256, .f32⟩ : BufTy).Contents (Elt F) → (⟨S8x256, .f32⟩ : BufTy).Contents (Elt F)),
    StableHlo.unary main_arg5 main_v29 (broadcastInDim S1x256 ![1] bcast_S256_S1x256_1 : (⟨S256, .f32⟩ : BufTy).Contents (Elt F) → (⟨S1x256, .f32⟩ : BufTy).Contents (Elt F)),
    StableHlo.unary main_v29 main_v30 (broadcastInDim S8x256 ![0, 1] bcast_S1x256_S8x256_0_1 : (⟨S1x256, .f32⟩ : BufTy).Contents (Elt F) → (⟨S8x256, .f32⟩ : BufTy).Contents (Elt F)),
    StableHlo.binary main_v28 main_v30 main_v31 (addf : (⟨S8x256, .f32⟩ : BufTy).Contents (Elt F) → (⟨S8x256, .f32⟩ : BufTy).Contents (Elt F) → (⟨S8x256, .f32⟩ : BufTy).Contents (Elt F)) ]

/-- Its activation. -/
abbrev gelu1Ops : List (HloOp τ sig (Elt F)) :=
  [ StableHlo.nullary main_cst_6 (constant S_ .f32 0x3F000000#32),
    StableHlo.unary main_cst_6 main_v32 (broadcastInDim S8x256 ![] bcast_S_S8x256 : (⟨S_, .f32⟩ : BufTy).Contents (Elt F) → (⟨S8x256, .f32⟩ : BufTy).Contents (Elt F)),
    StableHlo.binary main_v32 main_v31 main_v33 (mulf : (⟨S8x256, .f32⟩ : BufTy).Contents (Elt F) → (⟨S8x256, .f32⟩ : BufTy).Contents (Elt F) → (⟨S8x256, .f32⟩ : BufTy).Contents (Elt F)),
    StableHlo.unary main_v31 main_v34 (Host.negf : (⟨S8x256, .f32⟩ : BufTy).Contents (Elt F) → (⟨S8x256, .f32⟩ : BufTy).Contents (Elt F)),
    StableHlo.nullary main_cst_7 (constant S_ .f32 0x3F3504F3#32),
    StableHlo.unary main_cst_7 main_v35 (broadcastInDim S8x256 ![] bcast_S_S8x256 : (⟨S_, .f32⟩ : BufTy).Contents (Elt F) → (⟨S8x256, .f32⟩ : BufTy).Contents (Elt F)),
    StableHlo.binary main_v34 main_v35 main_v36 (mulf : (⟨S8x256, .f32⟩ : BufTy).Contents (Elt F) → (⟨S8x256, .f32⟩ : BufTy).Contents (Elt F) → (⟨S8x256, .f32⟩ : BufTy).Contents (Elt F)),
    StableHlo.unary main_v36 main_v37 (Host.erfc : (⟨S8x256, .f32⟩ : BufTy).Contents (Elt F) → (⟨S8x256, .f32⟩ : BufTy).Contents (Elt F)),
    StableHlo.binary main_v33 main_v37 main_v38 (mulf : (⟨S8x256, .f32⟩ : BufTy).Contents (Elt F) → (⟨S8x256, .f32⟩ : BufTy).Contents (Elt F) → (⟨S8x256, .f32⟩ : BufTy).Contents (Elt F)) ]

/-- The logits. -/
abbrev enc2Ops : List (HloOp τ sig (Elt F)) :=
  [ StableHlo.unary main_arg6 main_v39 ((transpose S256x256 [1, 0] · transposes_S256x256_S256x256_1_0) : (⟨S256x256, .f32⟩ : BufTy).Contents (Elt F) → (⟨S256x256, .f32⟩ : BufTy).Contents (Elt F)),
    StableHlo.binary main_v38 main_v39 main_v40 ((fun l r => Host.dotGeneral dot_S8x256_S256x256_S8x256_1_0_0_1_n_n none l r) : (⟨S8x256, .f32⟩ : BufTy).Contents (Elt F) → (⟨S256x256, .f32⟩ : BufTy).Contents (Elt F) → (⟨S8x256, .f32⟩ : BufTy).Contents (Elt F)),
    StableHlo.unary main_arg7 main_v41 (broadcastInDim S1x256 ![1] bcast_S256_S1x256_1 : (⟨S256, .f32⟩ : BufTy).Contents (Elt F) → (⟨S1x256, .f32⟩ : BufTy).Contents (Elt F)),
    StableHlo.unary main_v41 main_v42 (broadcastInDim S8x256 ![0, 1] bcast_S1x256_S8x256_0_1 : (⟨S1x256, .f32⟩ : BufTy).Contents (Elt F) → (⟨S8x256, .f32⟩ : BufTy).Contents (Elt F)),
    StableHlo.binary main_v40 main_v42 main_v43 (addf : (⟨S8x256, .f32⟩ : BufTy).Contents (Elt F) → (⟨S8x256, .f32⟩ : BufTy).Contents (Elt F) → (⟨S8x256, .f32⟩ : BufTy).Contents (Elt F)),
    StableHlo.reshape main_v43 main_v44 (rfl : (.f32 : EltTy) = .f32) shapeCasts_S8x256_S8x8x32 ]

/-- The logits with the Gumbel noise added. -/
abbrev gumbelOps : List (HloOp τ sig (Elt F)) :=
  [ StableHlo.unary main_arg1 main_v45 (Host.log : (⟨S8x8x32, .f32⟩ : BufTy).Contents (Elt F) → (⟨S8x8x32, .f32⟩ : BufTy).Contents (Elt F)),
    StableHlo.unary main_v45 main_v46 (Host.negf : (⟨S8x8x32, .f32⟩ : BufTy).Contents (Elt F) → (⟨S8x8x32, .f32⟩ : BufTy).Contents (Elt F)),
    StableHlo.unary main_v46 main_v47 (Host.log : (⟨S8x8x32, .f32⟩ : BufTy).Contents (Elt F) → (⟨S8x8x32, .f32⟩ : BufTy).Contents (Elt F)),
    StableHlo.unary main_v47 main_v48 (Host.negf : (⟨S8x8x32, .f32⟩ : BufTy).Contents (Elt F) → (⟨S8x8x32, .f32⟩ : BufTy).Contents (Elt F)),
    StableHlo.binary main_v44 main_v48 main_v49 (addf : (⟨S8x8x32, .f32⟩ : BufTy).Contents (Elt F) → (⟨S8x8x32, .f32⟩ : BufTy).Contents (Elt F) → (⟨S8x8x32, .f32⟩ : BufTy).Contents (Elt F)),
    StableHlo.nullary main_cst_8 (constant S_ .f32 0x3F800000#32),
    StableHlo.unary main_cst_8 main_v50 (broadcastInDim S8x8x32 ![] bcast_S_S8x8x32 : (⟨S_, .f32⟩ : BufTy).Contents (Elt F) → (⟨S8x8x32, .f32⟩ : BufTy).Contents (Elt F)),
    StableHlo.binary main_v49 main_v50 main_v51 (Host.divf : (⟨S8x8x32, .f32⟩ : BufTy).Contents (Elt F) → (⟨S8x8x32, .f32⟩ : BufTy).Contents (Elt F) → (⟨S8x8x32, .f32⟩ : BufTy).Contents (Elt F)) ]

/-- The softmax of the noisy logits. -/
abbrev softOps : List (HloOp τ sig (Elt F)) :=
  [ StableHlo.nullary main_cst_9 (constant S_ .f32 0xFF800000#32),
    StableHlo.binary main_v51 main_cst_9 main_v52 ((fun x v => Host.reduce FloatOps.maximumf x v reducesTo_S8x8x32_S8x8_d2 h_S_) : (⟨S8x8x32, .f32⟩ : BufTy).Contents (Elt F) → (⟨S_, .f32⟩ : BufTy).Contents (Elt F) → (⟨S8x8, .f32⟩ : BufTy).Contents (Elt F)),
    StableHlo.nullary main_cst_10 (constant S_ .f32 0xFF800000#32),
    StableHlo.unary main_cst_10 main_v53 (broadcastInDim S8x8 ![] bcast_S_S8x8 : (⟨S_, .f32⟩ : BufTy).Contents (Elt F) → (⟨S8x8, .f32⟩ : BufTy).Contents (Elt F)),
    StableHlo.binary main_v53 main_v52 main_v54 (maximumf : (⟨S8x8, .f32⟩ : BufTy).Contents (Elt F) → (⟨S8x8, .f32⟩ : BufTy).Contents (Elt F) → (⟨S8x8, .f32⟩ : BufTy).Contents (Elt F)),
    StableHlo.unary main_v54 main_v55 (broadcastInDim S8x8x1 ![0, 1] bcast_S8x8_S8x8x1_0_1 : (⟨S8x8, .f32⟩ : BufTy).Contents (Elt F) → (⟨S8x8x1, .f32⟩ : BufTy).Contents (Elt F)),
    StableHlo.unary main_v55 main_v56 (broadcastInDim S8x8x32 ![0, 1, 2] bcast_S8x8x1_S8x8x32_0_1_2 : (⟨S8x8x1, .f32⟩ : BufTy).Contents (Elt F) → (⟨S8x8x32, .f32⟩ : BufTy).Contents (Elt F)),
    StableHlo.binary main_v51 main_v56 main_v57 (subf : (⟨S8x8x32, .f32⟩ : BufTy).Contents (Elt F) → (⟨S8x8x32, .f32⟩ : BufTy).Contents (Elt F) → (⟨S8x8x32, .f32⟩ : BufTy).Contents (Elt F)),
    StableHlo.unary main_v57 main_v58 (Host.exp : (⟨S8x8x32, .f32⟩ : BufTy).Contents (Elt F) → (⟨S8x8x32, .f32⟩ : BufTy).Contents (Elt F)),
    StableHlo.nullary main_cst_11 (constant S_ .f32 0x00000000#32),
    StableHlo.binary main_v58 main_cst_11 main_v59 ((fun x v => Host.reduceAdd x v reducesTo_S8x8x32_S8x8_d2 h_S_) : (⟨S8x8x32, .f32⟩ : BufTy).Contents (Elt F) → (⟨S_, .f32⟩ : BufTy).Contents (Elt F) → (⟨S8x8, .f32⟩ : BufTy).Contents (Elt F)),
    StableHlo.unary main_v59 main_v60 (broadcastInDim S8x8x1 ![0, 1] bcast_S8x8_S8x8x1_0_1 : (⟨S8x8, .f32⟩ : BufTy).Contents (Elt F) → (⟨S8x8x1, .f32⟩ : BufTy).Contents (Elt F)),
    StableHlo.unary main_v60 main_v61 (broadcastInDim S8x8x32 ![0, 1, 2] bcast_S8x8x1_S8x8x32_0_1_2 : (⟨S8x8x1, .f32⟩ : BufTy).Contents (Elt F) → (⟨S8x8x32, .f32⟩ : BufTy).Contents (Elt F)),
    StableHlo.binary main_v58 main_v61 main_v62 (Host.divf : (⟨S8x8x32, .f32⟩ : BufTy).Contents (Elt F) → (⟨S8x8x32, .f32⟩ : BufTy).Contents (Elt F) → (⟨S8x8x32, .f32⟩ : BufTy).Contents (Elt F)) ]

/-- The index of the largest and its one-hot row. -/
abbrev hardOps : List (HloOp τ sig (Elt F)) :=
  [ StableHlo.TRef.nullary main_call0.v0 (iotaInDim S8x8x32 32 2),
    StableHlo.TRef.nullary main_call0.cst (constant S_ .f32 0xFF800000#32),
    StableHlo.TRef.nullary main_call0.c (constantI S_ 32 0#32),
    StableHlo.TRef.quaternary (.of main_v62 : TRef sig ⟨S8x8x32, .f32⟩) main_call0.v0 main_call0.cst main_call0.c main_call0.v1_0 (fun x y u v j => (Host.argReduce reducer_argmax_f32_i32 x y u v reducesTo_S8x8x32_S8x8_d2 h_S_ j).1),
    StableHlo.TRef.quaternary (.of main_v62 : TRef sig ⟨S8x8x32, .f32⟩) main_call0.v0 main_call0.cst main_call0.c main_call0.v1_1 (fun x y u v j => (Host.argReduce reducer_argmax_f32_i32 x y u v reducesTo_S8x8x32_S8x8_d2 h_S_ j).2),
    StableHlo.TRef.unary (.of main_v63 : TRef sig ⟨S8x8, .i32⟩) main_call1.v0 (broadcastInDim S8x8x1 ![0, 1] bcast_S8x8_S8x8x1_0_1),
    StableHlo.TRef.nullary main_call1.v1 (iotaInDim S1x1x32 32 2),
    StableHlo.TRef.unary main_call1.v0 main_call1.v2 (broadcastInDim S8x8x32 ![0, 1, 2] bcast_S8x8x1_S8x8x32_0_1_2),
    StableHlo.TRef.unary main_call1.v1 main_call1.v3 (broadcastInDim S8x8x32 ![0, 1, 2] bcast_S1x1x32_S8x8x32_0_1_2),
    StableHlo.TRef.binary main_call1.v2 main_call1.v3 main_call1.v4 (cmpi .eq),
    StableHlo.TRef.unary main_call1.v4 main_call1.v5 (uitofp .f32) ]

/-- The straight-through symbols and their embedding. -/
abbrev embedOps : List (HloOp τ sig (Elt F)) :=
  [ StableHlo.binary main_v64 main_v62 main_v65 (subf : (⟨S8x8x32, .f32⟩ : BufTy).Contents (Elt F) → (⟨S8x8x32, .f32⟩ : BufTy).Contents (Elt F) → (⟨S8x8x32, .f32⟩ : BufTy).Contents (Elt F)),
    StableHlo.binary main_v65 main_v62 main_v66 (addf : (⟨S8x8x32, .f32⟩ : BufTy).Contents (Elt F) → (⟨S8x8x32, .f32⟩ : BufTy).Contents (Elt F) → (⟨S8x8x32, .f32⟩ : BufTy).Contents (Elt F)),
    StableHlo.binary main_v66 main_arg8 main_v67 ((fun l r => Host.dotGeneral dot_S8x8x32_S32x64_S8x8x64_2_0_01_1_n_n none l r) : (⟨S8x8x32, .f32⟩ : BufTy).Contents (Elt F) → (⟨S32x64, .f32⟩ : BufTy).Contents (Elt F) → (⟨S8x8x64, .f32⟩ : BufTy).Contents (Elt F)),
    StableHlo.reshape main_v67 main_v68 (rfl : (.f32 : EltTy) = .f32) shapeCasts_S8x8x64_S8x512 ]

/-- The first dense layer of the decoder. -/
abbrev dec1Ops : List (HloOp τ sig (Elt F)) :=
  [ StableHlo.unary main_arg9 main_v69 ((transpose S512x256 [1, 0] · transposes_S256x512_S512x256_1_0) : (⟨S256x512, .f32⟩ : BufTy).Contents (Elt F) → (⟨S512x256, .f32⟩ : BufTy).Contents (Elt F)),
    StableHlo.binary main_v68 main_v69 main_v70 ((fun l r => Host.dotGeneral dot_S8x512_S512x256_S8x256_1_0_0_1_n_n none l r) : (⟨S8x512, .f32⟩ : BufTy).Contents (Elt F) → (⟨S512x256, .f32⟩ : BufTy).Contents (Elt F) → (⟨S8x256, .f32⟩ : BufTy).Contents (Elt F)),
    StableHlo.unary main_arg10 main_v71 (broadcastInDim S1x256 ![1] bcast_S256_S1x256_1 : (⟨S256, .f32⟩ : BufTy).Contents (Elt F) → (⟨S1x256, .f32⟩ : BufTy).Contents (Elt F)),
    StableHlo.unary main_v71 main_v72 (broadcastInDim S8x256 ![0, 1] bcast_S1x256_S8x256_0_1 : (⟨S1x256, .f32⟩ : BufTy).Contents (Elt F) → (⟨S8x256, .f32⟩ : BufTy).Contents (Elt F)),
    StableHlo.binary main_v70 main_v72 main_v73 (addf : (⟨S8x256, .f32⟩ : BufTy).Contents (Elt F) → (⟨S8x256, .f32⟩ : BufTy).Contents (Elt F) → (⟨S8x256, .f32⟩ : BufTy).Contents (Elt F)) ]

/-- Its layer norm. -/
abbrev norm2Ops : List (HloOp τ sig (Elt F)) :=
  [ StableHlo.nullary main_cst_12 (constant S_ .f32 0x00000000#32),
    StableHlo.binary main_v73 main_cst_12 main_v74 ((fun x v => Host.reduceAdd x v reducesTo_S8x256_S8_d1 h_S_) : (⟨S8x256, .f32⟩ : BufTy).Contents (Elt F) → (⟨S_, .f32⟩ : BufTy).Contents (Elt F) → (⟨S8, .f32⟩ : BufTy).Contents (Elt F)),
    StableHlo.unary main_v74 main_v75 (broadcastInDim S8x1 ![0] bcast_S8_S8x1_0 : (⟨S8, .f32⟩ : BufTy).Contents (Elt F) → (⟨S8x1, .f32⟩ : BufTy).Contents (Elt F)),
    StableHlo.nullary main_cst_13 (constant S_ .f32 0x43800000#32),
    StableHlo.unary main_cst_13 main_v76 (broadcastInDim S8x1 ![] bcast_S_S8x1 : (⟨S_, .f32⟩ : BufTy).Contents (Elt F) → (⟨S8x1, .f32⟩ : BufTy).Contents (Elt F)),
    StableHlo.binary main_v75 main_v76 main_v77 (Host.divf : (⟨S8x1, .f32⟩ : BufTy).Contents (Elt F) → (⟨S8x1, .f32⟩ : BufTy).Contents (Elt F) → (⟨S8x1, .f32⟩ : BufTy).Contents (Elt F)),
    StableHlo.unary main_v77 main_v78 (broadcastInDim S8x256 ![0, 1] bcast_S8x1_S8x256_0_1 : (⟨S8x1, .f32⟩ : BufTy).Contents (Elt F) → (⟨S8x256, .f32⟩ : BufTy).Contents (Elt F)),
    StableHlo.binary main_v73 main_v78 main_v79 (subf : (⟨S8x256, .f32⟩ : BufTy).Contents (Elt F) → (⟨S8x256, .f32⟩ : BufTy).Contents (Elt F) → (⟨S8x256, .f32⟩ : BufTy).Contents (Elt F)),
    StableHlo.binary main_v79 main_v79 main_v80 (mulf : (⟨S8x256, .f32⟩ : BufTy).Contents (Elt F) → (⟨S8x256, .f32⟩ : BufTy).Contents (Elt F) → (⟨S8x256, .f32⟩ : BufTy).Contents (Elt F)),
    StableHlo.nullary main_cst_14 (constant S_ .f32 0x00000000#32),
    StableHlo.binary main_v80 main_cst_14 main_v81 ((fun x v => Host.reduceAdd x v reducesTo_S8x256_S8_d1 h_S_) : (⟨S8x256, .f32⟩ : BufTy).Contents (Elt F) → (⟨S_, .f32⟩ : BufTy).Contents (Elt F) → (⟨S8, .f32⟩ : BufTy).Contents (Elt F)),
    StableHlo.unary main_v81 main_v82 (broadcastInDim S8x1 ![0] bcast_S8_S8x1_0 : (⟨S8, .f32⟩ : BufTy).Contents (Elt F) → (⟨S8x1, .f32⟩ : BufTy).Contents (Elt F)),
    StableHlo.nullary main_cst_15 (constant S_ .f32 0x43800000#32),
    StableHlo.unary main_cst_15 main_v83 (broadcastInDim S8x1 ![] bcast_S_S8x1 : (⟨S_, .f32⟩ : BufTy).Contents (Elt F) → (⟨S8x1, .f32⟩ : BufTy).Contents (Elt F)),
    StableHlo.binary main_v82 main_v83 main_v84 (Host.divf : (⟨S8x1, .f32⟩ : BufTy).Contents (Elt F) → (⟨S8x1, .f32⟩ : BufTy).Contents (Elt F) → (⟨S8x1, .f32⟩ : BufTy).Contents (Elt F)),
    StableHlo.unary main_v77 main_v85 (broadcastInDim S8x256 ![0, 1] bcast_S8x1_S8x256_0_1 : (⟨S8x1, .f32⟩ : BufTy).Contents (Elt F) → (⟨S8x256, .f32⟩ : BufTy).Contents (Elt F)),
    StableHlo.binary main_v73 main_v85 main_v86 (subf : (⟨S8x256, .f32⟩ : BufTy).Contents (Elt F) → (⟨S8x256, .f32⟩ : BufTy).Contents (Elt F) → (⟨S8x256, .f32⟩ : BufTy).Contents (Elt F)),
    StableHlo.nullary main_cst_16 (constant S_ .f32 0x3727C5AC#32),
    StableHlo.unary main_cst_16 main_v87 (broadcastInDim S8x1 ![] bcast_S_S8x1 : (⟨S_, .f32⟩ : BufTy).Contents (Elt F) → (⟨S8x1, .f32⟩ : BufTy).Contents (Elt F)),
    StableHlo.binary main_v84 main_v87 main_v88 (addf : (⟨S8x1, .f32⟩ : BufTy).Contents (Elt F) → (⟨S8x1, .f32⟩ : BufTy).Contents (Elt F) → (⟨S8x1, .f32⟩ : BufTy).Contents (Elt F)),
    StableHlo.unary main_v88 main_v89 (Host.rsqrt : (⟨S8x1, .f32⟩ : BufTy).Contents (Elt F) → (⟨S8x1, .f32⟩ : BufTy).Contents (Elt F)),
    StableHlo.unary main_v89 main_v90 (broadcastInDim S8x256 ![0, 1] bcast_S8x1_S8x256_0_1 : (⟨S8x1, .f32⟩ : BufTy).Contents (Elt F) → (⟨S8x256, .f32⟩ : BufTy).Contents (Elt F)),
    StableHlo.binary main_v86 main_v90 main_v91 (mulf : (⟨S8x256, .f32⟩ : BufTy).Contents (Elt F) → (⟨S8x256, .f32⟩ : BufTy).Contents (Elt F) → (⟨S8x256, .f32⟩ : BufTy).Contents (Elt F)),
    StableHlo.unary main_arg11 main_v92 (broadcastInDim S1x256 ![1] bcast_S256_S1x256_1 : (⟨S256, .f32⟩ : BufTy).Contents (Elt F) → (⟨S1x256, .f32⟩ : BufTy).Contents (Elt F)),
    StableHlo.unary main_v92 main_v93 (broadcastInDim S8x256 ![0, 1] bcast_S1x256_S8x256_0_1 : (⟨S1x256, .f32⟩ : BufTy).Contents (Elt F) → (⟨S8x256, .f32⟩ : BufTy).Contents (Elt F)),
    StableHlo.binary main_v91 main_v93 main_v94 (mulf : (⟨S8x256, .f32⟩ : BufTy).Contents (Elt F) → (⟨S8x256, .f32⟩ : BufTy).Contents (Elt F) → (⟨S8x256, .f32⟩ : BufTy).Contents (Elt F)),
    StableHlo.unary main_arg12 main_v95 (broadcastInDim S1x256 ![1] bcast_S256_S1x256_1 : (⟨S256, .f32⟩ : BufTy).Contents (Elt F) → (⟨S1x256, .f32⟩ : BufTy).Contents (Elt F)),
    StableHlo.unary main_v95 main_v96 (broadcastInDim S8x256 ![0, 1] bcast_S1x256_S8x256_0_1 : (⟨S1x256, .f32⟩ : BufTy).Contents (Elt F) → (⟨S8x256, .f32⟩ : BufTy).Contents (Elt F)),
    StableHlo.binary main_v94 main_v96 main_v97 (addf : (⟨S8x256, .f32⟩ : BufTy).Contents (Elt F) → (⟨S8x256, .f32⟩ : BufTy).Contents (Elt F) → (⟨S8x256, .f32⟩ : BufTy).Contents (Elt F)) ]

/-- Its activation. -/
abbrev gelu2Ops : List (HloOp τ sig (Elt F)) :=
  [ StableHlo.nullary main_cst_17 (constant S_ .f32 0x3F000000#32),
    StableHlo.unary main_cst_17 main_v98 (broadcastInDim S8x256 ![] bcast_S_S8x256 : (⟨S_, .f32⟩ : BufTy).Contents (Elt F) → (⟨S8x256, .f32⟩ : BufTy).Contents (Elt F)),
    StableHlo.binary main_v98 main_v97 main_v99 (mulf : (⟨S8x256, .f32⟩ : BufTy).Contents (Elt F) → (⟨S8x256, .f32⟩ : BufTy).Contents (Elt F) → (⟨S8x256, .f32⟩ : BufTy).Contents (Elt F)),
    StableHlo.unary main_v97 main_v100 (Host.negf : (⟨S8x256, .f32⟩ : BufTy).Contents (Elt F) → (⟨S8x256, .f32⟩ : BufTy).Contents (Elt F)),
    StableHlo.nullary main_cst_18 (constant S_ .f32 0x3F3504F3#32),
    StableHlo.unary main_cst_18 main_v101 (broadcastInDim S8x256 ![] bcast_S_S8x256 : (⟨S_, .f32⟩ : BufTy).Contents (Elt F) → (⟨S8x256, .f32⟩ : BufTy).Contents (Elt F)),
    StableHlo.binary main_v100 main_v101 main_v102 (mulf : (⟨S8x256, .f32⟩ : BufTy).Contents (Elt F) → (⟨S8x256, .f32⟩ : BufTy).Contents (Elt F) → (⟨S8x256, .f32⟩ : BufTy).Contents (Elt F)),
    StableHlo.unary main_v102 main_v103 (Host.erfc : (⟨S8x256, .f32⟩ : BufTy).Contents (Elt F) → (⟨S8x256, .f32⟩ : BufTy).Contents (Elt F)),
    StableHlo.binary main_v99 main_v103 main_v104 (mulf : (⟨S8x256, .f32⟩ : BufTy).Contents (Elt F) → (⟨S8x256, .f32⟩ : BufTy).Contents (Elt F) → (⟨S8x256, .f32⟩ : BufTy).Contents (Elt F)) ]

/-- The decoded row. -/
abbrev dec2Ops : List (HloOp τ sig (Elt F)) :=
  [ StableHlo.unary main_arg13 main_v105 ((transpose S256x2048 [1, 0] · transposes_S2048x256_S256x2048_1_0) : (⟨S2048x256, .f32⟩ : BufTy).Contents (Elt F) → (⟨S256x2048, .f32⟩ : BufTy).Contents (Elt F)),
    StableHlo.binary main_v104 main_v105 main_v106 ((fun l r => Host.dotGeneral dot_S8x256_S256x2048_S8x2048_1_0_0_1_n_n none l r) : (⟨S8x256, .f32⟩ : BufTy).Contents (Elt F) → (⟨S256x2048, .f32⟩ : BufTy).Contents (Elt F) → (⟨S8x2048, .f32⟩ : BufTy).Contents (Elt F)),
    StableHlo.unary main_arg14 main_v107 (broadcastInDim S1x2048 ![1] bcast_S2048_S1x2048_1 : (⟨S2048, .f32⟩ : BufTy).Contents (Elt F) → (⟨S1x2048, .f32⟩ : BufTy).Contents (Elt F)),
    StableHlo.unary main_v107 main_v108 (broadcastInDim S8x2048 ![0, 1] bcast_S1x2048_S8x2048_0_1 : (⟨S1x2048, .f32⟩ : BufTy).Contents (Elt F) → (⟨S8x2048, .f32⟩ : BufTy).Contents (Elt F)),
    StableHlo.binary main_v106 main_v108 main_v109 (addf : (⟨S8x2048, .f32⟩ : BufTy).Contents (Elt F) → (⟨S8x2048, .f32⟩ : BufTy).Contents (Elt F) → (⟨S8x2048, .f32⟩ : BufTy).Contents (Elt F)) ]

/-- The scaled decoded row added to every row of the sequence. -/
abbrev addOps : List (HloOp τ sig (Elt F)) :=
  [ StableHlo.unary main_v109 main_v110 (broadcastInDim S8x1x2048 ![0, 2] bcast_S8x2048_S8x1x2048_0_2 : (⟨S8x2048, .f32⟩ : BufTy).Contents (Elt F) → (⟨S8x1x2048, .f32⟩ : BufTy).Contents (Elt F)),
    StableHlo.nullary main_cst_19 (constant S_ .f32 0x3DCCCCCD#32),
    StableHlo.unary main_cst_19 main_v111 (broadcastInDim S8x1x2048 ![] bcast_S_S8x1x2048 : (⟨S_, .f32⟩ : BufTy).Contents (Elt F) → (⟨S8x1x2048, .f32⟩ : BufTy).Contents (Elt F)),
    StableHlo.binary main_v111 main_v110 main_v112 (mulf : (⟨S8x1x2048, .f32⟩ : BufTy).Contents (Elt F) → (⟨S8x1x2048, .f32⟩ : BufTy).Contents (Elt F) → (⟨S8x1x2048, .f32⟩ : BufTy).Contents (Elt F)),
    StableHlo.unary main_v112 main_v113 (broadcastInDim S8x4096x2048 ![0, 1, 2] bcast_S8x1x2048_S8x4096x2048_0_1_2 : (⟨S8x1x2048, .f32⟩ : BufTy).Contents (Elt F) → (⟨S8x4096x2048, .f32⟩ : BufTy).Contents (Elt F)),
    StableHlo.binary main_arg0 main_v113 main_v114 (addf : (⟨S8x4096x2048, .f32⟩ : BufTy).Contents (Elt F) → (⟨S8x4096x2048, .f32⟩ : BufTy).Contents (Elt F) → (⟨S8x4096x2048, .f32⟩ : BufTy).Contents (Elt F)) ]

/-- The reference's operations in order, stage by stage. -/
abbrev stages : List (List (HloOp τ sig (Elt F))) :=
  [poolOps, enc1Ops, norm1Ops, gelu1Ops, enc2Ops, gumbelOps, softOps, hardOps, embedOps, dec1Ops, norm2Ops, gelu2Ops, dec2Ops, addOps]

/-- The reference is the straight line of its stages. -/
theorem main_seq (d : Dev nD) : main (F := F) d = seq (stages (F := F)).flatten := by
  sl_kernel_rfl

end Cert.ReferenceIdeal.Hand
-- ==== Proof.Ref.Run.lean ====
module

public import proofs.«01_k».proof.Proof.Ref.Ops
public import Idealize.ShloMosaic.Lib.Claim
public import Idealize.ShloMosaic.Lib.Quiescent

@[expose] public section

noncomputable section

namespace Cert.ReferenceIdeal.Hand

open Cert.ReferenceIdeal Cert.ReferenceIdeal.Gen
open Idealize.ShloMosaic Idealize.ShloMosaic.TcCoe Idealize.SL.Sem
open Idealize.ShloMosaic.StableHlo

variable {F : FTy → Type} [FloatOps F]

/-- Every buffer the reference writes, in order. -/
abbrev written : List (Ref sig .tc) :=
  [main_cst, main_v0, main_cst_0, main_v1, main_v2, main_v3, main_v4, main_v5, main_v6, main_v7, main_cst_1, main_v8,
   main_v9, main_cst_2, main_v10, main_v11, main_v12, main_v13, main_v14, main_cst_3, main_v15, main_v16, main_cst_4,
   main_v17, main_v18, main_v19, main_v20, main_cst_5, main_v21, main_v22, main_v23, main_v24, main_v25, main_v26,
   main_v27, main_v28, main_v29, main_v30, main_v31, main_cst_6, main_v32, main_v33, main_v34, main_cst_7, main_v35,
   main_v36, main_v37, main_v38, main_v39, main_v40, main_v41, main_v42, main_v43, main_v44, main_v45, main_v46,
   main_v47, main_v48, main_v49, main_cst_8, main_v50, main_v51, main_cst_9, main_v52, main_cst_10, main_v53, main_v54,
   main_v55, main_v56, main_v57, main_v58, main_cst_11, main_v59, main_v60, main_v61, main_v62, main_call0_v0,
   main_call0_cst, main_call0_c, main_call0_v1_0, main_v63, main_call1_v0, main_call1_v1, main_call1_v2,
   main_call1_v3, main_call1_v4, main_v64, main_v65, main_v66, main_v67, main_v68, main_v69, main_v70, main_v71,
   main_v72, main_v73, main_cst_12, main_v74, main_v75, main_cst_13, main_v76, main_v77, main_v78, main_v79, main_v80,
   main_cst_14, main_v81, main_v82, main_cst_15, main_v83, main_v84, main_v85, main_v86, main_cst_16, main_v87,
   main_v88, main_v89, main_v90, main_v91, main_v92, main_v93, main_v94, main_v95, main_v96, main_v97, main_cst_17,
   main_v98, main_v99, main_v100, main_cst_18, main_v101, main_v102, main_v103, main_v104, main_v105, main_v106,
   main_v107, main_v108, main_v109, main_v110, main_cst_19, main_v111, main_v112, main_v113, main_v114]

/-- Those are what it writes. -/
theorem writes_eq : (stages (F := F)).flatten.map HloOp.writes = written.map fun r => {Proc.devRef (τ := τ) .tc r} := by
  sl_kernel_rfl

/-- None of its operations leaves a result undetermined. -/
theorem fresh_eq : (stages (F := F)).flatten.map HloOp.fresh = (stages (F := F)).flatten.map fun _ => ∅ := by
  sl_kernel_rfl

/-- The reference's arguments. -/
def args : List (Ref sig .tc) :=
  [main_arg0, main_arg1, main_arg2, main_arg3, main_arg4, main_arg5, main_arg6, main_arg7, main_arg8, main_arg9, main_arg10,
   main_arg11, main_arg12, main_arg13, main_arg14]

/-- No operation writes an argument. -/
theorem args_not_written : ∀ b ∈ args, b ∉ written := by unfold args; decide

/-- A stage leaves a buffer none of the operations writes. -/
theorem stage_keeps (ops : List (HloOp τ sig (Elt F))) (h : ops ∈ stages (F := F)) (V : Valuation τ sig (Elt F)) (b : Ref sig .tc) (hb : b ∉ written) :
    after ops V b = V b := by
  refine after_of_writes_sub (W := written) ops V ?_ hb
  have := forall_writes_sub_of_map (writes_eq (F := F))
  rw [List.forall_iff_forall_mem] at this ⊢
  exact fun op hop => this op (List.mem_flatten.mpr ⟨ops, h, hop⟩)

/-- So does the whole reference. -/
theorem all_keeps (V : Valuation τ sig (Elt F)) (b : Ref sig .tc) (hb : b ∉ written) : after (stages (F := F)).flatten V b = V b :=
  after_of_writes_sub (W := written) _ V (forall_writes_sub_of_map writes_eq) hb

/-- The reference names only buffers of the core it runs on. -/
theorem bufs_sub : (stages (F := F)).flatten.Forall fun op => op.bufs ⊆ tcRefs τ sig := by
  simp [stages]

/-- The reference runs: it ends with what its operations in order leave, and with every semaphore at zero. -/
theorem run (m : (ℓ : Loc nD τ sig) → Buf (Elt F) ℓ) (ρ : Dev nD → PrngReg) :
    θ_run (defs (F := F)) (onTc (τ := τ) (main (F := F))) ⟨m, fun _ => 0, ρ⟩ (fun r =>
      (∀ (d : Dev nD) (b : Ref sig .tc), r.2.mem ((d.tc : Thread nD τ).loc b) = after (stages (F := F)).flatten (launchContents m d) b) ∧ r.2.sem = fun _ => 0) :=
  θ_run_mono (run_seq (by decide) (by decide) defs main (fun _ => (stages (F := F)).flatten) main_seq (fun _ => bufs_sub) m ρ
    (fun _ => List.forall_iff_forall_mem.mp (forall_fresh_of_map fresh_eq)))
    fun r h => ⟨h, sem_eq_zero_of_no_sems (by decide) _⟩

/-- The reference runs, leaves its arguments and ends with every semaphore at zero. -/
theorem kept (m : (ℓ : Loc nD τ sig) → Buf (Elt F) ℓ) (ρ : Dev nD → PrngReg) :
    θ_run (defs (F := F)) (onTc (τ := τ) (main (F := F))) ⟨m, fun _ => 0, ρ⟩ (fun r =>
      (∀ d : Dev nD, ∀ b ∈ args, r.2.mem ((d.tc : Thread nD τ).loc b) = m ((d.tc : Thread nD τ).loc b)) ∧ r.2.sem = fun _ => 0) :=
  θ_run_mono (run m ρ) fun r h => ⟨fun d b hb => (h.1 d b).trans (all_keeps _ b (args_not_written b hb)), h.2⟩

end Cert.ReferenceIdeal.Hand
-- ==== Proof.Math.Rows.lean ====
module

public import Idealize.ShloMosaic.Lib.IdealHost

@[expose] public section

noncomputable section

namespace Cert.Math

open Idealize.ShloMosaic
open scoped BigOperators

/-! # One batch row of the network over the extended reals -/

/-- A dense layer: the row times each row of the weights, plus the bias. -/
def dense {n m : ℕ} (w : Fin m → Fin n → EReal) (b : Fin m → EReal) (x : Fin n → EReal) (j : Fin m) : EReal :=
  (∑ k, x k * w j k) + b j

/-- The mean of a row of 256. -/
def mean (x : Fin 256 → EReal) : EReal := Ideal.div (∑ k, x k) (Ideal.ofBits .f32 0x43800000#32)

/-- What a row's deviations are multiplied by. -/
def scale (x : Fin 256 → EReal) : EReal :=
  Ideal.rsqrt (mean (fun k => (x k - mean x) * (x k - mean x)) + Ideal.ofBits .f32 0x3727C5AC#32)

/-- The layer norm of a row of 256. -/
def norm (g b x : Fin 256 → EReal) (j : Fin 256) : EReal := (x j - mean x) * scale x * g j + b j

/-- The activation. -/
def gelu (x : EReal) : EReal :=
  (Ideal.ofBits .f32 0x3F000000#32 * x) * (1 + Ideal.erf (x * Ideal.ofBits .f32 0x3F3504F3#32))

/-- The noise made from a uniform draw. -/
def noise (u : EReal) : EReal := -Ideal.log (-Ideal.log u)

/-- A symbol's largest noisy logit. -/
def peak (z : Fin 32 → EReal) : EReal := (Finset.univ : Finset (Fin 32)).fold max ⊥ z

/-- An index at which a row is largest and before which it is smaller. -/
def IsFirst (z : Fin 32 → EReal) (k : Fin 32) : Prop := (∀ c, z c ≤ z k) ∧ ∀ c < k, z c < z k

/-- One where the index is `k`, zero elsewhere. -/
def hot (k c : Fin 32) : EReal := if c = k then 1 else 0

/-! ## Values that are real numbers -/

/-- The value is a real number. -/
def Real' (x : EReal) : Prop := ∃ r : ℝ, x = (r : EReal)

theorem Real'.of_ne {x : EReal} (ht : x ≠ ⊤) (hb : x ≠ ⊥) : Real' x := ⟨x.toReal, (EReal.coe_toReal ht hb).symm⟩
theorem Real'.add {x y : EReal} : Real' x → Real' y → Real' (x + y) := fun ⟨a, ha⟩ ⟨b, hb⟩ => ⟨a + b, by rw [ha, hb, EReal.coe_add]⟩
theorem Real'.mul {x y : EReal} : Real' x → Real' y → Real' (x * y) := fun ⟨a, ha⟩ ⟨b, hb⟩ => ⟨a * b, by rw [ha, hb, EReal.coe_mul]⟩
theorem Real'.neg {x : EReal} : Real' x → Real' (-x) := fun ⟨a, ha⟩ => ⟨-a, by rw [ha, EReal.coe_neg]⟩
theorem Real'.zero : Real' 0 := ⟨0, rfl⟩
theorem Real'.one : Real' 1 := ⟨1, rfl⟩
theorem Real'.sum {ι : Type} (s : Finset ι) (f : ι → EReal) (h : ∀ i ∈ s, Real' (f i)) : Real' (∑ i ∈ s, f i) :=
  Finset.sum_induction f Real' (fun _ _ => Real'.add) Real'.zero h

/-- Half is a real number, so is the activation's inner factor. -/
theorem half_real : Real' (Ideal.ofBits .f32 0x3F000000#32) := by
  refine ⟨(1 : ℝ) / 2, ?_⟩
  simp [Ideal.ofBits, Ideal.ieee, -EReal.coe_mul]; norm_num
theorem inner_real : Real' (Ideal.ofBits .f32 0x3F3504F3#32) := by
  simp only [Ideal.ofBits, Ideal.ieee]
  exact ⟨_, rfl⟩
/-- The count of a row as a real number. -/
theorem ofBits_256 : Ideal.ofBits .f32 0x43800000#32 = ((256 : ℝ) : EReal) := by
  simp [Ideal.ofBits, Ideal.ieee, -EReal.coe_mul]; norm_num
/-- The count of a sequence as a real number. -/
theorem ofBits_4096 : Ideal.ofBits .f32 0x45800000#32 = ((4096 : ℝ) : EReal) := by
  simp [Ideal.ofBits, Ideal.ieee, -EReal.coe_mul]; norm_num
/-- Its reciprocal as a real number. -/
theorem ofBits_inv_4096 : Ideal.ofBits .f32 0x39800000#32 = (((4096 : ℝ)⁻¹ : ℝ) : EReal) := by
  simp [Ideal.ofBits, Ideal.ieee, -EReal.coe_mul]; norm_num
/-- What is added to the variance is a positive real number. -/
theorem eps_pos : ∃ r : ℝ, 0 < r ∧ Ideal.ofBits .f32 0x3727C5AC#32 = (r : EReal) := by
  refine ⟨(10995116 : ℝ) / 2 ^ 40, by positivity, ?_⟩
  simp [Ideal.ofBits, Ideal.ieee, -EReal.coe_mul]; norm_num
/-- Minus infinity. -/
theorem ofBits_bot : Ideal.ofBits .f32 0xFF800000#32 = ⊥ := by simp [Ideal.ofBits, Ideal.ieee]
/-- Plus infinity. -/
theorem ofBits_top : Ideal.ofBits .f32 0x7F800000#32 = ⊤ := by simp [Ideal.ofBits, Ideal.ieee]

/-- The error function is a real number everywhere. -/
theorem erf_real (x : EReal) : Real' (Ideal.erf x) := by
  induction x with
  | bot => exact Real'.neg Real'.one
  | top => exact Real'.one
  | coe r => exact ⟨_, rfl⟩

/-- The activation of a real number is real. -/
theorem gelu_real {x : EReal} (h : Real' x) : Real' (gelu x) :=
  (half_real.mul h).mul (Real'.one.add (erf_real _))

/-- A dense layer of real numbers is real. -/
theorem dense_real {n m : ℕ} (w : Fin m → Fin n → EReal) (b : Fin m → EReal) (x : Fin n → EReal) (hw : ∀ j k, Real' (w j k))
    (hb : ∀ j, Real' (b j)) (hx : ∀ k, Real' (x k)) (j : Fin m) : Real' (dense w b x j) :=
  (Real'.sum _ _ fun k _ => (hx k).mul (hw j k)).add (hb j)

/-- The noise of a draw strictly between zero and one is real. -/
theorem noise_real {u : EReal} (h0 : 0 < u) (h1 : u < 1) : Real' (noise u) := by
  induction u with
  | bot => exact absurd h0 (by simp)
  | top => exact absurd h1 (by simp)
  | coe r =>
    have r0 : 0 < r := by exact_mod_cast h0
    have r1 : r < 1 := by exact_mod_cast h1
    have l : Real.log r < 0 := Real.log_neg r0 r1
    unfold noise
    have e : Ideal.log (r : EReal) = (Real.log r : EReal) := if_neg (not_le.mpr r0)
    rw [e, ← EReal.coe_neg]
    have e' : Ideal.log ((-Real.log r : ℝ) : EReal) = (Real.log (-Real.log r) : EReal) := if_neg (by linarith)
    rw [e']
    exact Real'.neg ⟨_, rfl⟩

/-- The square of an extended real is not negative; it is infinite only for an infinite one. -/
theorem sq_nonneg' (x : EReal) : 0 ≤ x * x := by
  induction x with
  | bot => simp
  | top => simp
  | coe r => rw [← EReal.coe_mul]; exact_mod_cast mul_self_nonneg r
theorem real_of_sq {x : EReal} (h : x * x ≠ ⊤) : Real' x := by
  induction x with
  | bot => exact absurd (by simp) h
  | top => exact absurd (by simp) h
  | coe r => exact ⟨r, rfl⟩

/-- A quotient by the count of a row. -/
theorem div_256 (x : EReal) : Ideal.div x (Ideal.ofBits .f32 0x43800000#32) = x * (((256 : ℝ)⁻¹ : ℝ) : EReal) := by
  rw [ofBits_256]; unfold Ideal.div
  rw [if_neg (by norm_num [← EReal.coe_zero]), EReal.coe_inv]

/-- A row's normalised entries are real numbers, whatever the row. -/
theorem unit_real (x : Fin 256 → EReal) (j : Fin 256) : Real' ((x j - mean x) * scale x) := by
  obtain ⟨e, he, hE⟩ := eps_pos
  set d : Fin 256 → EReal := fun k => x k - mean x with hd
  have hs : 0 ≤ ∑ k, d k * d k := Finset.sum_nonneg fun k _ => sq_nonneg' _
  have hc : (0 : EReal) < (((256 : ℝ)⁻¹ : ℝ) : EReal) := by exact_mod_cast (by norm_num : (0 : ℝ) < (256 : ℝ)⁻¹)
  have hm : mean (fun k => (x k - mean x) * (x k - mean x)) = (∑ k, d k * d k) * (((256 : ℝ)⁻¹ : ℝ) : EReal) := div_256 _
  show Real' (d j * scale x)
  unfold scale
  rw [hm, hE]
  by_cases ht : ∑ k, d k * d k = ⊤
  · rw [ht, EReal.top_mul_of_pos hc]
    have : (⊤ : EReal) + (e : EReal) = ⊤ := by simp
    rw [this]
    have : Ideal.rsqrt ⊤ = 0 := rfl
    rw [this, mul_zero]; exact Real'.zero
  · have hj : Real' (d j) := real_of_sq fun h => ht (by
      refine top_le_iff.mp (h ▸ ?_)
      exact Finset.single_le_sum (f := fun k => d k * d k) (fun k _ => sq_nonneg' _) (Finset.mem_univ j))
    refine hj.mul ?_
    obtain ⟨s, hs'⟩ := Real'.of_ne ht (fun h => absurd (h ▸ hs) (by simp))
    rw [hs'] at hs ⊢
    have s0 : 0 ≤ s := by exact_mod_cast hs
    rw [← EReal.coe_mul, ← EReal.coe_add]
    have hp : 0 < s * (256 : ℝ)⁻¹ + e := by positivity
    refine ⟨(Real.sqrt (s * (256 : ℝ)⁻¹ + e))⁻¹, ?_⟩
    exact (if_neg (not_lt.mpr hp.le)).trans (if_neg hp.ne')

/-- The layer norm with a real gain and offset is real, whatever the row. -/
theorem norm_real (g b x : Fin 256 → EReal) (hg : ∀ k, Real' (g k)) (hb : ∀ k, Real' (b k)) (j : Fin 256) : Real' (norm g b x j) :=
  ((unit_real x j).mul (hg j)).add (hb j)

/-- The reference's spelling of the activation. -/
theorem gelu_erfc (x : EReal) :
    (Ideal.ofBits .f32 0x3F000000#32 * x) * Ideal.erfc (-x * Ideal.ofBits .f32 0x3F3504F3#32) = gelu x := by
  unfold gelu
  rw [EReal.neg_mul, Ideal.erfc_neg]

end Cert.Math
-- ==== Proof.Math.First.lean ====
module

public import proofs.«01_k».proof.Proof.Math.Rows

@[expose] public section

noncomputable section

namespace Cert.Math

open Idealize.ShloMosaic
open scoped BigOperators

/-! # The first largest entry of a row, and the softmax -/

/-- A fold whose value at one place absorbs every other value is that value. -/
theorem fold_absorb {ι α : Type} [Fintype ι] [DecidableEq ι] (op : α → α → α) [Std.Commutative op] [Std.Associative op] (init : α)
    (f : ι → α) (k : ι) (h0 : op (f k) init = f k) (h : ∀ c, op (f k) (f c) = f k) : (Finset.univ : Finset ι).fold op init f = f k := by
  rw [← Finset.insert_erase (Finset.mem_univ k), Finset.fold_insert (Finset.notMem_erase _ _)]
  generalize (Finset.univ : Finset ι).erase k = s
  induction s using Finset.induction_on with
  | empty => exact h0
  | insert a s ha ih => rw [Finset.fold_insert ha, ← Std.Associative.assoc (op := op), h a, ih]

/-- The largest entry is the entry at an index that is largest. -/
theorem peak_eq (z : Fin 32 → EReal) (k : Fin 32) (h : ∀ c, z c ≤ z k) : peak z = z k :=
  fold_absorb max ⊥ z k (max_eq_left bot_le) fun c => max_eq_left (h c)

/-- Every row has a first largest entry. -/
theorem exists_first (z : Fin 32 → EReal) : ∃ k, IsFirst z k := by
  obtain ⟨m, -, hm⟩ := Finset.exists_max_image Finset.univ z Finset.univ_nonempty
  have hne : (Finset.univ.filter fun k => ∀ c, z c ≤ z k).Nonempty := ⟨m, by simpa using fun c => hm c (Finset.mem_univ c)⟩
  refine ⟨(Finset.univ.filter fun k => ∀ c, z c ≤ z k).min' hne, ?_, fun c hc => ?_⟩
  · exact (Finset.mem_filter.mp (Finset.min'_mem _ hne)).2
  · have hk := (Finset.mem_filter.mp (Finset.min'_mem _ hne)).2
    refine lt_of_le_of_ne (hk c) fun e => ?_
    exact absurd (Finset.min'_le _ c (Finset.mem_filter.mpr ⟨Finset.mem_univ _, fun d => e ▸ hk d⟩)) (not_le.mpr hc)

/-- The softmax of a row. -/
def soft (z : Fin 32 → EReal) (c : Fin 32) : EReal := Ideal.div (Ideal.exp (z c - peak z)) (∑ d, Ideal.exp (z d - peak z))

/-- A sum of real numbers, as extended reals. -/
theorem coe_sum {ι : Type} [DecidableEq ι] (s : Finset ι) (f : ι → ℝ) : ((∑ i ∈ s, f i : ℝ) : EReal) = ∑ i ∈ s, (f i : EReal) := by
  induction s using Finset.induction_on with
  | empty => rfl
  | insert a s ha ih => rw [Finset.sum_insert ha, Finset.sum_insert ha, EReal.coe_add, ih]

/-- The softmax of a real row: positive real numbers, in the order of the row. -/
theorem soft_real (z : Fin 32 → EReal) (hz : ∀ c, Real' (z c)) :
    ∃ p : Fin 32 → ℝ, (∀ c, soft z c = (p c : EReal)) ∧ (∀ c, 0 < p c) ∧ (∀ c d, z c < z d → p c < p d) ∧ (∀ c d, z c ≤ z d → p c ≤ p d) := by
  choose r hr using hz
  obtain ⟨k, hk, -⟩ := exists_first z
  have hp : peak z = (r k : EReal) := (peak_eq z k hk).trans (hr k)
  have he : ∀ c, Ideal.exp (z c - peak z) = ((Real.exp (r c - r k) : ℝ) : EReal) := fun c => by
    rw [hp, hr c, ← EReal.coe_sub]; rfl
  have hS : ∑ d, Ideal.exp (z d - peak z) = ((∑ d, Real.exp (r d - r k) : ℝ) : EReal) := by
    rw [coe_sum]
    exact Finset.sum_congr rfl fun d _ => he d
  have hpos : 0 < ∑ d, Real.exp (r d - r k) := Finset.sum_pos (fun d _ => Real.exp_pos _) Finset.univ_nonempty
  have hlt : ∀ c d, z c < z d ↔ r c < r d := fun c d => by rw [hr c, hr d]; exact EReal.coe_lt_coe_iff
  have hle : ∀ c d, z c ≤ z d ↔ r c ≤ r d := fun c d => by rw [hr c, hr d]; exact EReal.coe_le_coe_iff
  refine ⟨fun c => Real.exp (r c - r k) * (∑ d, Real.exp (r d - r k))⁻¹, fun c => ?_, fun c => by positivity, fun c d h => ?_, fun c d h => ?_⟩
  · unfold soft
    rw [he, hS]
    unfold Ideal.div
    rw [if_neg (by exact_mod_cast hpos.ne'), ← EReal.coe_inv, ← EReal.coe_mul]
  · exact mul_lt_mul_of_pos_right (Real.exp_lt_exp.mpr (sub_lt_sub_right ((hlt c d).mp h) _)) (inv_pos.mpr hpos)
  · exact mul_le_mul_of_nonneg_right (Real.exp_le_exp.mpr (sub_le_sub_right ((hle c d).mp h) _)) (inv_pos.mpr hpos).le

/-- The softmax of a real row has its first largest entry where the row has it. -/
theorem soft_first (z : Fin 32 → EReal) (hz : ∀ c, Real' (z c)) (k : Fin 32) (h : IsFirst z k) : IsFirst (soft z) k := by
  obtain ⟨p, hp, -, hlt, hle⟩ := soft_real z hz
  refine ⟨fun c => ?_, fun c hc => ?_⟩
  · rw [hp, hp]; exact EReal.coe_le_coe_iff.mpr (hle _ _ (h.1 c))
  · rw [hp, hp]; exact EReal.coe_lt_coe_iff.mpr (hlt _ _ (h.2 c hc))

/-- Less a real number and plus it again. -/
theorem sub_add_real {x y : EReal} (hx : Real' x) (hy : Real' y) : x - y + y = x := by
  obtain ⟨a, rfl⟩ := hx; obtain ⟨b, rfl⟩ := hy
  rw [← EReal.coe_sub, ← EReal.coe_add, sub_add_cancel]

/-- A one-hot entry is a real number. -/
theorem hot_real (k c : Fin 32) : Real' (hot k c) := by
  unfold hot; split
  exacts [Real'.one, Real'.zero]

end Cert.Math
-- ==== Proof.Math.Net.lean ====
module

public import proofs.«01_k».proof.Proof.Math.First

@[expose] public section

noncomputable section

namespace Cert.Math

open Idealize.ShloMosaic Idealize.ShloMosaic.ValueIdx
open scoped BigOperators

/-! # The network on one batch row -/

/-- Arrays of one, two and three axes. -/
abbrev Arr1 (n : ℕ) := (⟨1, ![n]⟩ : Shape).Idx → EReal
abbrev Arr2 (m n : ℕ) := (⟨2, ![m, n]⟩ : Shape).Idx → EReal
abbrev Arr3 (l m n : ℕ) := (⟨3, ![l, m, n]⟩ : Shape).Idx → EReal

/-- Column `c` of symbol `s` among the logits, and column `d` of symbol `s` among the embedded symbols. -/
def at32 (s : Fin 8) (c : Fin 32) : Fin 256 := ⟨32 * s.val + c.val, by omega⟩
def at64 (s : Fin 8) (d : Fin 64) : Fin 512 := ⟨64 * s.val + d.val, by omega⟩

/-- The network's weights. -/
structure Net where
  w1 : Arr2 256 2048
  b1 : Arr1 256
  g1 : Arr1 256
  o1 : Arr1 256
  w2 : Arr2 256 256
  b2 : Arr1 256
  cb : Arr2 32 64
  dw : Arr2 256 512
  db : Arr1 256
  g2 : Arr1 256
  o2 : Arr1 256
  dw2 : Arr2 2048 256
  db2 : Arr1 2048

/-- A two-axis array as a function of row and column, a one-axis array as a function of position. -/
def rows {m n : ℕ} (w : Arr2 m n) (j : Fin m) (k : Fin n) : EReal := w (ix2 j k)
def entries {n : ℕ} (b : Arr1 n) (j : Fin n) : EReal := b (ix1 j)

/-- The noisy logits of a row with mean `x` and draws `u`. -/
def Net.encode (N : Net) (x : Fin 2048 → EReal) (u : Fin 256 → EReal) (j : Fin 256) : EReal :=
  dense (rows N.w2) (entries N.b2) (fun k => gelu (norm (entries N.g1) (entries N.o1) (dense (rows N.w1) (entries N.b1) x) k)) j + noise (u j)

/-- The symbol chosen from a row of noisy logits. -/
def pick (z : Fin 32 → EReal) : Fin 32 := Classical.choose (exists_first z)

theorem pick_first (z : Fin 32 → EReal) : IsFirst z (pick z) := Classical.choose_spec (exists_first z)

/-- The embedding of the symbol chosen. -/
def Net.embed (N : Net) (z : Fin 256 → EReal) (s : Fin 8) (d : Fin 64) : EReal :=
  ∑ c, hot (pick fun c => z (at32 s c)) c * N.cb (ix2 c d)

/-- The decoder's first layer on the embedded symbols. -/
def Net.mix (N : Net) (z : Fin 256 → EReal) (j : Fin 256) : EReal :=
  (∑ s, ∑ d, N.embed z s d * N.dw (ix2 j (at64 s d))) + N.db (ix1 j)

/-- The decoded row of the noisy logits `z`. -/
def Net.decode (N : Net) (z : Fin 256 → EReal) : Fin 2048 → EReal :=
  dense (rows N.dw2) (entries N.db2) (fun k => gelu (norm (entries N.g2) (entries N.o2) (N.mix z) k))

/-- The noisy logits are real numbers where the draws lie strictly between zero and one and the layer norm's gain and offset and
the logits' weights and bias are real. -/
theorem Net.encode_real (N : Net) (x : Fin 2048 → EReal) (u : Fin 256 → EReal) (hu : ∀ j, 0 < u j ∧ u j < 1) (hg : ∀ p, Real' (N.g1 p))
    (ho : ∀ p, Real' (N.o1 p)) (hw : ∀ p, Real' (N.w2 p)) (hb : ∀ p, Real' (N.b2 p)) (j : Fin 256) : Real' (N.encode x u j) :=
  (dense_real _ _ _ (fun _ _ => hw _) (fun _ => hb _) (fun _ => gelu_real (norm_real _ _ _ (fun _ => hg _) (fun _ => ho _) _)) j).add
    (noise_real (hu j).1 (hu j).2)

/-- A sum over the embedded symbols' columns, symbol by symbol. -/
theorem sum_at64 (f : Fin 512 → EReal) : ∑ k, f k = ∑ s, ∑ d, f (at64 s d) := by
  rw [← Fintype.sum_prod_type' (f := fun s d => f (at64 s d)), ← (finProdFinEquiv (m := 8) (n := 64)).sum_comp]
  refine Finset.sum_congr rfl fun p _ => congrArg f (Fin.ext ?_)
  simp [finProdFinEquiv, at64]; omega

end Cert.Math
-- ==== Proof.KI.Layer.lean ====
module

public import proofs.«01_k».proof.Proof.KI.Decode
public import proofs.«01_k».proof.Proof.Math.Net
public import Idealize.ShloMosaic.Lib.MatmulPlain
public import Idealize.ShloMosaic.Lib.ValueLayout
public import Idealize.ShloMosaic.Lib.ValueLayoutCasts

@[expose] public section

noncomputable section

namespace Cert.KernelIdeal.Hand

open Cert.KernelIdeal Cert.KernelIdeal.Gen
open Idealize.ShloMosaic Idealize.ShloMosaic.ValueIdx
open scoped BigOperators

/-! # The kernel's layer norm, activation and products read at an index -/

/-- A column laid over the columns of a matrix of eight rows. -/
theorem col_apply {α : Type} {n : ℕ} (x : S8x1.Idx → α) (h : S8x1.Broadcasts ⟨2, ![8, n]⟩) (i : Fin 8) (j : Fin n) :
    broadcastTo ⟨2, ![8, n]⟩ x h (ix2 i j) = x (ix2 i 0) := by
  refine broadcastTo_apply x h (ix2 i j) (ix2 i 0) fun ax => ?_
  match ax with
  | ⟨0, _⟩ => rfl
  | ⟨1, _⟩ => rfl

/-- A product into zero with the second operand's rows contracted. -/
theorem dotT_apply {M K N : ℕ} (l : FVec Ideal ⟨2, ![M, K]⟩ .f32) (r : FVec Ideal ⟨2, ![N, K]⟩ .f32) (i : Fin M) (j : Fin N) :
    matmul (DotDims.transposedRhs M K N) none l r (constant ⟨2, ![M, N]⟩ .f32 0x00000000#32) (ix2 i j) = ∑ k : Fin K, l (ix2 i k) * r (ix2 j k) := by
  refine (Ideal.matmul_transposedRhs_apply none l r _ i j).trans ?_
  rw [constant_apply, Ideal.ofBits_zero_f32, zero_add]

/-- A product into zero. -/
theorem dotP_apply {M K N : ℕ} (l : FVec Ideal ⟨2, ![M, K]⟩ .f32) (r : FVec Ideal ⟨2, ![K, N]⟩ .f32) (i : Fin M) (j : Fin N) :
    matmul (DotDims.plain M K N) none l r (constant ⟨2, ![M, N]⟩ .f32 0x00000000#32) (ix2 i j) = ∑ k : Fin K, l (ix2 i k) * r (ix2 k j) := by
  refine (Ideal.matmul_plain_apply none l r _ i j).trans ?_
  rw [constant_apply, Ideal.ofBits_zero_f32, zero_add]

/-- The kernel's mean of the rows. -/
def meanK (x : FVec Ideal S8x256 .f32) : FVec Ideal S8x1 .f32 :=
  divf (shapeCast S8x1 (multiReduction .add [1] S8 x 0x00000000#32 reduces_S8x256_S8 (.inl rfl) rfl) shapeCasts_S8_S8x1)
    (broadcast S8x1 (Scalar.ofBits .f32 0x43800000#32))

theorem meanK_apply (x : FVec Ideal S8x256 .f32) (i : Fin 8) : meanK x (ix2 i 0) = Math.mean fun k => x (ix2 i k) := by
  unfold meanK Math.mean
  rw [divf_apply, shapeCast_a_a1_apply]
  refine congrArg₂ Ideal.div ((Ideal.multiReduction_add_single x _ reduces_S8x256_S8 (.inl rfl) rfl (ix1 i)).trans ?_) rfl
  exact Finset.sum_congr rfl fun k _ => congrArg x ((eq_ix2 _).trans rfl)

/-- The rows less their means. -/
def devK (x : FVec Ideal S8x256 .f32) : FVec Ideal S8x256 .f32 := subf x (broadcastTo S8x256 (meanK x) broadcasts_S8x1_S8x256)

theorem devK_apply (x : FVec Ideal S8x256 .f32) (i : Fin 8) (j : Fin 256) : devK x (ix2 i j) = x (ix2 i j) - Math.mean fun k => x (ix2 i k) := by
  unfold devK
  rw [subf_apply, col_apply, meanK_apply]

/-- The kernel's layer norm of the rows. -/
def normK (g b : FVec Ideal S1x256 .f32) (x : FVec Ideal S8x256 .f32) : FVec Ideal S8x256 .f32 :=
  addf (mulf (mulf (devK x) (broadcastTo S8x256 (rsqrt (addf (meanK (mulf (devK x) (devK x))) (broadcast S8x1 (Scalar.ofBits .f32 0x3727C5AC#32)))) broadcasts_S8x1_S8x256))
    (broadcastTo S8x256 g broadcasts_S1x256_S8x256)) (broadcastTo S8x256 b broadcasts_S1x256_S8x256)

theorem normK_apply (g b : FVec Ideal S1x256 .f32) (x : FVec Ideal S8x256 .f32) (i : Fin 8) (j : Fin 256) :
    normK g b x (ix2 i j) = Math.norm (fun k => g (ix2 0 k)) (fun k => b (ix2 0 k)) (fun k => x (ix2 i k)) j := by
  unfold normK
  rw [addf_apply, mulf_apply, mulf_apply, devK_apply, col_apply, broadcastTo_1b_ab_apply, broadcastTo_1b_ab_apply]
  unfold Math.norm Math.scale
  congr 3
  show Ideal.rsqrt (meanK (mulf (devK x) (devK x)) (ix2 i 0) + _) = _
  rw [meanK_apply]
  simp only [mulf_apply, devK_apply]
  rfl

/-- The kernel's activation. -/
def actK (x : FVec Ideal S8x256 .f32) : FVec Ideal S8x256 .f32 :=
  mulf (mulf (broadcast S8x256 (Scalar.ofBits .f32 0x3F000000#32)) x)
    (addf (broadcast S8x256 (Scalar.ofBits .f32 0x3F800000#32)) (erf (mulf x (broadcast S8x256 (Scalar.ofBits .f32 0x3F3504F3#32)))))

theorem actK_apply (x : FVec Ideal S8x256 .f32) (p : S8x256.Idx) : actK x p = Math.gelu (x p) := by
  unfold Math.gelu
  rw [← Ideal.ofBits_one_f32]
  rfl

/-- The logits before the bias are the second encoder product of the activated norm. -/
theorem pay5_eq (v : FVec Ideal S8x256 .f32) (g : FVec Ideal S1x256 .f32) (b : FVec Ideal S1x256 .f32) (w : FVec Ideal S256x256 .f32) :
    k1_pay5 v g b w = matmul dot_S8x256_S256x256_S8x256_1_1_0_0_n_n none (actK (normK g (shapeCast S1x256 b shapeCasts_S1x256_S1x256) v)) w
      (constant S8x256 .f32 0x00000000#32) := rfl

theorem pay5_apply (v : FVec Ideal S8x256 .f32) (g b : FVec Ideal S1x256 .f32) (w : FVec Ideal S256x256 .f32) (i : Fin 8) (j : Fin 256) :
    k1_pay5 v g b w (ix2 i j)
      = ∑ k, Math.gelu (Math.norm (fun k => g (ix2 0 k)) (fun k => b (ix2 0 k)) (fun k => v (ix2 i k)) k) * w (ix2 j k) := by
  rw [pay5_eq, shapeCast_self]
  refine (dotT_apply (M := 8) (K := 256) (N := 256) _ _ i j).trans (Finset.sum_congr rfl fun k _ => ?_)
  rw [actK_apply, normK_apply]

/-- The noise. -/
theorem pay4_apply (u : FVec Ideal S8x256 .f32) (p : S8x256.Idx) : k1_pay4 (F := Ideal) u p = Math.noise (u p) := by
  have h : k1_pay4 (F := Ideal) u = subf (broadcast S8x256 (Scalar.ofBits .f32 0x00000000#32)) (log (subf (broadcast S8x256 (Scalar.ofBits .f32 0x00000000#32))
      (log (shapeCast S8x256 u shapeCasts_S8x256_S8x256)))) := rfl
  rw [h, shapeCast_self]
  show Ideal.ofBits .f32 0x00000000#32 - Ideal.log (Ideal.ofBits .f32 0x00000000#32 - Ideal.log (u p)) = _
  rw [Ideal.ofBits_zero_f32, zero_sub, zero_sub]
  rfl

/-- The logits with bias and noise. -/
theorem pay6_apply (n z : FVec Ideal S8x256 .f32) (b : FVec Ideal S1x256 .f32) (i : Fin 8) (j : Fin 256) :
    k1_pay6 n z b (ix2 i j) = z (ix2 i j) + b (ix2 0 j) + n (ix2 i j) := by
  have h : k1_pay6 n z b = addf (addf z (broadcastTo S8x256 (shapeCast S1x256 b shapeCasts_S1x256_S1x256) broadcasts_S1x256_S8x256)) n := rfl
  rw [h, shapeCast_self, addf_apply, addf_apply, broadcastTo_1b_ab_apply]

/-- The encoder's first layer of the two halves' sums. -/
theorem pay2_apply (p q : FVec Ideal S1x8x2048 .f32) (w : FVec Ideal S256x2048 .f32) (b : FVec Ideal S1x256 .f32) (i : Fin 8) (j : Fin 256) :
    k1_pay2 p q w b (ix2 i j)
      = (∑ k, ((p (ix3 0 i k) + q (ix3 0 i k)) * Ideal.ofBits .f32 0x39800000#32) * w (ix2 j k)) + b (ix2 0 j) := by
  have h : k1_pay2 p q w b = addf (matmul dot_S8x2048_S256x2048_S8x256_1_1_0_0_n_n none
      (mulf (addf (shapeCast S8x2048 p shapeCasts_S1x8x2048_S8x2048) (shapeCast S8x2048 q shapeCasts_S1x8x2048_S8x2048))
        (broadcast S8x2048 (Scalar.ofBits .f32 0x39800000#32))) w (constant S8x256 .f32 0x00000000#32))
      (broadcastTo S8x256 (shapeCast S1x256 b shapeCasts_S1x256_S1x256) broadcasts_S1x256_S8x256) := rfl
  rw [h, shapeCast_self, addf_apply, broadcastTo_1b_ab_apply]
  congr 1
  refine (dotT_apply (M := 8) (K := 2048) (N := 256) _ _ i j).trans (Finset.sum_congr rfl fun k _ => ?_)
  rw [mulf_apply, addf_apply, shapeCast_1ab_ab_apply, shapeCast_1ab_ab_apply]
  rfl

/-- The decoded rows, scaled. -/
theorem pay18_apply (x : FVec Ideal S8x256 .f32) (g b : FVec Ideal S1x256 .f32) (w : FVec Ideal S2048x256 .f32) (c : FVec Ideal S1x2048 .f32) (i : Fin 8) (u : Fin 1)
    (j : Fin 2048) :
    k1_pay18 x g b (meanK (mulf (devK x) (devK x))) (broadcastTo S8x256 (meanK x) broadcasts_S8x1_S8x256) w c (ix3 i u j)
      = ((∑ k, Math.gelu (Math.norm (fun k => g (ix2 0 k)) (fun k => b (ix2 0 k)) (fun k => x (ix2 i k)) k) * w (ix2 j k)) + c (ix2 0 j))
        * Ideal.ofBits .f32 0x3DCCCCCD#32 := by
  have h : k1_pay18 x g b (meanK (mulf (devK x) (devK x))) (broadcastTo S8x256 (meanK x) broadcasts_S8x1_S8x256) w c
      = shapeCast S8x1x2048 (mulf (shapeCast S8x1x2048 (addf (matmul dot_S8x256_S2048x256_S8x2048_1_1_0_0_n_n none (actK (normK g b x)) w (constant S8x2048 .f32 0x00000000#32))
        (broadcastTo S8x2048 (shapeCast S1x2048 c shapeCasts_S1x2048_S1x2048) broadcasts_S1x2048_S8x2048)) shapeCasts_S8x2048_S8x1x2048)
        (broadcast S8x1x2048 (Scalar.ofBits .f32 0x3DCCCCCD#32))) shapeCasts_S8x1x2048_S8x1x2048 := rfl
  rw [h, shapeCast_self, mulf_apply]
  congr 1
  refine (shapeCast_apply _ _ _ (ix2 i j) ?_).trans ?_
  · rw [Shape.rowMajor_val_two, Shape.rowMajor_val_three]
    show i.val * 2048 + j.val = (i.val * 1 + u.val) * 2048 + j.val
    omega
  rw [shapeCast_self, addf_apply, broadcastTo_1b_ab_apply]
  congr 1
  refine (dotT_apply (M := 8) (K := 256) (N := 2048) _ _ i j).trans (Finset.sum_congr rfl fun k _ => ?_)
  rw [actK_apply, normK_apply]

end Cert.KernelIdeal.Hand
-- ==== Proof.KI.Symbol.lean ====
module

public import proofs.«01_k».proof.Proof.KI.Layer

@[expose] public section

noncomputable section

namespace Cert.KernelIdeal.Hand

open Cert.KernelIdeal Cert.KernelIdeal.Gen
open Idealize.ShloMosaic Idealize.ShloMosaic.ValueIdx
open scoped BigOperators

/-! # One symbol's share of the decoder's first layer -/

/-- The rows' largest entries, laid over the columns. -/
def topK (z : FVec Ideal S8x32 .f32) : FVec Ideal S8x32 .f32 :=
  broadcastTo S8x32 (shapeCast S8x1 (multiReduction .maximumf [1] S8 z 0xFF800000#32 reduces_S8x32_S8 (.inl rfl) rfl) shapeCasts_S8_S8x1) broadcasts_S8x1_S8x32

theorem topK_apply (z : FVec Ideal S8x32 .f32) (i : Fin 8) (c : Fin 32) : topK z (ix2 i c) = Math.peak fun c => z (ix2 i c) := by
  unfold topK
  rw [col_apply, shapeCast_a_a1_apply]
  refine (Ideal.multiReduction_maximumf_single z _ reduces_S8x32_S8 (.inl rfl) rfl (ix1 i)).trans ?_
  show Finset.fold max (Ideal.ofBits .f32 0xFF800000#32) _ _ = _
  rw [Math.ofBits_bot]
  unfold Math.peak
  exact Finset.fold_congr fun k _ => congrArg z ((eq_ix2 _).trans rfl)

/-- The columns' numbers where the entry is the row's largest, 32 elsewhere. -/
def candK (z : FVec Ideal S8x32 .f32) : IVec S8x32 32 :=
  select (cmpf .oeq z (topK z)) (iota .tc S8x32 32 [1] iota_S8x32_d1_w32) (broadcast S8x32 32#32)

theorem candK_apply (z : FVec Ideal S8x32 .f32) (i : Fin 8) (c : Fin 32) :
    candK z (ix2 i c) = if z (ix2 i c) = Math.peak (fun c => z (ix2 i c)) then BitVec.ofNat 32 c.val else 32#32 := by
  unfold candK
  rw [select_apply, cmpf_apply, topK_apply, iota_single_apply, broadcast_apply]
  generalize Math.peak (fun c => z (ix2 i c)) = m
  show Scalar.select (Ideal.cmp .oeq (z (ix2 i c)) m) (BitVec.ofNat 32 c.val) 32#32 = _
  by_cases e : z (ix2 i c) = m
  · rw [if_pos e, e]; simp [Ideal.cmp, Scalar.select]
  · rw [if_neg e]; simp [Ideal.cmp, Scalar.select, e]

/-- The rows' one-hot rows of the smallest candidate. -/
def pickK (y : IVec S8x32 32) : FVec Ideal S8x32 .f32 :=
  sitofp .f32 (extui 32 (cmpi .eq (iota .tc S8x32 32 [1] iota_S8x32_d1_w32)
    (broadcastTo S8x32 (shapeCast S8x1 (multiReductionI .minsi [1] S8 y 2147483647#32 reduces_S8x32_S8 rfl) shapeCasts_S8_S8x1) broadcasts_S8x1_S8x32)) natLt_1_32)

/-- Small words and their least. -/
theorem least_init (k : Fin 32) : IntOp.minsi (BitVec.ofNat 32 k.val) 2147483647#32 = BitVec.ofNat 32 k.val := by
  revert k; decide
theorem least_none (k : Fin 32) : IntOp.minsi (BitVec.ofNat 32 k.val) 32#32 = BitVec.ofNat 32 k.val := by
  revert k; decide
theorem least_le {k c : Fin 32} (h : k ≤ c) : IntOp.minsi (BitVec.ofNat 32 k.val) (BitVec.ofNat 32 c.val) = BitVec.ofNat 32 k.val := by
  revert k c; decide
theorem word_ne {c k : Fin 32} (h : c ≠ k) : ¬BitVec.ofNat 32 c.val = BitVec.ofNat 32 k.val := by
  revert c k; decide

/-- The least candidate is the first largest entry's column. -/
theorem least_apply (z : FVec Ideal S8x32 .f32) (i : Fin 8) :
    multiReductionI .minsi [1] S8 (candK z) 2147483647#32 reduces_S8x32_S8 rfl (ix1 i) = BitVec.ofNat 32 (Math.pick fun c => z (ix2 i c)).val := by
  have hk := Math.pick_first fun c => z (ix2 i c)
  have hp := Math.peak_eq _ _ hk.1
  revert hk hp
  generalize Math.pick (fun c => z (ix2 i c)) = k
  intro hk hp
  have hc : ∀ c, candK z (ix2 i c) = if z (ix2 i c) = z (ix2 i k) then BitVec.ofNat 32 c.val else 32#32 := fun c => by rw [candK_apply, hp]
  have hck : candK z (ix2 i k) = BitVec.ofNat 32 k.val := by rw [hc, if_pos rfl]
  refine (multiReductionI_eq_fold .minsi (candK z) _ reduces_S8x32_S8 rfl (ix1 i)).trans ((reduces_S8x32_S8.fold_filter_drop_single _ _ (candK z) (ix1 i)).trans ?_)
  have hl : (candK z ∘ reduces_S8x32_S8.lift (ix1 i)) = fun c : Fin 32 => candK z (ix2 i c) := funext fun c => congrArg (candK z) ((eq_ix2 _).trans rfl)
  rw [hl]
  refine (Math.fold_absorb (ι := Fin 32) IntOp.minsi 2147483647#32 _ k ?_ fun c => ?_).trans hck
  · rw [hck]; exact least_init k
  · rw [hck, hc]
    split
    next e =>
      refine least_le (not_lt.mp fun h => ?_)
      exact absurd e (ne_of_lt (hk.2 c h))
    next e => exact least_none k

/-- The word of an equality of small words, as a number. -/
theorem hot_word (c k : Fin 32) :
    FloatOps.sitofp (F := Ideal) .f32 ((IntOp.cmpi .eq (BitVec.ofNat 32 c.val) (BitVec.ofNat 32 k.val)).setWidth 32) = Math.hot k c := by
  unfold Math.hot
  by_cases e : c = k
  · subst e
    rw [if_pos rfl]
    simp [IntOp.cmpi, FloatOps.sitofp]
  · rw [if_neg e]
    have hb : (BitVec.ofNat 32 c.val == BitVec.ofNat 32 k.val) = false := beq_eq_false_iff_ne.mpr (word_ne e)
    simp [IntOp.cmpi, FloatOps.sitofp, hb]

theorem pickK_apply (z : FVec Ideal S8x32 .f32) (i : Fin 8) (c : Fin 32) : pickK (candK z) (ix2 i c) = Math.hot (Math.pick fun c => z (ix2 i c)) c := by
  have hw : broadcastTo S8x32 (shapeCast S8x1 (multiReductionI .minsi [1] S8 (candK z) 2147483647#32 reduces_S8x32_S8 rfl) shapeCasts_S8_S8x1)
      broadcasts_S8x1_S8x32 (ix2 i c) = BitVec.ofNat 32 (Math.pick fun c => z (ix2 i c)).val := by
    rw [col_apply, shapeCast_a_a1_apply, least_apply]
  have hi : iota .tc S8x32 32 [1] iota_S8x32_d1_w32 (ix2 i c) = BitVec.ofNat 32 c.val := iota_single_apply _ _ _ _ _ _
  unfold pickK
  rw [sitofp_apply, extui_apply]
  refine (congrArg₂ (fun a b => FloatOps.sitofp (F := Ideal) .f32 ((IntOp.cmpi .eq a b).setWidth 32)) hi hw).trans ?_
  exact hot_word _ _

/-- One symbol's embedding, and its share of the decoder's first layer. -/
def embK (y : IVec S8x32 32) (cb : FVec Ideal S32x64 .f32) : FVec Ideal S8x64 .f32 :=
  matmul dot_S8x32_S32x64_S8x64_1_0_0_1_n_n none (pickK y) cb (constant S8x64 .f32 0x00000000#32)
def shareK (y : IVec S8x32 32) (cb : FVec Ideal S32x64 .f32) (w : FVec Ideal S256x64 .f32) : FVec Ideal S8x256 .f32 :=
  matmul dot_S8x64_S256x64_S8x256_1_1_0_0_n_n none (embK y cb) w (constant S8x256 .f32 0x00000000#32)

theorem shareK_apply (z : FVec Ideal S8x32 .f32) (cb : FVec Ideal S32x64 .f32) (w : FVec Ideal S256x64 .f32) (i : Fin 8) (j : Fin 256) :
    shareK (candK z) cb w (ix2 i j) = ∑ d, (∑ c, Math.hot (Math.pick fun c => z (ix2 i c)) c * cb (ix2 c d)) * w (ix2 j d) := by
  unfold shareK
  refine (dotT_apply (M := 8) (K := 64) (N := 256) _ _ i j).trans (Finset.sum_congr rfl fun d _ => ?_)
  congr 1
  refine (dotP_apply (M := 8) (K := 32) (N := 64) _ _ i d).trans (Finset.sum_congr rfl fun c _ => ?_)
  rw [pickK_apply]

end Cert.KernelIdeal.Hand
-- ==== Proof.KI.Chain.lean ====
module

public import proofs.«01_k».proof.Proof.KI.Symbol

@[expose] public section

noncomputable section

namespace Cert.KernelIdeal.Hand

open Cert.KernelIdeal Cert.KernelIdeal.Gen
open Idealize.ShloMosaic Idealize.ShloMosaic.ValueIdx
open scoped BigOperators

/-! # The decoded rows are the network's -/

/-- A row vector as an array of one axis. -/
def rowArr {n : ℕ} (b : Math.Arr2 1 n) : Math.Arr1 n := fun p => b (ix2 0 (p 0))

/-- A load of 64 columns, at a row and a column. -/
theorem ld_cols (X : FVec Ideal S256x512 .f32) (s : Fin 8) (o : ℕ) (inb) (ho : o = 64 * s.val) (j : Fin 256) (d : Fin 64) :
    View.ld (Val := Elt Ideal) (e' := .f32) X (Rect.unit (s := S256x512) ![0, o] S256x64.size inb) (ix2 j d) = X (ix2 j (Math.at64 s d)) :=
  (congrFun (View.ld_unit (Val := Elt Ideal) (e := .f32) (S := S256x512) X ![0, o] S256x64.size inb) (ix2 j d)).trans
    (slice2_axis1_apply (n0 := 256) (n1 := 512) (m := 64) o X ⟨rfl, inb⟩ j d (Math.at64 s d) (by subst ho; rfl))

/-- A load of one half's sums. -/
theorem ld_half (X : FVec Ideal S2x8x2048 .f32) (e : Fin 2) (o : ℕ) (inb) (ho : o = e.val) (i : Fin 8) (k : Fin 2048) :
    View.ld (Val := Elt Ideal) (e' := .f32) X (Rect.unit (s := S2x8x2048) ![o, 0, 0] S1x8x2048.size inb) (ix3 0 i k) = X (ix3 e i k) := by
  refine (congrFun (View.ld_unit (Val := Elt Ideal) (e := .f32) (S := S2x8x2048) X ![o, 0, 0] S1x8x2048.size inb) (ix3 0 i k)).trans (extractStridedSlice_apply _ _ _ _ _ fun ax => ?_)
  subst ho
  match ax with
  | ⟨0, _⟩ => rfl
  | ⟨1, _⟩ => exact (Nat.zero_add _).symm
  | ⟨2, _⟩ => exact (Nat.zero_add _).symm

/-- One symbol's share, at a row and a column. -/
theorem share_sym (z : FVec Ideal S8x256 .f32) (cb : FVec Ideal S32x64 .f32) (dw : FVec Ideal S256x512 .f32) (s : Fin 8) (o : ℕ)
    (h : S8x256.Slices ![0, o] S8x32) (ho : o = 32 * s.val) (o' : ℕ) (inb) (ho' : o' = 64 * s.val) (i : Fin 8) (j : Fin 256) :
    shareK (candK (extractStridedSlice S8x32 ![0, o] z h)) cb (View.ld (Val := Elt Ideal) (e' := .f32) dw (Rect.unit (s := S256x512) ![0, o'] S256x64.size inb)) (ix2 i j)
      = ∑ d, (∑ c, Math.hot (Math.pick fun c => z (ix2 i (Math.at32 s c))) c * cb (ix2 c d)) * dw (ix2 j (Math.at64 s d)) := by
  rw [shareK_apply]
  have hz : ∀ c, extractStridedSlice S8x32 ![0, o] z h (ix2 i c) = z (ix2 i (Math.at32 s c)) := fun c =>
    slice2_axis1_apply (n0 := 8) (n1 := 256) (m := 32) o z h i c (Math.at32 s c) (by subst ho; rfl)
  simp only [hz]
  refine Finset.sum_congr rfl fun d _ => ?_
  rw [ld_cols dw s o' inb ho']

section
variable (P : FVec Ideal S2x8x2048 .f32) (gum : FVec Ideal S8x256 .f32) (w1 : FVec Ideal S256x2048 .f32) (b1 g1 be1 : FVec Ideal S1x256 .f32)
  (w2 : FVec Ideal S256x256 .f32) (b2 : FVec Ideal S1x256 .f32) (cb : FVec Ideal S32x64 .f32) (dw : FVec Ideal S256x512 .f32) (db g2 be2 : FVec Ideal S1x256 .f32)
  (dw2 : FVec Ideal S2048x256 .f32) (db2 : FVec Ideal S1x2048 .f32)

/-- The weights the second kernel reads. -/
def netK : Math.Net :=
  ⟨w1, rowArr b1, rowArr g1, rowArr be1, w2, rowArr b2, cb, dw, rowArr db, rowArr g2, rowArr be2, dw2, rowArr db2⟩

/-- The kernel's noisy logits. -/
def logitsK : FVec Ideal S8x256 .f32 := k1_pay6 (k1_pay4 gum) (k1_pay5 (mlpA (F := Ideal) P w1 b1) g1 be1 w2) b2

theorem logitsK_apply (i : Fin 8) (j : Fin 256) :
    logitsK P gum w1 b1 g1 be1 w2 b2 (ix2 i j) = (netK w1 b1 g1 be1 w2 b2 cb dw db g2 be2 dw2 db2).encode
      (fun k => (P (ix3 0 i k) + P (ix3 1 i k)) * Ideal.ofBits .f32 0x39800000#32) (fun j => gum (ix2 i j)) j := by
  have hA : ∀ k, mlpA (F := Ideal) P w1 b1 (ix2 i k) = Math.dense (Math.rows w1) (Math.entries (rowArr b1))
      (fun k => (P (ix3 0 i k) + P (ix3 1 i k)) * Ideal.ofBits .f32 0x39800000#32) k := fun k => by
    unfold mlpA
    rw [View.ld_unit_zero (S := S256x2048) (by decide), View.ld_unit_zero (S := S1x256) (by decide)]
    refine (pay2_apply _ _ _ _ i k).trans ?_
    unfold Math.dense Math.rows Math.entries rowArr
    congr 1
    refine Finset.sum_congr rfl fun l _ => ?_
    rw [ld_half P 0 0 _ rfl, ld_half P 1 1 _ rfl]
  unfold logitsK Math.Net.encode
  rw [pay6_apply, pay5_apply, pay4_apply]
  congr 1
  simp only [hA]
  rfl

/-- The decoder's first layer as the kernel adds it up. -/
def mixK (z : FVec Ideal S8x256 .f32) : FVec Ideal S8x256 .f32 :=
  addf (addf (addf (addf (addf (addf (addf (addf (addf (broadcast S8x256 (Scalar.ofBits .f32 0x00000000#32))
    (shareK (candK (extractStridedSlice S8x32 ![0, 0] z slices_S8x256_o0_0_S8x32)) cb (View.ld (Val := Elt Ideal) (e' := .f32) dw (Rect.unit (s := S256x512) ![0, 0] S256x64.size inb_S256x512_S256x64_0_0))))
    (shareK (candK (extractStridedSlice S8x32 ![0, 32] z slices_S8x256_o0_32_S8x32)) cb (View.ld (Val := Elt Ideal) (e' := .f32) dw (Rect.unit (s := S256x512) ![0, 64] S256x64.size inb_S256x512_S256x64_0_64))))
    (shareK (candK (extractStridedSlice S8x32 ![0, 64] z slices_S8x256_o0_64_S8x32)) cb (View.ld (Val := Elt Ideal) (e' := .f32) dw (Rect.unit (s := S256x512) ![0, 128] S256x64.size inb_S256x512_S256x64_0_128))))
    (shareK (candK (extractStridedSlice S8x32 ![0, 96] z slices_S8x256_o0_96_S8x32)) cb (View.ld (Val := Elt Ideal) (e' := .f32) dw (Rect.unit (s := S256x512) ![0, 192] S256x64.size inb_S256x512_S256x64_0_192))))
    (shareK (candK (extractStridedSlice S8x32 ![0, 128] z slices_S8x256_o0_128_S8x32)) cb (View.ld (Val := Elt Ideal) (e' := .f32) dw (Rect.unit (s := S256x512) ![0, 256] S256x64.size inb_S256x512_S256x64_0_256))))
    (shareK (candK (extractStridedSlice S8x32 ![0, 160] z slices_S8x256_o0_160_S8x32)) cb (View.ld (Val := Elt Ideal) (e' := .f32) dw (Rect.unit (s := S256x512) ![0, 320] S256x64.size inb_S256x512_S256x64_0_320))))
    (shareK (candK (extractStridedSlice S8x32 ![0, 192] z slices_S8x256_o0_192_S8x32)) cb (View.ld (Val := Elt Ideal) (e' := .f32) dw (Rect.unit (s := S256x512) ![0, 384] S256x64.size inb_S256x512_S256x64_0_384))))
    (shareK (candK (extractStridedSlice S8x32 ![0, 224] z slices_S8x256_o0_224_S8x32)) cb (View.ld (Val := Elt Ideal) (e' := .f32) dw (Rect.unit (s := S256x512) ![0, 448] S256x64.size inb_S256x512_S256x64_0_448))))
    (broadcastTo S8x256 (shapeCast S1x256 db shapeCasts_S1x256_S1x256) broadcasts_S1x256_S8x256)

theorem mixK_apply (z : FVec Ideal S8x256 .f32) (i : Fin 8) (j : Fin 256) :
    mixK cb dw db z (ix2 i j) = (netK w1 b1 g1 be1 w2 b2 cb dw db g2 be2 dw2 db2).mix (fun j => z (ix2 i j)) j := by
  unfold mixK Math.Net.mix
  rw [addf_apply, shapeCast_self, broadcastTo_1b_ab_apply]
  congr 1
  rw [addf_apply, addf_apply, addf_apply, addf_apply, addf_apply, addf_apply, addf_apply, addf_apply, share_sym z cb dw 0 0 _ rfl 0 _ rfl,
    share_sym z cb dw 1 32 _ rfl 64 _ rfl, share_sym z cb dw 2 64 _ rfl 128 _ rfl, share_sym z cb dw 3 96 _ rfl 192 _ rfl, share_sym z cb dw 4 128 _ rfl 256 _ rfl,
    share_sym z cb dw 5 160 _ rfl 320 _ rfl, share_sym z cb dw 6 192 _ rfl 384 _ rfl, share_sym z cb dw 7 224 _ rfl 448 _ rfl, Fin.sum_univ_eight]
  show Ideal.ofBits .f32 0x00000000#32 + _ + _ + _ + _ + _ + _ + _ + _ = _
  rw [Ideal.ofBits_zero_f32, zero_add]
  rfl

/-- The decoded rows through the named steps. -/
theorem decOf_eq :
    decOf (F := Ideal) P gum w1 b1 g1 be1 w2 b2 cb dw db g2 be2 dw2 db2
      = (let x := mixK cb dw db (logitsK P gum w1 b1 g1 be1 w2 b2)
        k1_pay18 x (shapeCast S1x256 g2 shapeCasts_S1x256_S1x256) (shapeCast S1x256 be2 shapeCasts_S1x256_S1x256) (meanK (mulf (devK x) (devK x)))
          (broadcastTo S8x256 (meanK x) broadcasts_S8x1_S8x256) dw2 db2) := by
  have hg : ∀ v : FVec Ideal S1x256 .f32, k1_pay3 (F := Ideal) v = v := fun v => shapeCast_self v _
  unfold decOf mlpOut mlpD3 mlpD2 mlpD1 mlpG mlpZ
  simp only [View.ld_unit_zero (S := S1x256) (off := ![0, 0]) (by decide), View.ld_unit_zero (S := S8x256) (off := ![0, 0]) (by decide),
    View.ld_unit_zero (S := S32x64) (off := ![0, 0]) (by decide), View.ld_unit_zero (S := S256x256) (off := ![0, 0]) (by decide),
    View.ld_unit_zero (S := S2048x256) (off := ![0, 0]) (by decide), View.ld_unit_zero (S := S1x2048) (off := ![0, 0]) (by decide), hg]
  rfl

/-- The decoded rows are the network's, scaled. -/
theorem decOf_apply (i : Fin 8) (u : Fin 1) (j : Fin 2048) :
    decOf (F := Ideal) P gum w1 b1 g1 be1 w2 b2 cb dw db g2 be2 dw2 db2 (ix3 i u j)
      = (netK w1 b1 g1 be1 w2 b2 cb dw db g2 be2 dw2 db2).decode ((netK w1 b1 g1 be1 w2 b2 cb dw db g2 be2 dw2 db2).encode
          (fun k => (P (ix3 0 i k) + P (ix3 1 i k)) * Ideal.ofBits .f32 0x39800000#32) (fun j => gum (ix2 i j))) j * Ideal.ofBits .f32 0x3DCCCCCD#32 := by
  rw [decOf_eq, shapeCast_self, shapeCast_self]
  refine (pay18_apply _ g2 be2 dw2 db2 i u j).trans ?_
  congr 1
  simp only [mixK_apply w1 b1 g1 be1 w2 b2 cb dw db g2 be2 dw2 db2, logitsK_apply P gum w1 b1 g1 be1 w2 b2 cb dw db g2 be2 dw2 db2]
  rfl

end

end Cert.KernelIdeal.Hand
-- ==== Proof.Math.Pool.lean ====
module

public import proofs.«01_k».proof.Proof.Math.Net

@[expose] public section

noncomputable section

namespace Cert.Math

open Idealize.ShloMosaic Idealize.ShloMosaic.ValueIdx
open scoped BigOperators

/-! # The mean over the sequence from its halves' block sums -/

/-- Row `r` of block `n` of the sequence. -/
def at256 (n : ℕ) (r : Fin 256) : Fin 4096 := ⟨256 * (n % 16) + r.val, by omega⟩

/-- A block's sum, and a half's. -/
def blkSum (X : Arr3 8 4096 2048) (n : ℕ) (i : Fin 8) (h : Fin 2048) : EReal := ∑ r, X (ix3 i (at256 n r) h)
def halfSum (X : Arr3 8 4096 2048) (e : ℕ) (i : Fin 8) (h : Fin 2048) : EReal := ∑ k ∈ Finset.range 8, blkSum X (8 * e + k) i h

/-- A sum over the sequence, block by block. -/
theorem sum_at256 (f : Fin 4096 → EReal) : ∑ s, f s = ∑ n ∈ Finset.range 16, ∑ r, f (at256 n r) := by
  rw [Finset.sum_range, ← Fintype.sum_prod_type' (f := fun (n : Fin 16) r => f (at256 n.val r)), ← (finProdFinEquiv (m := 16) (n := 256)).sum_comp]
  refine Finset.sum_congr rfl fun p _ => congrArg f (Fin.ext ?_)
  have := p.1.isLt
  simp [finProdFinEquiv, at256]; omega

/-- The two halves' sums make the mean over the sequence. -/
theorem pool_halves (X : Arr3 8 4096 2048) (i : Fin 8) (h : Fin 2048) :
    (halfSum X 0 i h + halfSum X 1 i h) * Ideal.ofBits .f32 0x39800000#32
      = Ideal.div (∑ s, X (ix3 i s h)) (Ideal.ofBits .f32 0x45800000#32) := by
  have hs : ∑ s, X (ix3 i s h) = halfSum X 0 i h + halfSum X 1 i h := by
    rw [sum_at256, show (16 : ℕ) = 8 + 8 from rfl, Finset.sum_range_add]
    unfold halfSum blkSum
    simp only [Nat.mul_zero, Nat.zero_add, Nat.mul_one]
  rw [hs, ofBits_inv_4096, ofBits_4096]
  unfold Ideal.div
  rw [if_neg (by norm_num), ← EReal.coe_inv]

end Cert.Math
-- ==== Proof.KI.Sums.lean ====
module

public import proofs.«01_k».proof.Proof.KI.Chain
public import proofs.«01_k».proof.Proof.KI.Body0
public import proofs.«01_k».proof.Proof.Math.Pool

@[expose] public section

noncomputable section

namespace Cert.KernelIdeal.Hand

open Cert.KernelIdeal Cert.KernelIdeal.Gen
open Idealize.ShloMosaic Idealize.ShloMosaic.ValueIdx Idealize.ShloMosaic.TcCoe
open Idealize.ShloMosaic.Pipeline (Dat)
open scoped BigOperators

/-! # What the first kernel's result array holds -/

/-- The block sums stored at a half's first point, and added at a later one. -/
theorem block_sum (X : FVec Ideal S8x256x2048 .f32) (i : Fin 8) (h : Fin 2048) : k0_pay1 X (ix2 i h) = ∑ r : Fin 256, X (ix3 i r h) := by
  unfold k0_pay1
  refine (Ideal.multiReduction_add_single X _ reduces_S8x256x2048_S8x2048 (.inl rfl) rfl (ix2 i h)).trans ?_
  exact Finset.sum_congr rfl fun k _ => congrArg X ((eq_ix3 _).trans rfl)

theorem lead_apply (x : FVec Ideal S8x2048 .f32) (u : Fin 1) (i : Fin 8) (h : Fin 2048) :
    shapeCast S1x8x2048 x shapeCasts_S8x2048_S1x8x2048 (ix3 u i h) = x (ix2 i h) := by
  refine shapeCast_apply _ _ _ (ix2 i h) ?_
  rw [Shape.rowMajor_val_two, Shape.rowMajor_val_three]
  show i.val * 2048 + h.val = (u.val * 8 + i.val) * 2048 + h.val
  omega

theorem stored_first (X : FVec Ideal S8x256x2048 .f32) (u : Fin 1) (i : Fin 8) (h : Fin 2048) :
    k0_pay2 X (ix3 u i h) = ∑ r : Fin 256, X (ix3 i r h) := by
  unfold k0_pay2
  exact (lead_apply _ u i h).trans (block_sum X i h)

theorem stored_later (X : FVec Ideal S8x256x2048 .f32) (Y : FVec Ideal S1x8x2048 .f32) (u : Fin 1) (i : Fin 8) (h : Fin 2048) :
    k0_pay3 X Y (ix3 u i h) = Y (ix3 0 i h) + ∑ r : Fin 256, X (ix3 i r h) := by
  unfold k0_pay3
  refine (lead_apply _ u i h).trans ?_
  rw [addf_apply, block_sum, shapeCast_1ab_ab_apply]

variable (V : (c : Dev nD) → (b : Ref sig .tc) → Buf (Elt Ideal) ((c : Thread nD τ).loc b)) (c : Dev nD)

/-- The hidden states the kernel reads. -/
def seqK : Math.Arr3 8 4096 2048 := V c main_arg0

/-- The block indices of the two windows. -/
theorem index0_0 : ∀ t : Fin grid0.N, win0_0.index t 0 = 0 ∧ win0_0.index t 1 = t.val ∧ win0_0.index t 2 = 0 := by decide +kernel
theorem index0_1 : ∀ t : Fin grid0.N, win0_1.index t 0 = t.val / 8 ∧ win0_1.index t 1 = 0 ∧ win0_1.index t 2 = 0 := by decide +kernel

/-- A block's entries. -/
theorem sumBlk_apply (n : ℕ) (i : Fin 8) (r : Fin 256) (h : Fin 2048) :
    sumBlk V c n (ix3 i r h) = seqK V c (ix3 i (Math.at256 n r) h) := by
  unfold sumBlk seqK
  rw [View.read_apply]
  show V c main_arg0 _ = V c main_arg0 _
  congr 1
  have ht := index0_0 ⟨n % 16, lt_of_lt_of_eq (Nat.mod_lt n (by decide)) N_0.symm⟩
  funext a
  apply Fin.ext
  match a with
  | ⟨0, _⟩ => show win0_0.index _ 0 * 8 + 1 * i.val = i.val; rw [ht.1]; omega
  | ⟨1, _⟩ => show win0_0.index _ 1 * 256 + 1 * r.val = 256 * (n % 16) + r.val; rw [ht.2.1]; show n % 16 * 256 + 1 * r.val = _; omega
  | ⟨2, _⟩ => show win0_0.index _ 2 * 2048 + 1 * h.val = h.val; rw [ht.2.2]; omega

/-- The sums stored after a point: of the half's blocks up to it. -/
theorem sumAcc_apply (e : ℕ) (u : Fin 1) (i : Fin 8) (h : Fin 2048) : ∀ k < 8,
    sumAcc V c (8 * e + k) (ix3 u i h) = ∑ l ∈ Finset.range (k + 1), Math.blkSum (seqK V c) (8 * e + l) i h
  | 0, _ => by
    rw [sumAcc_first _ _ _ (by omega), Finset.sum_range_one]
    refine (stored_first _ u i h).trans ?_
    exact Finset.sum_congr rfl fun r _ => sumBlk_apply V c _ i r h
  | k + 1, hk => by
    rw [sumAcc_later _ _ _ (by omega), Finset.sum_range_succ]
    refine (stored_later _ _ u i h).trans (congrArg₂ (· + ·) (sumAcc_apply e 0 i h k (by omega)) ?_)
    exact Finset.sum_congr rfl fun r _ => sumBlk_apply V c _ i r h

/-- The first kernel's result: each half's sums. -/
def halves : S2x8x2048.Idx → EReal := fun x => sumAcc V c (8 * (x 0).val + 7) (ix3 0 (x 1) (x 2))

theorem halves_apply (e : Fin 2) (i : Fin 8) (h : Fin 2048) : halves V c (ix3 e i h) = Math.halfSum (seqK V c) e.val i h :=
  sumAcc_apply V c e.val 0 i h 7 (by omega)

/-- The result's entries at a half's block are what the half's last point stored. -/
theorem halves_at (x : S2x8x2048.Idx) (y : S1x8x2048.Idx) (n : ℕ) (hn : n % 8 = 7) (h0 : (x 0).val = n / 8) (h1 : (x 1).val = (y 1).val)
    (h2 : (x 2).val = (y 2).val) : halves V c x = sumAcc V c n y := by
  unfold halves
  have e : 8 * (x 0).val + 7 = n := by omega
  rw [e]
  congr 1
  funext a
  apply Fin.ext
  match a with
  | ⟨0, _⟩ => have h : (y 0).val < 1 := (y 0).isLt
              show 0 = (y 0).val; omega
  | ⟨1, _⟩ => exact h1
  | ⟨2, _⟩ => exact h2

/-- The write-back after a half's last point writes the half's sums. -/
theorem halves_flushed (t : Fin cfg0.N) (hf : (cfg0.win 1).flush t = true) :
    (dat0 V c).flushed 1 t = ((cfg0.win 1).blk t).view.read (Elt Ideal) (halves V c) := by
  have h7 := (flush0_1 t).mp hf
  have ht := index0_1 t
  funext y
  rw [View.read_apply]
  have h0 : (y 0).val < 1 := (y 0).isLt
  refine (halves_at V c (((cfg0.win 1).blk t).view.emb y) y t.val h7 ?_ ?_ ?_).symm
  · show win0_1.index t 0 * 1 + 1 * (y 0).val = t.val / 8; rw [ht.1]; omega
  · show win0_1.index t 1 * 8 + 1 * (y 1).val = (y 1).val; rw [ht.2.1]; omega
  · show win0_1.index t 2 * 2048 + 1 * (y 2).val = (y 2).val; rw [ht.2.2]; omega

/-- So the result array ends holding them. -/
theorem sums_halves : (dat0 V c).arrAt 1 cfg0.N = halves V c :=
  (dat0 V c).arrAt_eq_of_cover 1 (halves V c) (halves_flushed V c) fun i => by
    have h0 : (i 0 : Nat) < 2 := (i 0).isLt
    have h1 : (i 1 : Nat) < 8 := (i 1).isLt
    have h2 : (i 2 : Nat) < 2048 := (i 2).isLt
    have hN : 8 * (i 0 : Nat) + 7 < cfg0.N := lt_of_lt_of_eq (by omega) N_0.symm
    have ht := index0_1 ⟨8 * (i 0 : Nat) + 7, hN⟩
    refine ⟨⟨8 * (i 0 : Nat) + 7, hN⟩, (flush0_1 _).mpr (by show (8 * (i 0 : Nat) + 7) % 8 = 7; omega), ?_⟩
    show i ∈ ((View.whole main_v1).slice (win0_1.rect ⟨8 * (i 0 : Nat) + 7, hN⟩)).set
    rw [View.set_slice_whole, Rect.mem_set_unit]
    intro a
    match a with
    | ⟨0, _⟩ => show win0_1.index _ 0 * 1 ≤ (i 0 : Nat) ∧ (i 0 : Nat) < win0_1.index _ 0 * 1 + 1
                rw [ht.1]; show (8 * (i 0 : Nat) + 7) / 8 * 1 ≤ _ ∧ _ < (8 * (i 0 : Nat) + 7) / 8 * 1 + 1; omega
    | ⟨1, _⟩ => show win0_1.index _ 1 * 8 ≤ (i 1 : Nat) ∧ (i 1 : Nat) < win0_1.index _ 1 * 8 + 8
                rw [ht.2.1]; omega
    | ⟨2, _⟩ => show win0_1.index _ 2 * 2048 ≤ (i 2 : Nat) ∧ (i 2 : Nat) < win0_1.index _ 2 * 2048 + 2048
                rw [ht.2.2]; omega

end Cert.KernelIdeal.Hand
-- ==== Proof.KI.Result.lean ====
module

public import proofs.«01_k».proof.Proof.KI.Sums
public import proofs.«01_k».proof.Proof.KI.Run

@[expose] public section

noncomputable section

namespace Cert.KernelIdeal.Hand

open Cert.KernelIdeal Cert.KernelIdeal.Gen
open Idealize.ShloMosaic Idealize.ShloMosaic.ValueIdx Idealize.ShloMosaic.TcCoe Idealize.ShloMosaic.StableHlo
open scoped BigOperators

/-! ## What the reshapes between the kernels write -/

section
variable (V : Valuation τ sig (Elt Ideal))

theorem flat_seq : (after hostOps0 V main_v0 : FVec Ideal S32768x2048 .f32) = shapeCast S32768x2048 (V main_arg0 : FVec Ideal S8x4096x2048 .f32) shapeCasts_S8x4096x2048_S32768x2048 := by
  after_results_simp
  rfl
theorem flat_draws : (after hostOps1 V main_v2 : FVec Ideal S8x256 .f32) = shapeCast S8x256 (V main_arg1 : FVec Ideal S8x8x32 .f32) shapeCasts_S8x8x32_S8x256 := by
  after_results_simp
  rfl
theorem line_b1 : (after hostOps1 V main_v3 : FVec Ideal S1x256 .f32) = shapeCast S1x256 (V main_arg3 : FVec Ideal S256 .f32) shapeCasts_S256_S1x256 := by
  after_results_simp
  rfl
theorem line_g1 : (after hostOps1 V main_v4 : FVec Ideal S1x256 .f32) = shapeCast S1x256 (V main_arg4 : FVec Ideal S256 .f32) shapeCasts_S256_S1x256 := by
  after_results_simp
  rfl
theorem line_o1 : (after hostOps1 V main_v5 : FVec Ideal S1x256 .f32) = shapeCast S1x256 (V main_arg5 : FVec Ideal S256 .f32) shapeCasts_S256_S1x256 := by
  after_results_simp
  rfl
theorem line_b2 : (after hostOps1 V main_v6 : FVec Ideal S1x256 .f32) = shapeCast S1x256 (V main_arg7 : FVec Ideal S256 .f32) shapeCasts_S256_S1x256 := by
  after_results_simp
  rfl
theorem line_db : (after hostOps1 V main_v7 : FVec Ideal S1x256 .f32) = shapeCast S1x256 (V main_arg10 : FVec Ideal S256 .f32) shapeCasts_S256_S1x256 := by
  after_results_simp
  rfl
theorem line_g2 : (after hostOps1 V main_v8 : FVec Ideal S1x256 .f32) = shapeCast S1x256 (V main_arg11 : FVec Ideal S256 .f32) shapeCasts_S256_S1x256 := by
  after_results_simp
  rfl
theorem line_o2 : (after hostOps1 V main_v9 : FVec Ideal S1x256 .f32) = shapeCast S1x256 (V main_arg12 : FVec Ideal S256 .f32) shapeCasts_S256_S1x256 := by
  after_results_simp
  rfl
theorem line_db2 : (after hostOps1 V main_v10 : FVec Ideal S1x2048 .f32) = shapeCast S1x2048 (V main_arg14 : FVec Ideal S2048 .f32) shapeCasts_S2048_S1x2048 := by
  after_results_simp
  rfl
theorem unflat_rows : (after hostOps2 V main_v12 : FVec Ideal S8x4096x2048 .f32) = shapeCast S8x4096x2048 (V main_v11 : FVec Ideal S32768x2048 .f32) shapeCasts_S32768x2048_S8x4096x2048 := by
  after_results_simp
  rfl

end

/-! ## The reshapes at an index -/

/-- Row `4096 i + s` of the flattened sequence is row `s` of batch row `i`. -/
def at4096 (i : Fin 8) (s : Fin 4096) : Fin 32768 := ⟨4096 * i.val + s.val, by omega⟩

theorem flat_apply (X : FVec Ideal S8x4096x2048 .f32) (h : S8x4096x2048.ShapeCasts S32768x2048) (i : Fin 8) (s : Fin 4096) (k : Fin 2048) :
    shapeCast S32768x2048 X h (ix2 (at4096 i s) k) = X (ix3 i s k) :=
  shapeCast_apply X h _ _ (by
    rw [Shape.rowMajor_val_two, Shape.rowMajor_val_three]
    show (i.val * 4096 + s.val) * 2048 + k.val = (4096 * i.val + s.val) * 2048 + k.val
    omega)

theorem unflat_apply (Y : FVec Ideal S32768x2048 .f32) (h : S32768x2048.ShapeCasts S8x4096x2048) (i : Fin 8) (s : Fin 4096) (k : Fin 2048) :
    shapeCast S8x4096x2048 Y h (ix3 i s k) = Y (ix2 (at4096 i s) k) :=
  shapeCast_apply Y h _ _ (by
    rw [Shape.rowMajor_val_two, Shape.rowMajor_val_three]
    show (4096 * i.val + s.val) * 2048 + k.val = (i.val * 4096 + s.val) * 2048 + k.val
    omega)

theorem drawn_apply (U : FVec Ideal S8x8x32 .f32) (h : S8x8x32.ShapeCasts S8x256) (i : Fin 8) (j : Fin 256) :
    shapeCast S8x256 U h (ix2 i j) = U (ix3 i ⟨j.val / 32, by omega⟩ ⟨j.val % 32, by omega⟩) :=
  shapeCast_apply U h _ _ (by
    rw [Shape.rowMajor_val_two, Shape.rowMajor_val_three]
    show (i.val * 8 + j.val / 32) * 32 + j.val % 32 = i.val * 256 + j.val
    omega)

/-- A vector laid as one row and read back is the vector. -/
theorem rowArr_line {n : ℕ} (x : Math.Arr1 n) (h : (⟨1, ![n]⟩ : Shape).ShapeCasts ⟨2, ![1, n]⟩) : rowArr (shapeCast ⟨2, ![1, n]⟩ x h) = x := by
  funext p
  exact (shapeCast_a_1a_apply x h 0 (p 0)).trans (congrArg x (eq_ix1 p).symm)

/-! ## One row of the result -/

/-- A block with one row added to each of its rows. -/
theorem addRow_apply (x : FVec Ideal S1x512x2048 .f32) (y : FVec Ideal S1x1x2048 .f32) (r : Fin 512) (k : Fin 2048) :
    (k1_pay1 (F := Ideal) x y) (ix3 0 r k) = x (ix3 0 r k) + y (ix3 0 0 k) := by
  unfold k1_pay1
  rw [shapeCast_self, addf_apply]
  congr 1
  refine broadcastTo_apply y _ _ _ fun a => ?_
  match a with
  | ⟨0, _⟩ => rfl
  | ⟨1, _⟩ => rfl
  | ⟨2, _⟩ => rfl

/-- Row `r` of block `b` of the flattened sequence. -/
theorem readBlk_apply (c : Dev nD) (H : FVec Ideal S32768x2048 .f32) (b : Fin 64) (r : Fin 512) (k : Fin 2048) :
    ((hBlk b).view.read (Elt Ideal) H : FVec Ideal S512x2048 .f32) (ix2 r k) = H (ix2 ⟨512 * b.val + r.val, by omega⟩ k) := by
  show H ((Rect.unit (s := S32768x2048) ![512 * b.val, 0] S512x2048.size (inb_blk b)).emb (ix2 r k)) = _
  refine congrArg H (funext fun a => Fin.ext ?_)
  rw [ValueKit.rect_emb_unit_val]
  match a with
  | ⟨0, _⟩ => rfl
  | ⟨1, _⟩ => show 0 + k.val = k.val; omega

/-- Row `b / 8` of the decoded rows. -/
theorem decRow_apply (D : FVec Ideal S8x1x2048 .f32) (b : Fin 64) (k : Fin 2048) :
    (decRow (F := Ideal) D b : FVec Ideal S1x1x2048 .f32) (ix3 0 0 k) = D (ix3 ⟨b.val / 8, by omega⟩ 0 k) := by
  unfold decRow
  rw [View.ld_unit (Val := Elt Ideal) (e := .f32) (S := S8x1x2048)]
  refine extractStridedSlice_apply _ D _ _ _ fun a => ?_
  match a with
  | ⟨0, _⟩ => rfl
  | ⟨1, _⟩ => rfl
  | ⟨2, _⟩ => show k.val = 0 + k.val; omega

/-- Block `b`'s row `r` as the second kernel leaves it: the flattened sequence's row, the decoded row of its batch row added. -/
theorem rowOf_apply (c : Dev nD) (H : FVec Ideal S32768x2048 .f32) (D : FVec Ideal S8x1x2048 .f32) (b : Fin 64) (r : Fin 512) (k : Fin 2048) :
    (rowOf (F := Ideal) c H D b : FVec Ideal S512x2048 .f32) (ix2 r k)
      = H (ix2 ⟨512 * b.val + r.val, by omega⟩ k) + D (ix3 ⟨b.val / 8, by omega⟩ 0 k) := by
  unfold rowOf
  refine (shapeCast_1ab_ab_apply _ _ r k).trans ?_
  refine (addRow_apply _ _ r k).trans ?_
  refine congrArg₂ (fun a b : EReal => a + b) ?_ ?_
  · refine (shapeCast_ab_1ab_apply _ _ 0 r k).trans ?_
    exact readBlk_apply c H b r k
  · exact decRow_apply D b k

/-- The whole result's row `4096 i + s`. -/
theorem rowsArr_apply (c : Dev nD) (H : FVec Ideal S32768x2048 .f32) (D : FVec Ideal S8x1x2048 .f32) (i : Fin 8) (s : Fin 4096) (k : Fin 2048) :
    (rowsArr (rowOf (F := Ideal) c H D) : FVec Ideal S32768x2048 .f32) (ix2 (at4096 i s) k) = H (ix2 (at4096 i s) k) + D (ix3 i 0 k) := by
  have e : (rowsArr (rowOf (F := Ideal) c H D) : FVec Ideal S32768x2048 .f32) (ix2 (at4096 i s) k)
      = (rowOf (F := Ideal) c H D ⟨(4096 * i.val + s.val) / 512, by omega⟩ : FVec Ideal S512x2048 .f32) (ix2 ⟨(4096 * i.val + s.val) % 512, by omega⟩ k) := by
    unfold rowsArr
    refine congrArg _ (funext fun a => ?_)
    match a with
    | 0 => rfl
    | 1 => rfl
  rw [e, rowOf_apply]
  congr 3
  · exact Fin.ext (by show 512 * ((4096 * i.val + s.val) / 512) + (4096 * i.val + s.val) % 512 = 4096 * i.val + s.val; omega)
  · exact Fin.ext (by show (4096 * i.val + s.val) / 512 / 8 = i.val; omega)

/-! ## The result from the arguments -/

section
variable (m : (ℓ : Loc nD τ sig) → Buf (Elt Ideal) ℓ) (c : Dev nD)

/-- The sequence, the draws and the weights the kernel is launched with. -/
def seqIn : Math.Arr3 8 4096 2048 := m (c, main_arg0)
def drawsIn : Math.Arr3 8 8 32 := m (c, main_arg1)
def netIn : Math.Net :=
  ⟨m (c, main_arg2), m (c, main_arg3), m (c, main_arg4), m (c, main_arg5), m (c, main_arg6), m (c, main_arg7), m (c, main_arg8), m (c, main_arg9),
    m (c, main_arg10), m (c, main_arg11), m (c, main_arg12), m (c, main_arg13), m (c, main_arg14)⟩

/-- The second kernel is entered with every argument as launched. -/
theorem W3_arg (r : Ref sig .tc) (h0 : r ∉ hostOps0_W) (h1 : r ≠ main_v1) (h2 : r ∉ hostOps1_W) : W3 m c r = m (c, r) :=
  (W3_of m c r h2).trans <| (W2_of m c r h1).trans <| (W1_of m c r h0).trans rfl

theorem W2_arg (r : Ref sig .tc) (h0 : r ∉ hostOps0_W) (h1 : r ≠ main_v1) : W2 m c r = m (c, r) :=
  (W2_of m c r h1).trans <| (W1_of m c r h0).trans rfl

/-- The weights the second kernel reads are the arguments. -/
theorem netK_in : netK (W3 m c main_arg2) (W3 m c main_v3) (W3 m c main_v4) (W3 m c main_v5) (W3 m c main_arg6) (W3 m c main_v6) (W3 m c main_arg8)
    (W3 m c main_arg9) (W3 m c main_v7) (W3 m c main_v8) (W3 m c main_v9) (W3 m c main_arg13) (W3 m c main_v10) = netIn m c := by
  have e3 : rowArr (W3 m c main_v3) = (netIn m c).b1 := (congrArg rowArr (line_b1 (W2 m c))).trans ((rowArr_line _ _).trans (W2_arg m c main_arg3 (by decide) (by decide)))
  have e4 : rowArr (W3 m c main_v4) = (netIn m c).g1 := (congrArg rowArr (line_g1 (W2 m c))).trans ((rowArr_line _ _).trans (W2_arg m c main_arg4 (by decide) (by decide)))
  have e5 : rowArr (W3 m c main_v5) = (netIn m c).o1 := (congrArg rowArr (line_o1 (W2 m c))).trans ((rowArr_line _ _).trans (W2_arg m c main_arg5 (by decide) (by decide)))
  have e6 : rowArr (W3 m c main_v6) = (netIn m c).b2 := (congrArg rowArr (line_b2 (W2 m c))).trans ((rowArr_line _ _).trans (W2_arg m c main_arg7 (by decide) (by decide)))
  have e7 : rowArr (W3 m c main_v7) = (netIn m c).db := (congrArg rowArr (line_db (W2 m c))).trans ((rowArr_line _ _).trans (W2_arg m c main_arg10 (by decide) (by decide)))
  have e8 : rowArr (W3 m c main_v8) = (netIn m c).g2 := (congrArg rowArr (line_g2 (W2 m c))).trans ((rowArr_line _ _).trans (W2_arg m c main_arg11 (by decide) (by decide)))
  have e9 : rowArr (W3 m c main_v9) = (netIn m c).o2 := (congrArg rowArr (line_o2 (W2 m c))).trans ((rowArr_line _ _).trans (W2_arg m c main_arg12 (by decide) (by decide)))
  have e10 : rowArr (W3 m c main_v10) = (netIn m c).db2 := (congrArg rowArr (line_db2 (W2 m c))).trans ((rowArr_line _ _).trans (W2_arg m c main_arg14 (by decide) (by decide)))
  have f2 : (W3 m c main_arg2 : Math.Arr2 256 2048) = (netIn m c).w1 := W3_arg m c main_arg2 (by decide) (by decide) (by decide)
  have f6 : (W3 m c main_arg6 : Math.Arr2 256 256) = (netIn m c).w2 := W3_arg m c main_arg6 (by decide) (by decide) (by decide)
  have f8 : (W3 m c main_arg8 : Math.Arr2 32 64) = (netIn m c).cb := W3_arg m c main_arg8 (by decide) (by decide) (by decide)
  have f9 : (W3 m c main_arg9 : Math.Arr2 256 512) = (netIn m c).dw := W3_arg m c main_arg9 (by decide) (by decide) (by decide)
  have f13 : (W3 m c main_arg13 : Math.Arr2 2048 256) = (netIn m c).dw2 := W3_arg m c main_arg13 (by decide) (by decide) (by decide)
  unfold netK
  rw [e3, e4, e5, e6, e7, e8, e9, e10, f2, f6, f8, f9, f13]

/-- The halves of the sums the second kernel reads. -/
def sumsIn : FVec Ideal S2x8x2048 .f32 := W3 m c main_v1
/-- The draws it reads. -/
def drawnIn : FVec Ideal S8x256 .f32 := W3 m c main_v2
/-- The flattened sequence it reads. -/
def flatIn : FVec Ideal S32768x2048 .f32 := W3 m c main_v0

theorem sumsIn_apply (e : Fin 2) (i : Fin 8) (h : Fin 2048) : sumsIn m c (ix3 e i h) = Math.halfSum (seqIn m c) e.val i h := by
  have h1 : sumsIn m c = halves (in0 m) c :=
    (W3_of m c main_v1 (by decide)).trans ((W2_v1 m c).trans (sums_halves (in0 m) c))
  have h2 : seqK (in0 m) c = seqIn m c := (W1_of m c main_arg0 (by decide)).trans rfl
  rw [h1, halves_apply, h2]

theorem drawnIn_apply (i : Fin 8) (j : Fin 256) : drawnIn m c (ix2 i j) = drawsIn m c (ix3 i ⟨j.val / 32, by omega⟩ ⟨j.val % 32, by omega⟩) := by
  have h1 : drawnIn m c = shapeCast S8x256 (drawsIn m c) shapeCasts_S8x8x32_S8x256 :=
    (flat_draws (W2 m c)).trans (congrArg (fun x => shapeCast S8x256 x shapeCasts_S8x8x32_S8x256) (W2_arg m c main_arg1 (by decide) (by decide)))
  rw [h1]
  exact drawn_apply (drawsIn m c) _ i j

theorem flatIn_apply (i : Fin 8) (s : Fin 4096) (k : Fin 2048) : flatIn m c (ix2 (at4096 i s) k) = seqIn m c (ix3 i s k) := by
  have h1 : flatIn m c = shapeCast S32768x2048 (seqIn m c) shapeCasts_S8x4096x2048_S32768x2048 :=
    (W3_of m c main_v0 (by decide)).trans ((W2_of m c main_v0 (by decide)).trans (flat_seq (W0 m c)))
  rw [h1]
  exact flat_apply (seqIn m c) _ i s k

/-- The decoded rows. -/
def decIn : FVec Ideal S8x1x2048 .f32 := decRows (in1 m) c

theorem decIn_apply (i : Fin 8) (k : Fin 2048) :
    decIn m c (ix3 i 0 k) = (netIn m c).decode ((netIn m c).encode
      (fun h => Ideal.div (∑ s : Fin 4096, seqIn m c (ix3 i s h)) (Ideal.ofBits .f32 0x45800000#32))
      (fun j => drawsIn m c (ix3 i ⟨j.val / 32, by omega⟩ ⟨j.val % 32, by omega⟩))) k * Ideal.ofBits .f32 0x3DCCCCCD#32 := by
  have e := decOf_apply (sumsIn m c) (drawnIn m c) (W3 m c main_arg2) (W3 m c main_v3) (W3 m c main_v4) (W3 m c main_v5) (W3 m c main_arg6) (W3 m c main_v6)
    (W3 m c main_arg8) (W3 m c main_arg9) (W3 m c main_v7) (W3 m c main_v8) (W3 m c main_v9) (W3 m c main_arg13) (W3 m c main_v10) i 0 k
  rw [netK_in] at e
  refine e.trans ?_
  have hp : (fun h => (sumsIn m c (ix3 0 i h) + sumsIn m c (ix3 1 i h)) * Ideal.ofBits .f32 0x39800000#32)
      = fun h => Ideal.div (∑ s : Fin 4096, seqIn m c (ix3 i s h)) (Ideal.ofBits .f32 0x45800000#32) := by
    funext h
    rw [sumsIn_apply, sumsIn_apply]
    exact Math.pool_halves (seqIn m c) i h
  have hd : (fun j : Fin 256 => drawnIn m c (ix2 i j)) = fun j => drawsIn m c (ix3 i ⟨j.val / 32, by omega⟩ ⟨j.val % 32, by omega⟩) :=
    funext fun j => drawnIn_apply m c i j
  rw [hp, hd]

/-- What the kernel leaves: each row of the sequence with a tenth of its batch row's decoded row added. -/
theorem result (i : Fin 8) (s : Fin 4096) (k : Fin 2048) :
    (W5 m c main_v12 : FVec Ideal S8x4096x2048 .f32) (ix3 i s k)
      = seqIn m c (ix3 i s k) + (netIn m c).decode ((netIn m c).encode
      (fun h => Ideal.div (∑ s : Fin 4096, seqIn m c (ix3 i s h)) (Ideal.ofBits .f32 0x45800000#32))
      (fun j => drawsIn m c (ix3 i ⟨j.val / 32, by omega⟩ ⟨j.val % 32, by omega⟩))) k * Ideal.ofBits .f32 0x3DCCCCCD#32 := by
  have h1 : (W5 m c main_v12 : FVec Ideal S8x4096x2048 .f32)
      = shapeCast S8x4096x2048 (rowsArr (rowOf (F := Ideal) c (flatIn m c) (decIn m c))) shapeCasts_S32768x2048_S8x4096x2048 :=
    (unflat_rows (W4 m c)).trans (congrArg (fun x => shapeCast S8x4096x2048 x shapeCasts_S32768x2048_S8x4096x2048) (W4_v11 m c))
  rw [h1]
  refine (unflat_apply _ _ i s k).trans ((rowsArr_apply c (flatIn m c) (decIn m c) i s k).trans ?_)
  rw [flatIn_apply, decIn_apply]

end

end Cert.KernelIdeal.Hand
-- ==== Proof.Ref.Value.lean ====
module

public import proofs.«01_k».proof.Proof.Ref.Run
public import Idealize.ShloMosaic.Lib.IdealHost

@[expose] public section

noncomputable section

namespace Cert.ReferenceIdeal.Hand

open Cert.ReferenceIdeal Cert.ReferenceIdeal.Gen
open Idealize.ShloMosaic Idealize.ShloMosaic.TcCoe Idealize.SL.Sem
open Idealize.ShloMosaic.StableHlo

/-! # What each stage of the reference computes, as an operation on arrays -/

/-- A bias laid over eight rows. -/
def biasOf (b : FVec Ideal S256 .f32) : FVec Ideal S8x256 .f32 :=
  broadcastInDim S8x256 ![0, 1] bcast_S1x256_S8x256_0_1 (broadcastInDim S1x256 ![1] bcast_S256_S1x256_1 b)

/-- The mean of each row, as a column. -/
def meanOf (x : FVec Ideal S8x256 .f32) : FVec Ideal S8x1 .f32 :=
  Host.divf (broadcastInDim S8x1 ![0] bcast_S8_S8x1_0 (Host.reduceAdd x (constant S_ .f32 0x00000000#32) reducesTo_S8x256_S8_d1 h_S_))
    (broadcastInDim S8x1 ![] bcast_S_S8x1 (constant S_ .f32 0x43800000#32))

/-- The rows with their means subtracted. -/
def devOf (x : FVec Ideal S8x256 .f32) : FVec Ideal S8x256 .f32 :=
  subf x (broadcastInDim S8x256 ![0, 1] bcast_S8x1_S8x256_0_1 (meanOf x))

/-- The layer norm. -/
def normOf (g b : FVec Ideal S256 .f32) (x : FVec Ideal S8x256 .f32) : FVec Ideal S8x256 .f32 :=
  addf (mulf (mulf (devOf x) (broadcastInDim S8x256 ![0, 1] bcast_S8x1_S8x256_0_1
    (Host.rsqrt (addf (meanOf (mulf (devOf x) (devOf x))) (broadcastInDim S8x1 ![] bcast_S_S8x1 (constant S_ .f32 0x3727C5AC#32))))))
    (biasOf g)) (biasOf b)

/-- The activation. -/
def geluOf (x : FVec Ideal S8x256 .f32) : FVec Ideal S8x256 .f32 :=
  mulf (mulf (broadcastInDim S8x256 ![] bcast_S_S8x256 (constant S_ .f32 0x3F000000#32)) x)
    (Host.erfc (mulf (Host.negf x) (broadcastInDim S8x256 ![] bcast_S_S8x256 (constant S_ .f32 0x3F3504F3#32))))

/-- The mean over the sequence. -/
def poolOf (x : FVec Ideal S8x4096x2048 .f32) : FVec Ideal S8x2048 .f32 :=
  Host.divf (Host.reduceAdd x (constant S_ .f32 0x00000000#32) reducesTo_S8x4096x2048_S8x2048_d1 h_S_)
    (broadcastInDim S8x2048 ![] bcast_S_S8x2048 (constant S_ .f32 0x45800000#32))

/-- The noisy logits. -/
def gumbelOf (z u : FVec Ideal S8x8x32 .f32) : FVec Ideal S8x8x32 .f32 :=
  Host.divf (addf z (Host.negf (Host.log (Host.negf (Host.log u))))) (broadcastInDim S8x8x32 ![] bcast_S_S8x8x32 (constant S_ .f32 0x3F800000#32))

/-- The exponentials of the noisy logits less their largest. -/
def expsOf (z : FVec Ideal S8x8x32 .f32) : FVec Ideal S8x8x32 .f32 :=
  Host.exp (subf z (broadcastInDim S8x8x32 ![0, 1, 2] bcast_S8x8x1_S8x8x32_0_1_2 (broadcastInDim S8x8x1 ![0, 1] bcast_S8x8_S8x8x1_0_1
    (maximumf (broadcastInDim S8x8 ![] bcast_S_S8x8 (constant S_ .f32 0xFF800000#32))
      (Host.reduce FloatOps.maximumf z (constant S_ .f32 0xFF800000#32) reducesTo_S8x8x32_S8x8_d2 h_S_)))))

/-- The softmax. -/
def softOf (z : FVec Ideal S8x8x32 .f32) : FVec Ideal S8x8x32 .f32 :=
  Host.divf (expsOf z) (broadcastInDim S8x8x32 ![0, 1, 2] bcast_S8x8x1_S8x8x32_0_1_2 (broadcastInDim S8x8x1 ![0, 1] bcast_S8x8_S8x8x1_0_1
    (Host.reduceAdd (expsOf z) (constant S_ .f32 0x00000000#32) reducesTo_S8x8x32_S8x8_d2 h_S_)))

/-- The index of the largest. -/
def argOf (y : FVec Ideal S8x8x32 .f32) : IVec S8x8 32 := fun j =>
  (Host.argReduce reducer_argmax_f32_i32 y (iotaInDim S8x8x32 32 2) (constant S_ .f32 0xFF800000#32) (constantI S_ 32 0#32) reducesTo_S8x8x32_S8x8_d2 h_S_ j).2

/-- The one-hot rows of the largest. -/
def hotOf (y : FVec Ideal S8x8x32 .f32) : FVec Ideal S8x8x32 .f32 :=
  uitofp .f32 (cmpi .eq (broadcastInDim S8x8x32 ![0, 1, 2] bcast_S8x8x1_S8x8x32_0_1_2 (broadcastInDim S8x8x1 ![0, 1] bcast_S8x8_S8x8x1_0_1 (argOf y)))
    (broadcastInDim S8x8x32 ![0, 1, 2] bcast_S1x1x32_S8x8x32_0_1_2 (iotaInDim S1x1x32 32 2)))

/-- The last buffer of each stage. -/
theorem pool_result (V : Valuation τ sig (Elt Ideal)) : after poolOps V main_v2 = poolOf (V main_arg0) := by
  after_results_simp; rfl
theorem enc1_result (V : Valuation τ sig (Elt Ideal)) : after enc1Ops V main_v7 = (addf (Host.dotGeneral (F := Ideal) (φ₁ := .f32) (φ₂ := .f32) dot_S8x2048_S2048x256_S8x256_1_0_0_1_n_n none (V main_v2) (transpose S2048x256 [1, 0] (V main_arg2) transposes_S256x2048_S2048x256_1_0)) (biasOf (V main_arg3)) : FVec Ideal S8x256 .f32) := by
  after_results_simp; rfl
theorem norm1_result (V : Valuation τ sig (Elt Ideal)) : after norm1Ops V main_v31 = normOf (V main_arg4) (V main_arg5) (V main_v7) := by
  after_results_simp; rfl
theorem gelu1_result (V : Valuation τ sig (Elt Ideal)) : after gelu1Ops V main_v38 = geluOf (V main_v31) := by
  after_results_simp; rfl
theorem enc2_result (V : Valuation τ sig (Elt Ideal)) : after enc2Ops V main_v44 = (shapeCast S8x8x32 (addf (Host.dotGeneral (F := Ideal) (φ₁ := .f32) (φ₂ := .f32) dot_S8x256_S256x256_S8x256_1_0_0_1_n_n none (V main_v38) (transpose S256x256 [1, 0] (V main_arg6) transposes_S256x256_S256x256_1_0)) (biasOf (V main_arg7))) shapeCasts_S8x256_S8x8x32 : FVec Ideal S8x8x32 .f32) := by
  after_results_simp; rfl
theorem gumbel_result (V : Valuation τ sig (Elt Ideal)) : after gumbelOps V main_v51 = gumbelOf (V main_v44) (V main_arg1) := by
  after_results_simp; rfl
theorem soft_result (V : Valuation τ sig (Elt Ideal)) : after softOps V main_v62 = softOf (V main_v51) := by
  after_results_simp; rfl
theorem hard_result (V : Valuation τ sig (Elt Ideal)) : after hardOps V main_v64 = hotOf (V main_v62) := by
  after_results_simp; rfl
theorem embed_result (V : Valuation τ sig (Elt Ideal)) : after embedOps V main_v68 = (shapeCast S8x512 (Host.dotGeneral (F := Ideal) (φ₁ := .f32) (φ₂ := .f32) dot_S8x8x32_S32x64_S8x8x64_2_0_01_1_n_n none (addf (F := Ideal) (φ := .f32) (subf (F := Ideal) (φ := .f32) (V main_v64) (V main_v62)) (V main_v62)) (V main_arg8)) shapeCasts_S8x8x64_S8x512 : FVec Ideal S8x512 .f32) := by
  after_results_simp; rfl
theorem dec1_result (V : Valuation τ sig (Elt Ideal)) : after dec1Ops V main_v73 = (addf (Host.dotGeneral (F := Ideal) (φ₁ := .f32) (φ₂ := .f32) dot_S8x512_S512x256_S8x256_1_0_0_1_n_n none (V main_v68) (transpose S512x256 [1, 0] (V main_arg9) transposes_S256x512_S512x256_1_0)) (biasOf (V main_arg10)) : FVec Ideal S8x256 .f32) := by
  after_results_simp; rfl
theorem norm2_result (V : Valuation τ sig (Elt Ideal)) : after norm2Ops V main_v97 = normOf (V main_arg11) (V main_arg12) (V main_v73) := by
  after_results_simp; rfl
theorem gelu2_result (V : Valuation τ sig (Elt Ideal)) : after gelu2Ops V main_v104 = geluOf (V main_v97) := by
  after_results_simp; rfl
theorem dec2_result (V : Valuation τ sig (Elt Ideal)) : after dec2Ops V main_v109 = (addf (Host.dotGeneral (F := Ideal) (φ₁ := .f32) (φ₂ := .f32) dot_S8x256_S256x2048_S8x2048_1_0_0_1_n_n none (V main_v104) (transpose S256x2048 [1, 0] (V main_arg13) transposes_S2048x256_S256x2048_1_0)) (broadcastInDim S8x2048 ![0, 1] bcast_S1x2048_S8x2048_0_1 (broadcastInDim S1x2048 ![1] bcast_S2048_S1x2048_1 (V main_arg14))) : FVec Ideal S8x2048 .f32) := by
  after_results_simp
theorem add_result (V : Valuation τ sig (Elt Ideal)) : after addOps V main_v114 = (addf (V main_arg0) (broadcastInDim S8x4096x2048 ![0, 1, 2] bcast_S8x1x2048_S8x4096x2048_0_1_2 (mulf (broadcastInDim S8x1x2048 ![] bcast_S_S8x1x2048 (constant S_ .f32 0x3DCCCCCD#32)) (broadcastInDim S8x1x2048 ![0, 2] bcast_S8x2048_S8x1x2048_0_2 (V main_v109)))) : FVec Ideal S8x4096x2048 .f32) := by
  after_results_simp

end Cert.ReferenceIdeal.Hand
-- ==== Proof.Ref.Read.lean ====
module

public import proofs.«01_k».proof.Proof.Ref.Value
public import proofs.«01_k».proof.Proof.Math.Rows
public import Idealize.ShloMosaic.Lib.MatmulPlain
public import Idealize.ShloMosaic.Lib.ValueLayout

@[expose] public section

noncomputable section

namespace Cert.ReferenceIdeal.Hand

open Cert.ReferenceIdeal Cert.ReferenceIdeal.Gen
open Idealize.ShloMosaic Idealize.ShloMosaic.ValueIdx
open scoped BigOperators

/-! # The reference's stages read at an index -/

/-- A product with the second operand plain, at a row and a column. -/
theorem dot_plain {M K N : ℕ} (l : FVec Ideal ⟨2, ![M, K]⟩ .f32) (r : FVec Ideal ⟨2, ![K, N]⟩ .f32) (i : Fin M) (j : Fin N) :
    Host.dotGeneral (DotDims.plain M K N) none l r (ix2 i j) = ∑ k : Fin K, l (ix2 i k) * r (ix2 k j) := by
  have h := Ideal.matmul_plain_apply (M := M) (K := K) (N := N) none l r (constant ⟨2, ![M, N]⟩ .f32 0x00000000#32) i j
  rw [constant_apply, Ideal.ofBits_zero_f32, zero_add] at h
  rw [← h]
  simp only [Host.dotGeneral]
  rw [Ideal.dotGeneral_apply, Ideal.matmul_constant_zero_apply]

/-- A product with a transposed second operand. -/
theorem dot_transposed {M K N : ℕ} (l : FVec Ideal ⟨2, ![M, K]⟩ .f32) (w : FVec Ideal ⟨2, ![N, K]⟩ .f32)
    (h : (⟨2, ![N, K]⟩ : Shape).Transposes [1, 0] ⟨2, ![K, N]⟩) (i : Fin M) (j : Fin N) :
    Host.dotGeneral (DotDims.plain M K N) none l (transpose ⟨2, ![K, N]⟩ [1, 0] w h) (ix2 i j) = ∑ k : Fin K, l (ix2 i k) * w (ix2 j k) := by
  rw [dot_plain]
  exact Finset.sum_congr rfl fun k _ => by rw [transpose_ix2_apply]

/-- A vector laid as one row. -/
theorem bcast_row {n : ℕ} (h : (⟨1, ![n]⟩ : Shape).BroadcastsInDim ⟨2, ![1, n]⟩ ![1]) (b : FVec Ideal ⟨1, ![n]⟩ .f32) (u : Fin 1) (j : Fin n) :
    broadcastInDim ⟨2, ![1, n]⟩ ![1] h b (ix2 u j) = b (ix1 j) := by
  refine broadcastInDim_apply _ h b _ _ fun a => ?_
  match a with
  | ⟨0, _⟩ =>
    show j.val = if n = 1 then 0 else j.val
    split <;> omega

/-- One row laid over many. -/
theorem bcast_rows {m n : ℕ} (h : (⟨2, ![1, n]⟩ : Shape).BroadcastsInDim ⟨2, ![m, n]⟩ ![0, 1]) (b : FVec Ideal ⟨2, ![1, n]⟩ .f32) (i : Fin m) (j : Fin n) :
    broadcastInDim ⟨2, ![m, n]⟩ ![0, 1] h b (ix2 i j) = b (ix2 0 j) := by
  refine broadcastInDim_apply _ h b _ _ fun a => ?_
  match a with
  | ⟨0, _⟩ => rfl
  | ⟨1, _⟩ =>
    show j.val = if n = 1 then 0 else j.val
    split <;> omega

/-- A bias read at a column. -/
theorem biasOf_apply (b : FVec Ideal S256 .f32) (i : Fin 8) (j : Fin 256) : biasOf b (ix2 i j) = b (ix1 j) :=
  (bcast_rows (m := 8) (n := 256) _ _ i j).trans (bcast_row _ _ _ _)

/-- A column laid over the rows. -/
theorem bcast_col (x : FVec Ideal S8x1 .f32) (i : Fin 8) (j : Fin 256) :
    broadcastInDim S8x256 ![0, 1] bcast_S8x1_S8x256_0_1 x (ix2 i j) = x (ix2 i 0) := by
  refine broadcastInDim_apply _ _ x _ _ fun a => ?_
  match a with
  | ⟨0, _⟩ => rfl
  | ⟨1, _⟩ => rfl

/-- The mean of a row. -/
theorem meanOf_apply (x : FVec Ideal S8x256 .f32) (i : Fin 8) : meanOf x (ix2 i 0) = Math.mean fun k => x (ix2 i k) := by
  unfold meanOf Math.mean
  rw [hostDivf_apply, broadcastInDim_scalar_apply]
  have e : broadcastInDim S8x1 ![0] bcast_S8_S8x1_0 (Host.reduceAdd x (constant S_ .f32 0x00000000#32) reducesTo_S8x256_S8_d1 h_S_) (ix2 i 0)
      = Host.reduceAdd x (constant S_ .f32 0x00000000#32) reducesTo_S8x256_S8_d1 h_S_ (ix1 i) := by
    refine broadcastInDim_apply _ _ _ _ _ fun a => ?_
    match a with
    | ⟨0, _⟩ => rfl
  rw [e, hostReduceAdd_apply, Ideal.hostReduceAdd_single _ (by decide : S8x256.Reduces [1] S8), constant_apply, Ideal.ofBits_zero_f32, zero_add]
  congr 1
  refine Finset.sum_congr rfl fun k _ => congrArg x ?_
  exact (eq_ix2 _).trans rfl

/-- A row less its mean. -/
theorem devOf_apply (x : FVec Ideal S8x256 .f32) (i : Fin 8) (j : Fin 256) : devOf x (ix2 i j) = x (ix2 i j) - Math.mean fun k => x (ix2 i k) := by
  unfold devOf
  rw [subf_apply, bcast_col, meanOf_apply]

/-- The layer norm of a row. -/
theorem normOf_apply (g b : FVec Ideal S256 .f32) (x : FVec Ideal S8x256 .f32) (i : Fin 8) (j : Fin 256) :
    normOf g b x (ix2 i j) = Math.norm (fun k => g (ix1 k)) (fun k => b (ix1 k)) (fun k => x (ix2 i k)) j := by
  unfold normOf
  rw [addf_apply, mulf_apply, mulf_apply, biasOf_apply, biasOf_apply, bcast_col, devOf_apply]
  unfold Math.norm Math.scale
  congr 3
  show Ideal.rsqrt (meanOf (mulf (devOf x) (devOf x)) (ix2 i 0) + _) = _
  rw [meanOf_apply, broadcastInDim_scalar_apply]
  simp only [mulf_apply, devOf_apply]
  rfl

/-- The activation of an entry. -/
theorem geluOf_apply (x : FVec Ideal S8x256 .f32) (p : S8x256.Idx) : geluOf x p = Math.gelu (x p) := by
  rw [← Math.gelu_erfc]
  unfold geluOf
  rw [mulf_apply, mulf_apply, broadcastInDim_scalar_apply]
  show _ * Ideal.erfc (mulf (Host.negf x) (broadcastInDim S8x256 ![] bcast_S_S8x256 (constant S_ .f32 0x3F3504F3#32)) p) = _
  rw [mulf_apply, broadcastInDim_scalar_apply]
  rfl

/-- The mean over the sequence at a column. -/
theorem poolOf_apply (x : FVec Ideal S8x4096x2048 .f32) (i : Fin 8) (h : Fin 2048) :
    poolOf x (ix2 i h) = Ideal.div (∑ s : Fin 4096, x (ix3 i s h)) (Ideal.ofBits .f32 0x45800000#32) := by
  unfold poolOf
  rw [hostDivf_apply, broadcastInDim_scalar_apply, hostReduceAdd_apply, Ideal.hostReduceAdd_single _ (by decide : S8x4096x2048.Reduces [1] S8x2048), constant_apply,
    constant_apply, Ideal.ofBits_zero_f32, zero_add]
  congr 1
  refine Finset.sum_congr rfl fun k _ => congrArg x ?_
  exact (eq_ix3 _).trans rfl

/-- The noisy logits at an index. -/
theorem gumbelOf_apply (z u : FVec Ideal S8x8x32 .f32) (p : S8x8x32.Idx) : gumbelOf z u p = z p + Math.noise (u p) := by
  unfold gumbelOf
  rw [hostDivf_apply, broadcastInDim_scalar_apply, constant_apply, Ideal.ofBits_one_f32]
  show Ideal.div (z p + Math.noise (u p)) 1 = _
  unfold Ideal.div
  rw [if_neg one_ne_zero, inv_one, mul_one]

/-- A column per symbol laid over the symbol's row. -/
theorem bcast_sym {α : Type} (x : S8x8.Idx → α) (i s : Fin 8) (c : Fin 32) :
    broadcastInDim S8x8x32 ![0, 1, 2] bcast_S8x8x1_S8x8x32_0_1_2 (broadcastInDim S8x8x1 ![0, 1] bcast_S8x8_S8x8x1_0_1 x) (ix3 i s c) = x (ix2 i s) := by
  refine (broadcastInDim_apply _ _ _ _ (ix3 i s 0) fun a => ?_).trans (broadcastInDim_apply _ _ x _ _ fun a => ?_)
  · match a with
    | ⟨0, _⟩ => rfl
    | ⟨1, _⟩ => rfl
    | ⟨2, _⟩ => rfl
  · match a with
    | ⟨0, _⟩ => rfl
    | ⟨1, _⟩ => rfl

/-- The exponentials at an index. -/
theorem expsOf_apply (z : FVec Ideal S8x8x32 .f32) (i s : Fin 8) (c : Fin 32) :
    expsOf z (ix3 i s c) = Ideal.exp (z (ix3 i s c) - Math.peak fun c => z (ix3 i s c)) := by
  show Ideal.exp (z (ix3 i s c) - _) = _
  congr 2
  refine (bcast_sym _ i s c).trans ?_
  rw [maximumf_apply, broadcastInDim_scalar_apply, constant_apply, Math.ofBits_bot]
  rw [Host.reduce_eq_fold_single (α := Ideal .f32) FloatOps.maximumf z _ _ (by decide : S8x8x32.Reduces [2] S8x8)]
  rw [constant_apply, Math.ofBits_bot]
  refine (max_eq_right bot_le).trans ?_
  unfold Math.peak
  refine Finset.fold_congr fun k _ => congrArg z ?_
  exact (eq_ix3 _).trans rfl

/-- The softmax at an index. -/
theorem softOf_apply (z : FVec Ideal S8x8x32 .f32) (i s : Fin 8) (c : Fin 32) :
    softOf z (ix3 i s c) = Ideal.div (Ideal.exp (z (ix3 i s c) - Math.peak fun c => z (ix3 i s c)))
      (∑ d, Ideal.exp (z (ix3 i s d) - Math.peak fun c => z (ix3 i s c))) := by
  unfold softOf
  rw [hostDivf_apply, expsOf_apply, bcast_sym, hostReduceAdd_apply, Ideal.hostReduceAdd_single _ (by decide : S8x8x32.Reduces [2] S8x8), constant_apply,
    Ideal.ofBits_zero_f32, zero_add]
  congr 1
  refine Finset.sum_congr rfl fun k _ => ?_
  exact (congrArg (expsOf z) ((eq_ix3 _).trans rfl)).trans (expsOf_apply z i s k)

/-- The one-hot rows at an index. -/
theorem hotOf_apply (y : FVec Ideal S8x8x32 .f32) (i s : Fin 8) (c : Fin 32) :
    hotOf y (ix3 i s c) = FloatOps.uitofp (F := Ideal) .f32 (IntOp.cmpi .eq (argOf y (ix2 i s)) (BitVec.ofNat 32 c.val)) := by
  show FloatOps.uitofp (F := Ideal) .f32 (IntOp.cmpi .eq _ _) = _
  congr 2
  exact bcast_sym _ i s c

end Cert.ReferenceIdeal.Hand
-- ==== Proof.Ref.Arg.lean ====
module

public import proofs.«01_k».proof.Proof.Ref.Read
public import proofs.«01_k».proof.Proof.Math.First

@[expose] public section

noncomputable section

namespace Cert.ReferenceIdeal.Hand

open Cert.ReferenceIdeal Cert.ReferenceIdeal.Gen
open Idealize.ShloMosaic Idealize.ShloMosaic.ValueIdx
open scoped BigOperators

/-! # The index of the largest -/

/-- One pair comes before another in the reference's choice: its value is larger, or the values are equal and its index is smaller. -/
def Beats (p q : EReal × BitVec 32) : Prop := q.1 < p.1 ∨ (p.1 = q.1 ∧ p.2.slt q.2 = true)

/-- The choice takes the first pair when it comes before the second, and the second otherwise. -/
theorem choice_of_beats {p q : EReal × BitVec 32} (h : Beats p q) : reducer_argmax_f32_i32 (F := Ideal) p q = p := by
  obtain ⟨x, a⟩ := p; obtain ⟨y, b⟩ := q
  rcases h with h | ⟨h, h'⟩
  · simp only at h
    simp [reducer_argmax_f32_i32, Ideal.cmpf_def, Ideal.cmp, h, IntOp.ori, IntOp.andi, Scalar.select]
    exact fun e => absurd ((by decide : ∀ w : BitVec 1, 1#1 ||| w = 1#1) _) e
  · simp only at h h'
    subst h
    simp [reducer_argmax_f32_i32, Ideal.cmpf_def, Ideal.cmp, h', IntOp.ori, IntOp.andi, IntOp.cmpi, Scalar.select]

theorem choice_of_not_beats {p q : EReal × BitVec 32} (h : ¬Beats p q) : reducer_argmax_f32_i32 (F := Ideal) p q = q := by
  obtain ⟨x, a⟩ := p; obtain ⟨y, b⟩ := q
  have h1 : ¬y < x := fun e => h (.inl e)
  by_cases h2 : x = y
  · subst h2
    have h3 : a.slt b = false := by
      cases e : a.slt b
      · rfl
      · exact absurd (Or.inr ⟨rfl, e⟩) h
    simp [reducer_argmax_f32_i32, Ideal.cmpf_def, Ideal.cmp, h3, IntOp.ori, IntOp.andi, IntOp.cmpi, Scalar.select]
  · simp [reducer_argmax_f32_i32, Ideal.cmpf_def, Ideal.cmp, h1, h2, IntOp.ori, IntOp.andi, Scalar.select]

/-- What comes before a pair does not come after it. -/
theorem Beats.not {p q : EReal × BitVec 32} (h : Beats p q) : ¬Beats q p := by
  rintro (g | ⟨g, g'⟩) <;> rcases h with h | ⟨h, h'⟩
  · exact lt_asymm g h
  · exact absurd (h ▸ g) (lt_irrefl _)
  · exact absurd (g ▸ h) (lt_irrefl _)
  · simp only [BitVec.slt, decide_eq_true_eq] at g' h'; omega

/-- The choice along a list finds the pair that comes before every other. -/
theorem fold_choice (T : EReal × BitVec 32) (l : List (EReal × BitVec 32)) (init : EReal × BitVec 32) (hT : T = init ∨ T ∈ l)
    (hi : init = T ∨ Beats T init) (hl : ∀ p ∈ l, p = T ∨ Beats T p) : l.foldl (reducer_argmax_f32_i32 (F := Ideal)) init = T := by
  induction l generalizing init with
  | nil => exact (hT.resolve_right (by simp)).symm
  | cons p l ih =>
    rw [List.foldl_cons]
    have hl' : ∀ p ∈ l, p = T ∨ Beats T p := fun q hq => hl q (List.mem_cons_of_mem _ hq)
    by_cases hb : Beats init p
    · rw [choice_of_beats hb]
      refine ih init ?_ hi hl'
      rcases hT with h | h
      · exact .inl h
      · rcases List.mem_cons.mp h with h | h
        · rcases hi with e | e
          · exact .inl e.symm
          · exact absurd (h ▸ e) hb.not
        · exact .inr h
    · rw [choice_of_not_beats hb]
      refine ih p ?_ (hl p List.mem_cons_self) hl'
      rcases hT with h | h
      · rcases hl p List.mem_cons_self with e | e
        · exact .inl e.symm
        · exact absurd (h ▸ e) hb
      · exact (List.mem_cons.mp h).imp id id

/-- The fact of the reduction over a symbol's entries. -/
theorem reduces_sym : S8x8x32.Reduces [2] S8x8 := by decide

/-- The pairs the choice runs over. -/
theorem mem_fiber (y : FVec Ideal S8x8x32 .f32) (i s : Fin 8) (p : EReal × BitVec 32) :
    p ∈ Host.argReduceFiber (α := EReal) y (iotaInDim S8x8x32 32 2) reducesTo_S8x8x32_S8x8_d2 (ix2 i s) ↔
      ∃ c : Fin 32, p = (y (ix3 i s c), BitVec.ofNat 32 c.val) := by
  have hd : ∀ x : S8x8x32.Idx, reducesTo_S8x8x32_S8x8_d2.drop x = ix2 i s ↔ ∃ c : Fin 32, x = ix3 i s c := fun x => by
    rw [Shape.ReducesTo.drop_eq_drop _ reduces_sym]
    have hlift : ∀ c : Fin 32, reduces_sym.lift (ix2 i s) c = (ix3 i s c : S8x8x32.Idx) := fun c => (eq_ix3 _).trans rfl
    constructor
    · intro h
      exact ⟨x 2, (reduces_sym.lift_drop x).symm.trans ((congrArg (fun j => reduces_sym.lift j (x 2)) h).trans (hlift (x 2)))⟩
    · rintro ⟨c, rfl⟩
      rw [← hlift]; exact reduces_sym.drop_lift _ _
  unfold Host.argReduceFiber
  rw [List.mem_map]
  constructor
  · rintro ⟨n, hn, rfl⟩
    obtain ⟨c, hc⟩ := (hd _).mp (of_decide_eq_true (List.mem_filter.mp hn).2)
    refine ⟨c, ?_⟩
    rw [hc]; rfl
  · rintro ⟨c, rfl⟩
    refine ⟨S8x8x32.rowMajor (ix3 i s c), List.mem_filter.mpr ⟨List.mem_finRange _, decide_eq_true ?_⟩, ?_⟩
    · rw [Equiv.symm_apply_apply]; exact (hd _).mpr ⟨c, rfl⟩
    · rw [Equiv.symm_apply_apply]; rfl

/-- Small words compare as their numbers. -/
theorem slt_ofNat {a b : Fin 32} (h : a < b) : (BitVec.ofNat 32 a.val).slt (BitVec.ofNat 32 b.val) = true := by
  revert a b; decide

/-- The index chosen is the first of the largest, where the entries are real numbers. -/
theorem argOf_apply (y : FVec Ideal S8x8x32 .f32) (i s : Fin 8) (k : Fin 32) (hy : ∀ c, y (ix3 i s c) ≠ ⊥)
    (h : Math.IsFirst (fun c => y (ix3 i s c)) k) : argOf y (ix2 i s) = BitVec.ofNat 32 k.val := by
  unfold argOf
  rw [Ideal.argReduce_eq_reduce2, Host.reduce2_eq_foldl_fiber]
  refine congrArg Prod.snd (fold_choice (y (ix3 i s k), BitVec.ofNat 32 k.val) _ _ (.inr ((mem_fiber y i s _).mpr ⟨k, rfl⟩)) (.inr (.inl ?_)) fun p hp => ?_)
  · show Ideal.ofBits .f32 0xFF800000#32 < _
    rw [Math.ofBits_bot]
    exact bot_lt_iff_ne_bot.mpr (hy k)
  · obtain ⟨c, rfl⟩ := (mem_fiber y i s p).mp hp
    rcases lt_trichotomy c k with hc | rfl | hc
    · exact .inr (.inl (h.2 c hc))
    · exact .inl rfl
    · rcases lt_or_eq_of_le (h.1 c) with e | e
      · exact .inr (.inl e)
      · exact .inr (.inr ⟨e.symm, slt_ofNat hc⟩)

end Cert.ReferenceIdeal.Hand
-- ==== Proof.Ref.Whole.lean ====
module

public import proofs.«01_k».proof.Proof.Ref.Arg
public import proofs.«01_k».proof.Proof.Math.Net

@[expose] public section

noncomputable section

namespace Cert.ReferenceIdeal.Hand

open Cert.ReferenceIdeal Cert.ReferenceIdeal.Gen
open Idealize.ShloMosaic Idealize.ShloMosaic.TcCoe Idealize.SL.Sem Idealize.ShloMosaic.ValueIdx
open Idealize.ShloMosaic.StableHlo
open scoped BigOperators

/-! # What the reference's last buffer holds -/

/-- A dense layer of the reference at a row and a column. -/
theorem dense_apply {n : ℕ} (x : FVec Ideal ⟨2, ![8, n]⟩ .f32) (w : FVec Ideal ⟨2, ![256, n]⟩ .f32) (b : FVec Ideal S256 .f32)
    (h : (⟨2, ![256, n]⟩ : Shape).Transposes [1, 0] ⟨2, ![n, 256]⟩) (i : Fin 8) (j : Fin 256) :
    addf (Host.dotGeneral (DotDims.plain 8 n 256) none x (transpose ⟨2, ![n, 256]⟩ [1, 0] w h)) (biasOf b) (ix2 i j)
      = Math.dense (Math.rows w) (Math.entries b) (fun k => x (ix2 i k)) j := by
  rw [addf_apply, dot_transposed, biasOf_apply]
  rfl

/-- The logits reshaped by symbol. -/
theorem cast_sym (x : FVec Ideal S8x256 .f32) (i s : Fin 8) (c : Fin 32) :
    shapeCast S8x8x32 x shapeCasts_S8x256_S8x8x32 (ix3 i s c) = x (ix2 i (Math.at32 s c)) :=
  shapeCast_apply x _ _ _ (by
    rw [Shape.rowMajor_val_two, Shape.rowMajor_val_three]
    show i.val * 256 + (32 * s.val + c.val) = (i.val * 8 + s.val) * 32 + c.val
    omega)

/-- The embedded symbols laid in one row. -/
theorem cast_embed (x : FVec Ideal S8x8x64 .f32) (i s : Fin 8) (d : Fin 64) :
    shapeCast S8x512 x shapeCasts_S8x8x64_S8x512 (ix2 i (Math.at64 s d)) = x (ix3 i s d) :=
  shapeCast_apply x _ _ _ (by
    rw [Shape.rowMajor_val_two, Shape.rowMajor_val_three]
    show (i.val * 8 + s.val) * 64 + d.val = i.val * 512 + (64 * s.val + d.val)
    omega)

/-- The product with the embedding table at an index. -/
theorem dot_embed (l : FVec Ideal S8x8x32 .f32) (r : FVec Ideal S32x64 .f32) (i s : Fin 8) (d : Fin 64) :
    Host.dotGeneral dot_S8x8x32_S32x64_S8x8x64_2_0_01_1_n_n none l r (ix3 i s d) = ∑ c : Fin 32, l (ix3 i s c) * r (ix2 c d) := by
  simp only [Host.dotGeneral]
  rw [Ideal.dotGeneral_apply, ← Equiv.sum_comp (contrEquiv1 dot_S8x8x32_S32x64_S8x8x64_2_0_01_1_n_n 32 rfl rfl).symm]
  refine Finset.sum_congr rfl fun c _ => ?_
  congr 1
  · exact congrArg l ((eq_ix3 _).trans rfl)
  · exact congrArg r ((eq_ix2 _).trans rfl)

/-- Different small indices are different words. -/
theorem ofNat_ne {c k : Fin 32} (h : c ≠ k) : ¬BitVec.ofNat 32 k.val = BitVec.ofNat 32 c.val := by
  revert c k; decide

/-- The straight-through symbols are the one-hot rows where the logits are real numbers. -/
theorem symbols_apply (z : FVec Ideal S8x8x32 .f32) (i s : Fin 8) (hz : ∀ c, Math.Real' (z (ix3 i s c))) (c : Fin 32) :
    addf (subf (hotOf (softOf z)) (softOf z)) (softOf z) (ix3 i s c) = Math.hot (Math.pick fun c => z (ix3 i s c)) c := by
  have hs : ∀ c, softOf z (ix3 i s c) = Math.soft (fun c => z (ix3 i s c)) c := fun c => softOf_apply z i s c
  obtain ⟨p, hp, -, -, -⟩ := Math.soft_real (fun c => z (ix3 i s c)) hz
  have hk := Math.soft_first _ hz _ (Math.pick_first fun c => z (ix3 i s c))
  have ha := argOf_apply (softOf z) i s (Math.pick fun c => z (ix3 i s c)) (fun c => by rw [hs, hp]; exact EReal.coe_ne_bot _)
    (by simpa only [hs] using hk)
  have hh : hotOf (softOf z) (ix3 i s c) = Math.hot (Math.pick fun c => z (ix3 i s c)) c := by
    rw [hotOf_apply, ha]
    generalize Math.pick (fun c => z (ix3 i s c)) = k
    unfold Math.hot
    by_cases e : c = k
    · subst e
      rw [if_pos rfl]
      simp [IntOp.cmpi, FloatOps.uitofp]
    · rw [if_neg e]
      simp [IntOp.cmpi, FloatOps.uitofp, ofNat_ne e]
  rw [addf_apply, subf_apply, hh, hs, hp]
  exact Math.sub_add_real (Math.hot_real _ _) ⟨_, rfl⟩

/-- The weights the reference reads. -/
def netOf (V : Valuation τ sig (Elt Ideal)) : Math.Net :=
  ⟨V main_arg2, V main_arg3, V main_arg4, V main_arg5, V main_arg6, V main_arg7, V main_arg8, V main_arg9, V main_arg10, V main_arg11, V main_arg12,
    V main_arg13, V main_arg14⟩

/-- A batch row's mean over the sequence. -/
def pooled (X : Math.Arr3 8 4096 2048) (i : Fin 8) (h : Fin 2048) : EReal :=
  Ideal.div (∑ s : Fin 4096, X (ix3 i s h)) (Ideal.ofBits .f32 0x45800000#32)

/-- A batch row's draws, laid in one row. -/
def draws (U : Math.Arr3 8 8 32) (i : Fin 8) (j : Fin 256) : EReal :=
  U (ix3 i ⟨j.val / 32, by omega⟩ ⟨j.val % 32, by omega⟩)

theorem draws_at32 (U : Math.Arr3 8 8 32) (i s : Fin 8) (c : Fin 32) : draws U i (Math.at32 s c) = U (ix3 i s c) := by
  unfold draws Math.at32
  congr 2 <;> exact Fin.ext (by simp only []; omega)

/-- The buffers after the first `n` stages. -/
def upto (n : ℕ) (V : Valuation τ sig (Elt Ideal)) : Valuation τ sig (Elt Ideal) :=
  ((stages (F := Ideal)).take n).foldl (fun V ops => after ops V) V

/-- Stages in order leave a buffer no operation writes. -/
theorem chain_keeps (l : List (List (HloOp τ sig (Elt Ideal)))) (hl : ∀ ops ∈ l, ops ∈ stages (F := Ideal)) (V : Valuation τ sig (Elt Ideal))
    (b : Ref sig .tc) (hb : b ∉ written) : l.foldl (fun V ops => after ops V) V b = V b := by
  induction l generalizing V with
  | nil => rfl
  | cons ops l ih =>
    rw [List.foldl_cons, ih (fun o ho => hl o (List.mem_cons_of_mem _ ho))]
    exact stage_keeps ops (hl ops List.mem_cons_self) V b hb

theorem upto_keeps (n : ℕ) (V : Valuation τ sig (Elt Ideal)) (b : Ref sig .tc) (hb : b ∉ written) : upto n V b = V b :=
  chain_keeps _ (fun _ h => List.mem_of_mem_take h) V b hb

/-- Stages in order are their operations in order. -/
theorem chain_flatten (l : List (List (HloOp τ sig (Elt Ideal)))) (V : Valuation τ sig (Elt Ideal)) :
    after l.flatten V = l.foldl (fun V ops => after ops V) V := by
  induction l generalizing V with
  | nil => rfl
  | cons ops l ih => rw [List.flatten_cons, after_append, ih]; rfl

/-- The stages up to the noisy logits. -/
theorem logits_result (V : Valuation τ sig (Elt Ideal)) (i s : Fin 8) (c : Fin 32) :
    (upto 6 V main_v51 : FVec Ideal S8x8x32 .f32) (ix3 i s c)
      = (netOf V).encode (pooled (V main_arg0) i) (draws (V main_arg1) i) (Math.at32 s c) := by
  have h5 : upto 6 V = after gumbelOps (upto 5 V) := rfl
  have h4 : upto 5 V = after enc2Ops (upto 4 V) := rfl
  have h3 : upto 4 V = after gelu1Ops (upto 3 V) := rfl
  have h2 : upto 3 V = after norm1Ops (upto 2 V) := rfl
  have h1 : upto 2 V = after enc1Ops (upto 1 V) := rfl
  have h0 : upto 1 V = after poolOps V := rfl
  have e7 : (upto 2 V main_v7 : FVec Ideal S8x256 .f32) = fun p => Math.dense (Math.rows (netOf V).w1) (Math.entries (netOf V).b1) (pooled (V main_arg0) (p 0)) (p 1) := by
    rw [h1, enc1_result, upto_keeps 1 V main_arg2 (by decide), upto_keeps 1 V main_arg3 (by decide), h0, pool_result]
    funext p
    refine (congrArg _ (eq_ix2 p)).trans ((dense_apply (n := 2048) _ _ _ _ (p 0) (p 1)).trans ?_)
    congr 1
    funext k
    exact poolOf_apply _ _ _
  have e31 : (upto 3 V main_v31 : FVec Ideal S8x256 .f32) = fun p => Math.norm (Math.entries (netOf V).g1) (Math.entries (netOf V).o1)
      (Math.dense (Math.rows (netOf V).w1) (Math.entries (netOf V).b1) (pooled (V main_arg0) (p 0))) (p 1) := by
    rw [h2, norm1_result, upto_keeps 2 V main_arg4 (by decide), upto_keeps 2 V main_arg5 (by decide), e7]
    funext p
    exact (congrArg _ (eq_ix2 p)).trans (normOf_apply _ _ _ (p 0) (p 1))
  have e38 : (upto 4 V main_v38 : FVec Ideal S8x256 .f32) = fun p => Math.gelu (Math.norm (Math.entries (netOf V).g1) (Math.entries (netOf V).o1)
      (Math.dense (Math.rows (netOf V).w1) (Math.entries (netOf V).b1) (pooled (V main_arg0) (p 0))) (p 1)) := by
    rw [h3, gelu1_result, e31]
    funext p
    exact geluOf_apply _ _
  rw [h5, gumbel_result, gumbelOf_apply, upto_keeps 5 V main_arg1 (by decide), h4, enc2_result, cast_sym,
    upto_keeps 4 V main_arg6 (by decide), upto_keeps 4 V main_arg7 (by decide), e38]
  unfold Math.Net.encode
  rw [draws_at32]
  congr 1
  exact dense_apply (n := 256) _ _ _ _ i _

/-- The embedded symbols of the reference at a row and a column. -/
theorem embed_apply (z : FVec Ideal S8x8x32 .f32) (E : FVec Ideal S32x64 .f32) (i s : Fin 8) (d : Fin 64) (hz : ∀ c, Math.Real' (z (ix3 i s c))) :
    (shapeCast S8x512 (Host.dotGeneral dot_S8x8x32_S32x64_S8x8x64_2_0_01_1_n_n none (addf (subf (hotOf (softOf z)) (softOf z)) (softOf z)) E)
      shapeCasts_S8x8x64_S8x512 : FVec Ideal S8x512 .f32) (ix2 i (Math.at64 s d)) = ∑ c, Math.hot (Math.pick fun c => z (ix3 i s c)) c * E (ix2 c d) := by
  rw [cast_embed, dot_embed]
  exact Finset.sum_congr rfl fun c _ => by rw [symbols_apply z i s hz]

/-- The decoder's first layer of the reference at a row and a column. -/
theorem mix_apply (x : FVec Ideal S8x512 .f32) (w : FVec Ideal S256x512 .f32) (b : FVec Ideal S256 .f32) (E : Fin 8 → Fin 8 → Fin 64 → EReal)
    (hx : ∀ i s d, x (ix2 i (Math.at64 s d)) = E i s d) (i : Fin 8) (j : Fin 256) :
    addf (Host.dotGeneral dot_S8x512_S512x256_S8x256_1_0_0_1_n_n none x (transpose S512x256 [1, 0] w transposes_S256x512_S512x256_1_0)) (biasOf b) (ix2 i j)
      = (∑ s, ∑ d, E i s d * w (ix2 j (Math.at64 s d))) + b (ix1 j) := by
  refine (dense_apply (n := 512) x w b _ i j).trans ?_
  unfold Math.dense Math.rows Math.entries
  rw [Math.sum_at64]
  simp only [hx]

/-- The stages from the noisy logits to the decoder's first layer. -/
theorem mixed_result (V : Valuation τ sig (Elt Ideal))
    (hz : ∀ i s c, Math.Real' ((upto 6 V main_v51 : FVec Ideal S8x8x32 .f32) (ix3 i s c))) (z : Fin 8 → Fin 256 → EReal)
    (he : ∀ i s c, (upto 6 V main_v51 : FVec Ideal S8x8x32 .f32) (ix3 i s c) = z i (Math.at32 s c)) :
    (upto 10 V main_v73 : FVec Ideal S8x256 .f32) = fun p => (netOf V).mix (z (p 0)) (p 1) := by
  have h9 : upto 10 V = after dec1Ops (upto 9 V) := rfl
  have h8 : upto 9 V = after embedOps (upto 8 V) := rfl
  have h7 : upto 8 V = after hardOps (upto 7 V) := rfl
  have h6 : upto 7 V = after softOps (upto 6 V) := rfl
  have k62 : after hardOps (upto 7 V) main_v62 = upto 7 V main_v62 := by after_results_simp
  have e68 : ∀ i s d, (upto 9 V main_v68 : FVec Ideal S8x512 .f32) (ix2 i (Math.at64 s d)) = (netOf V).embed (z i) s d := fun i s d => by
    rw [h8, embed_result, upto_keeps 8 V main_arg8 (by decide), h7, hard_result, k62, h6, soft_result]
    refine (embed_apply _ _ i s d (hz i s)).trans ?_
    exact congrArg (fun f => ∑ c, Math.hot (Math.pick f) c * (netOf V).cb (ix2 c d)) (funext (he i s))
  rw [h9, dec1_result, upto_keeps 9 V main_arg9 (by decide), upto_keeps 9 V main_arg10 (by decide)]
  funext p
  exact (congrArg _ (eq_ix2 p)).trans (mix_apply _ _ _ (fun i => (netOf V).embed (z i)) e68 (p 0) (p 1))

/-- The stages from the decoder's first layer on. -/
theorem decoded_result (V : Valuation τ sig (Elt Ideal)) (z : Fin 8 → Fin 256 → EReal)
    (e73 : (upto 10 V main_v73 : FVec Ideal S8x256 .f32) = fun p => (netOf V).mix (z (p 0)) (p 1)) (i : Fin 8) (h : Fin 2048) :
    (upto 13 V main_v109 : FVec Ideal S8x2048 .f32) (ix2 i h) = (netOf V).decode (z i) h := by
  have h12 : upto 13 V = after dec2Ops (upto 12 V) := rfl
  have h11 : upto 12 V = after gelu2Ops (upto 11 V) := rfl
  have h10 : upto 11 V = after norm2Ops (upto 10 V) := rfl
  have e97 : (upto 11 V main_v97 : FVec Ideal S8x256 .f32) = fun p => Math.norm (Math.entries (netOf V).g2) (Math.entries (netOf V).o2)
      ((netOf V).mix (z (p 0))) (p 1) := by
    rw [h10, norm2_result, upto_keeps 10 V main_arg11 (by decide), upto_keeps 10 V main_arg12 (by decide), e73]
    funext p
    exact (congrArg _ (eq_ix2 p)).trans (normOf_apply _ _ _ (p 0) (p 1))
  have e104 : (upto 12 V main_v104 : FVec Ideal S8x256 .f32) = fun p => Math.gelu (Math.norm (Math.entries (netOf V).g2) (Math.entries (netOf V).o2)
      ((netOf V).mix (z (p 0))) (p 1)) := by
    rw [h11, gelu2_result, e97]
    funext p
    exact geluOf_apply _ _
  rw [h12, dec2_result, upto_keeps 12 V main_arg13 (by decide), upto_keeps 12 V main_arg14 (by decide), e104]
  rw [addf_apply]
  have hb : broadcastInDim S8x2048 ![0, 1] bcast_S1x2048_S8x2048_0_1 (broadcastInDim S1x2048 ![1] bcast_S2048_S1x2048_1 (V main_arg14 : FVec Ideal S2048 .f32)) (ix2 i h)
      = (V main_arg14 : FVec Ideal S2048 .f32) (ix1 h) := (bcast_rows (m := 8) (n := 2048) _ _ i h).trans (bcast_row _ _ _ _)
  rw [hb]
  unfold Math.Net.decode Math.dense
  exact congrArg (· + _) (dot_transposed (M := 8) (K := 256) (N := 2048) _ _ _ i h)

/-- The reference's first two arguments. -/
def seqOf (V : Valuation τ sig (Elt Ideal)) : Math.Arr3 8 4096 2048 := V main_arg0
def drawsOf (V : Valuation τ sig (Elt Ideal)) : Math.Arr3 8 8 32 := V main_arg1

/-- The decoded row added to a row of the sequence. -/
theorem added_apply (X : FVec Ideal S8x4096x2048 .f32) (y : FVec Ideal S8x2048 .f32) (i : Fin 8) (s : Fin 4096) (h : Fin 2048) :
    addf X (broadcastInDim S8x4096x2048 ![0, 1, 2] bcast_S8x1x2048_S8x4096x2048_0_1_2
      (mulf (broadcastInDim S8x1x2048 ![] bcast_S_S8x1x2048 (constant S_ .f32 0x3DCCCCCD#32)) (broadcastInDim S8x1x2048 ![0, 2] bcast_S8x2048_S8x1x2048_0_2 y))) (ix3 i s h)
      = X (ix3 i s h) + Ideal.ofBits .f32 0x3DCCCCCD#32 * y (ix2 i h) := by
  rw [addf_apply]
  congr 1
  refine (broadcastInDim_apply _ _ _ _ (ix3 i 0 h) fun a => ?_).trans ?_
  · match a with
    | ⟨0, _⟩ => rfl
    | ⟨1, _⟩ => rfl
    | ⟨2, _⟩ => rfl
  rw [mulf_apply, broadcastInDim_scalar_apply, constant_apply]
  congr 1
  refine broadcastInDim_apply _ _ _ _ (ix2 i h) fun a => ?_
  match a with
  | ⟨0, _⟩ => rfl
  | ⟨1, _⟩ => rfl

/-- The reference's noisy logits. -/
def noisy (V : Valuation τ sig (Elt Ideal)) (i : Fin 8) : Fin 256 → EReal :=
  (netOf V).encode (pooled (seqOf V) i) (draws (drawsOf V) i)

theorem noisy_result (V : Valuation τ sig (Elt Ideal)) (i s : Fin 8) (c : Fin 32) :
    (upto 6 V main_v51 : FVec Ideal S8x8x32 .f32) (ix3 i s c) = noisy V i (Math.at32 s c) := logits_result V i s c

/-- The stages in order are the stages up to the last, then the last. -/
theorem whole_stages (V : Valuation τ sig (Elt Ideal)) : after (stages (F := Ideal)).flatten V = after addOps (upto 13 V) := chain_flatten _ V

/-- The reference's decoded rows. -/
theorem decoded_noisy (V : Valuation τ sig (Elt Ideal)) (hz : ∀ i j, Math.Real' (noisy V i j)) (i : Fin 8) (h : Fin 2048) :
    (upto 13 V main_v109 : FVec Ideal S8x2048 .f32) (ix2 i h) = (netOf V).decode (noisy V i) h :=
  decoded_result V (noisy V) (mixed_result V (fun i s c => (noisy_result V i s c).symm ▸ hz i _) (noisy V) (noisy_result V)) i h

/-- The reference's result at an index. -/
theorem result (V : Valuation τ sig (Elt Ideal)) (hz : ∀ i j, Math.Real' (noisy V i j)) (i : Fin 8) (s : Fin 4096) (h : Fin 2048) :
    (after (stages (F := Ideal)).flatten V main_v114 : FVec Ideal S8x4096x2048 .f32) (ix3 i s h)
      = seqOf V (ix3 i s h) + Ideal.ofBits .f32 0x3DCCCCCD#32 * (netOf V).decode (noisy V i) h := by
  rw [whole_stages, add_result, upto_keeps 13 V main_arg0 (by decide)]
  exact (added_apply _ _ i s h).trans (congrArg (fun y => seqOf V (ix3 i s h) + Ideal.ofBits .f32 0x3DCCCCCD#32 * y) (decoded_noisy V hz i h))

end Cert.ReferenceIdeal.Hand
-- ==== Proof.Equal.lean ====
module

public import proofs.«01_k».proof.Proof.KI.Result
public import proofs.«01_k».proof.Proof.Ref.Whole

@[expose] public section

noncomputable section

namespace Cert.Proof

open Idealize.ShloMosaic Idealize.ShloMosaic.ValueIdx Idealize.ShloMosaic.StableHlo Idealize.ShloMosaic.TcCoe

/-! # The two programs' results are one array -/

variable (m : (ℓ : Loc Cert.KernelIdeal.nD Cert.KernelIdeal.τ Cert.KernelIdeal.sig) → Buf (Elt Ideal) ℓ) (c : Dev Cert.KernelIdeal.nD)
  (V : Valuation Cert.ReferenceIdeal.τ Cert.ReferenceIdeal.sig (Elt Ideal))

/-- The kernel's result, and the reference's. -/
def outK : Math.Arr3 8 4096 2048 := Cert.KernelIdeal.Hand.W5 m c Cert.KernelIdeal.main_v12
def outR : Math.Arr3 8 4096 2048 := after (Cert.ReferenceIdeal.Hand.stages (F := Ideal)).flatten V Cert.ReferenceIdeal.main_v114

/-- The reference's noisy logits are real when the draws lie between zero and one and the weights just before them are real. -/
theorem noisy_real (hU : ∀ p, 0 < Cert.ReferenceIdeal.Hand.drawsOf V p ∧ Cert.ReferenceIdeal.Hand.drawsOf V p < 1)
    (hg : ∀ p, Math.Real' ((Cert.ReferenceIdeal.Hand.netOf V).g1 p)) (ho : ∀ p, Math.Real' ((Cert.ReferenceIdeal.Hand.netOf V).o1 p))
    (hw : ∀ p, Math.Real' ((Cert.ReferenceIdeal.Hand.netOf V).w2 p)) (hb : ∀ p, Math.Real' ((Cert.ReferenceIdeal.Hand.netOf V).b2 p))
    (i : Fin 8) (j : Fin 256) : Math.Real' (Cert.ReferenceIdeal.Hand.noisy V i j) :=
  Math.Net.encode_real _ _ _ (fun _ => hU _) hg ho hw hb j

/-- From the same sequence, draws and weights, the results are equal. -/
theorem out_eq (hX : Cert.ReferenceIdeal.Hand.seqOf V = Cert.KernelIdeal.Hand.seqIn m c)
    (hD : Cert.ReferenceIdeal.Hand.drawsOf V = Cert.KernelIdeal.Hand.drawsIn m c)
    (hN : Cert.ReferenceIdeal.Hand.netOf V = Cert.KernelIdeal.Hand.netIn m c)
    (hz : ∀ i j, Math.Real' (Cert.ReferenceIdeal.Hand.noisy V i j)) : outR V = outK m c := by
  funext p
  rw [eq_ix3 p]
  refine (Cert.ReferenceIdeal.Hand.result V hz (p 0) (p 1) (p 2)).trans (Eq.trans ?_ (Cert.KernelIdeal.Hand.result m c (p 0) (p 1) (p 2)).symm)
  unfold Cert.ReferenceIdeal.Hand.noisy
  rw [hX, hD, hN, mul_comm (Ideal.ofBits .f32 0x3DCCCCCD#32)]
  rfl

end Cert.Proof
-- ==== Proof.Tame.lean ====
module

public import proofs.«01_k».proof.Pre_tame
public import proofs.«01_k».proof.Proof.Math.Net
public import Idealize.ShloMosaic.Lib.ValueIdx

@[expose] public section

noncomputable section

namespace Cert.Proof

open Idealize.ShloMosaic Idealize.ShloMosaic.ValueIdx Cert.Pre_tame

/-! # What the precondition says of the arguments -/

/-- The shapes its constants are broadcast to. -/
theorem tame_facts : Cert.Pre_tame.Facts := ⟨by decide, by decide, by decide⟩

/-- What the two comparisons say when they answer one. -/
theorem lt_of_olt {a b : EReal} (h : Ideal.cmp .olt a b = 1#1) : a < b := by
  by_contra hn
  simp [Ideal.cmp, hn] at h
theorem gt_of_ogt {a b : EReal} (h : Ideal.cmp .ogt a b = 1#1) : b < a := by
  by_contra hn
  simp [Ideal.cmp, hn] at h

/-- A value whose absolute value is below infinity is a real number. -/
theorem real_of_abs {x : EReal} (h : max x (-x) < ⊤) : Math.Real' x :=
  .of_ne (fun e => by simp [e] at h) (fun e => by simp [e] at h)

/-- An array whose absolute values compare below infinity holds real numbers. -/
theorem finite_real {S : Shape} (x : FVec Ideal S .f32) (hb : S_.BroadcastsInDim S (![] : Fin 0 → Fin S.rank))
    (h : cmpf .olt (Host.absf x) (broadcastInDim S ![] hb (constant S_ .f32 0x7F800000#32)) = fun _ => 1#1) (p : S.Idx) : Math.Real' (x p) := by
  have e := congrFun h p
  replace e := lt_of_olt e
  have t : (broadcastInDim S ![] hb (constant (F := Ideal) S_ .f32 0x7F800000#32)) p = (⊤ : EReal) := Math.ofBits_top
  rw [t] at e
  exact real_of_abs e

/-- A draw that compares above zero and below one is. -/
theorem noise_between (u : FVec Ideal S8x8x32 .f32) (hb : S_.BroadcastsInDim S8x8x32 (![] : Fin 0 → Fin S8x8x32.rank))
    (h : andi (cmpf .ogt u (broadcastInDim S8x8x32 ![] hb (constant S_ .f32 0x00000000#32)))
      (cmpf .olt u (broadcastInDim S8x8x32 ![] hb (constant S_ .f32 0x3F800000#32))) = fun _ => 1#1) (p : S8x8x32.Idx) : 0 < u p ∧ u p < 1 := by
  have e := congrFun h p
  have and_one : ∀ a b : BitVec 1, IntOp.andi a b = 1#1 → a = 1#1 ∧ b = 1#1 := by decide
  obtain ⟨e0, e1⟩ := and_one _ _ e
  replace e0 := gt_of_ogt e0
  replace e1 := lt_of_olt e1
  have t0 : (broadcastInDim S8x8x32 ![] hb (constant (F := Ideal) S_ .f32 0x00000000#32)) p = (0 : EReal) := Ideal.ofBits_zero_f32
  have t1 : (broadcastInDim S8x8x32 ![] hb (constant (F := Ideal) S_ .f32 0x3F800000#32)) p = (1 : EReal) := Ideal.ofBits_one_f32
  rw [t0] at e0
  rw [t1] at e1
  exact ⟨e0, e1⟩

section
variable [Cert.Pre_tame.Facts] (a0 : FVec Ideal S8x4096x2048 .f32) (a1 : FVec Ideal S8x8x32 .f32) (a2 : FVec Ideal S256x2048 .f32) (a3 a4 a5 : FVec Ideal S256 .f32)
  (a6 : FVec Ideal S256x256 .f32) (a7 : FVec Ideal S256 .f32) (a8 : FVec Ideal S32x64 .f32) (a9 : FVec Ideal S256x512 .f32) (a10 a11 a12 : FVec Ideal S256 .f32)
  (a13 : FVec Ideal S2048x256 .f32) (a14 : FVec Ideal S2048 .f32)

/-- Under the precondition the draws lie strictly between zero and one, and the first layer norm's and the second encoder layer's weights are real. -/
theorem tame_says
    (h0 : (fn (F := Ideal) a0 a1 a2 a3 a4 a5 a6 a7 a8 a9 a10 a11 a12 a13 a14).1 = fun _ => 1#1)
    (h1 : (fn (F := Ideal) a0 a1 a2 a3 a4 a5 a6 a7 a8 a9 a10 a11 a12 a13 a14).2.1 = fun _ => 1#1)
    (h2 : (fn (F := Ideal) a0 a1 a2 a3 a4 a5 a6 a7 a8 a9 a10 a11 a12 a13 a14).2.2.1 = fun _ => 1#1)
    (h3 : (fn (F := Ideal) a0 a1 a2 a3 a4 a5 a6 a7 a8 a9 a10 a11 a12 a13 a14).2.2.2.1 = fun _ => 1#1)
    (h4 : (fn (F := Ideal) a0 a1 a2 a3 a4 a5 a6 a7 a8 a9 a10 a11 a12 a13 a14).2.2.2.2 = fun _ => 1#1) :
    (∀ p, 0 < a1 p ∧ a1 p < 1) ∧ (∀ p, Math.Real' (a4 p)) ∧ (∀ p, Math.Real' (a5 p)) ∧ (∀ p, Math.Real' (a6 p)) ∧ ∀ p, Math.Real' (a7 p) :=
  ⟨noise_between a1 _ h0, finite_real a4 _ h1, finite_real a5 _ h2, finite_real a6 _ h3, finite_real a7 _ h4⟩

end

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import Idealize.ShloMosaic.Adequacy
public import Idealize.ShloMosaic.Init
public import Idealize.ShloMosaic.Lib.StableHlo.RunHlo
public import proofs.«01_k».proof.Proof.Same
public import proofs.«01_k».proof.Proof.Ref.Run
public import proofs.«01_k».proof.Proof.Equal
public import proofs.«01_k».proof.Proof.Tame

@[expose] public section

noncomputable section

namespace Cert.Proof

open Idealize.ShloMosaic Idealize.SL.Sem Cert.Kernel

/-- The kernel as printed runs, leaves its arguments and ends quiet. -/
theorem kernel_frame : Cert.quiescent_Kernel (hKernel := Cert.Kernel.Gen.facts) := fun m g _ =>
  θ_run_mono (kept_printed Bits m g) fun r h => ⟨fun c => by
    have k := h.1 c
    refine ⟨?_, ?_, ?_, ?_, ?_, ?_, ?_, ?_, ?_, ?_, ?_, ?_, ?_, ?_, ?_⟩ <;> exact k _ (by simp [argsPrinted]), h.2⟩

/-- So does the kernel read at the extended reals. -/
theorem ideal_frame : Cert.quiescent_KernelIdeal (hKernelIdeal := Cert.KernelIdeal.Gen.facts) := fun m g _ =>
  θ_run_mono (kept_ideal Ideal m g) fun r h => ⟨fun c => by
    have k := h.1 c
    refine ⟨?_, ?_, ?_, ?_, ?_, ?_, ?_, ?_, ?_, ?_, ?_, ?_, ?_, ?_, ?_⟩ <;> exact k _ (by simp [argsIdeal]), h.2⟩

/-- And so does the reference. -/
theorem reference_frame : Cert.quiescent_ReferenceIdeal (hReferenceIdeal := Cert.ReferenceIdeal.Gen.facts) := fun m g _ =>
  θ_run_mono (Cert.ReferenceIdeal.Hand.kept m g) fun r h => ⟨fun c => by
    have k := h.1 c
    refine ⟨?_, ?_, ?_, ?_, ?_, ?_, ?_, ?_, ?_, ?_, ?_, ?_, ?_, ?_, ?_⟩ <;> exact k _ (by simp [Cert.ReferenceIdeal.Hand.args]), h.2⟩

/-- The two frames that stand under the precondition do not use it. -/
theorem ideal_frame_tame : Cert.quiescent_KernelIdeal_pre_tame (hKernelIdeal := Cert.KernelIdeal.Gen.facts) (hPre_tame := tame_facts) :=
  fun m g _ => ideal_frame m g trivial
theorem reference_frame_tame : Cert.quiescent_ReferenceIdeal_pre_tame (hReferenceIdeal := Cert.ReferenceIdeal.Gen.facts) (hPre_tame := tame_facts) :=
  fun m g _ => reference_frame m g trivial

/-- From one set of arguments within the precondition, the reference's result on a core is the kernel's. -/
theorem results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hp : Cert.Pre_KernelIdeal_tame (hPre_tame := tame_facts) m)
    (c : Dev Cert.KernelIdeal.nD)
    (hX : Cert.ReferenceIdeal.Hand.seqOf (StableHlo.launchContents m' c) = Cert.KernelIdeal.Hand.seqIn m c)
    (hD : Cert.ReferenceIdeal.Hand.drawsOf (StableHlo.launchContents m' c) = Cert.KernelIdeal.Hand.drawsIn m c)
    (hN : Cert.ReferenceIdeal.Hand.netOf (StableHlo.launchContents m' c) = Cert.KernelIdeal.Hand.netIn m c) :
    outR (StableHlo.launchContents m' c) = outK m c := by
  obtain ⟨h0, h1, h2, h3, h4⟩ := hp c
  obtain ⟨hu, hg, ho, hw, hb⟩ := @tame_says tame_facts _ _ _ _ _ _ _ _ _ _ _ _ _ _ _ h0 h1 h2 h3 h4
  refine out_eq m c _ hX hD hN (noisy_real _ ?_ ?_ ?_ ?_ ?_)
  · rw [hD]; exact hu
  · rw [hN]; exact hg
  · rw [hN]; exact ho
  · rw [hN]; exact hw
  · rw [hN]; exact hb

/-- Within the precondition the kernel and the reference compute one result from the same arguments, over the extended reals. -/
theorem same_results : Cert.algebraic_KernelIdeal_ReferenceIdeal_pre_tame (hKernelIdeal := Cert.KernelIdeal.Gen.facts) (hReferenceIdeal := Cert.ReferenceIdeal.Gen.facts)
    (hPre_tame := tame_facts) := fun m g m' g' hp ha => by
  refine ⟨fun c => outK m c, θ_run_mono (Cert.KernelIdeal.Hand.run m g) fun r h c => ?_, θ_run_mono (Cert.ReferenceIdeal.Hand.run m' g') fun r h c => ?_⟩
  · have k : ∀ b ∈ argsIdeal, r.2.mem ((c.tc : Thread Cert.KernelIdeal.nD Cert.KernelIdeal.τ).loc b) = m ((c.tc : Thread Cert.KernelIdeal.nD Cert.KernelIdeal.τ).loc b) := fun b hb => by
      obtain ⟨hs, h0, h1, h2, h3, h4⟩ := args_unwritten b hb
      exact (h.1 c b hs).trans (Cert.KernelIdeal.Hand.W5_kept m c b h0 h1 h2 h3 h4)
    refine ⟨h.1 c _ (by decide), ?_, ?_, ?_, ?_, ?_, ?_, ?_, ?_, ?_, ?_, ?_, ?_, ?_, ?_, ?_⟩ <;> exact k _ (by simp [argsIdeal])
  · have k : ∀ b ∈ Cert.ReferenceIdeal.Hand.args, r.2.mem ((c.tc : Thread Cert.ReferenceIdeal.nD Cert.ReferenceIdeal.τ).loc b)
        = m' ((c.tc : Thread Cert.ReferenceIdeal.nD Cert.ReferenceIdeal.τ).loc b) := fun b hb =>
      (h.1 c b).trans (Cert.ReferenceIdeal.Hand.all_keeps _ b (Cert.ReferenceIdeal.Hand.args_not_written b hb))
    obtain ⟨e0, e1, e2, e3, e4, e5, e6, e7, e8, e9, e10, e11, e12, e13, e14⟩ := ha c
    have hN : Cert.ReferenceIdeal.Hand.netOf (StableHlo.launchContents m' c) = Cert.KernelIdeal.Hand.netIn m c := by
      exact Cert.Math.Net.mk.injEq .. |>.mpr ⟨e2, e3, e4, e5, e6, e7, e8, e9, e10, e11, e12, e13, e14⟩
    refine ⟨(h.1 c _).trans (results m m' hp c e0 e1 hN), ?_, ?_, ?_, ?_, ?_, ?_, ?_, ?_, ?_, ?_, ?_, ?_, ?_, ?_, ?_⟩ <;> exact k _ (by simp [Cert.ReferenceIdeal.Hand.args])

/-- What is claimed holds. -/
theorem claim : Cert.Claim := ⟨Cert.Kernel.Gen.facts, Cert.KernelIdeal.Gen.facts, Cert.ReferenceIdeal.Gen.facts, tame_facts,
  kernel_frame, ideal_frame, ideal_frame_tame, reference_frame, reference_frame_tame, trivial, same_results⟩

end Cert.Proof

end
